-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v374)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v374) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v544) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64 : Shape := ⟨2, ![2, 64]⟩
abbrev S64 : Shape := ⟨1, ![64]⟩
abbrev S64x1 : Shape := ⟨2, ![64, 1]⟩
abbrev S1 : Shape := ⟨1, ![1]⟩
abbrev S129 : Shape := ⟨1, ![129]⟩
abbrev S_ : Shape := ⟨0, ![]⟩
abbrev S1x129 : Shape := ⟨2, ![1, 129]⟩
abbrev S129x129 : Shape := ⟨2, ![129, 129]⟩
abbrev S16641 : Shape := ⟨1, ![16641]⟩
abbrev S16641x1 : Shape := ⟨2, ![16641, 1]⟩
abbrev S16641x2 : Shape := ⟨2, ![16641, 2]⟩
abbrev S18432x2 : Shape := ⟨2, ![18432, 2]⟩
abbrev S1x64 : Shape := ⟨2, ![1, 64]⟩
abbrev S1x1 : Shape := ⟨2, ![1, 1]⟩
abbrev S18432 : Shape := ⟨1, ![18432]⟩
abbrev S2048x2 : Shape := ⟨2, ![2048, 2]⟩
abbrev S2048 : Shape := ⟨1, ![2048]⟩
abbrev S2048x1 : Shape := ⟨2, ![2048, 1]⟩
abbrev S2048x64 : Shape := ⟨2, ![2048, 64]⟩
abbrev S256 : Shape := ⟨1, ![256]⟩
abbrev S257 : Shape := ⟨1, ![257]⟩
abbrev S257x1 : Shape := ⟨2, ![257, 1]⟩
abbrev S1x257 : Shape := ⟨2, ![1, 257]⟩
abbrev S257x129 : Shape := ⟨2, ![257, 129]⟩
abbrev S257x257 : Shape := ⟨2, ![257, 257]⟩
abbrev S66049 : Shape := ⟨1, ![66049]⟩
abbrev S16384 : Shape := ⟨1, ![16384]⟩
abbrev S16384x1 : Shape := ⟨2, ![16384, 1]⟩
abbrev S16384x2 : Shape := ⟨2, ![16384, 2]⟩
abbrev S512 : Shape := ⟨1, ![512]⟩
abbrev S513 : Shape := ⟨1, ![513]⟩
abbrev S513x1 : Shape := ⟨2, ![513, 1]⟩
abbrev S1x513 : Shape := ⟨2, ![1, 513]⟩
abbrev S513x257 : Shape := ⟨2, ![513, 257]⟩
abbrev S513x513 : Shape := ⟨2, ![513, 513]⟩
abbrev S263169 : Shape := ⟨1, ![263169]⟩
abbrev S32768 : Shape := ⟨1, ![32768]⟩
abbrev S32768x1 : Shape := ⟨2, ![32768, 1]⟩
abbrev S32768x2 : Shape := ⟨2, ![32768, 2]⟩
abbrev S1024 : Shape := ⟨1, ![1024]⟩
abbrev S1025 : Shape := ⟨1, ![1025]⟩
abbrev S1025x1 : Shape := ⟨2, ![1025, 1]⟩
abbrev S1x1025 : Shape := ⟨2, ![1, 1025]⟩
abbrev S1025x513 : Shape := ⟨2, ![1025, 513]⟩
abbrev S1025x1025 : Shape := ⟨2, ![1025, 1025]⟩
abbrev S1050625 : Shape := ⟨1, ![1050625]⟩
abbrev S65536 : Shape := ⟨1, ![65536]⟩
abbrev S65536x1 : Shape := ⟨2, ![65536, 1]⟩
abbrev S65536x2 : Shape := ⟨2, ![65536, 2]⟩
abbrev S2049 : Shape := ⟨1, ![2049]⟩
abbrev S2049x1 : Shape := ⟨2, ![2049, 1]⟩
abbrev S1x2049 : Shape := ⟨2, ![1, 2049]⟩
abbrev S2049x1025 : Shape := ⟨2, ![2049, 1025]⟩
abbrev S2049x2049 : Shape := ⟨2, ![2049, 2049]⟩
abbrev S4198401 : Shape := ⟨1, ![4198401]⟩
abbrev S131072 : Shape := ⟨1, ![131072]⟩
abbrev S131072x1 : Shape := ⟨2, ![131072, 1]⟩
abbrev S131072x2 : Shape := ⟨2, ![131072, 2]⟩
abbrev S1x1x2049x2049 : Shape := ⟨4, ![1, 1, 2049, 2049]⟩

abbrev nBuf : Space → Nat
  | .hbm => 850
  | .vmem => 40
  | .smem => 0
  | _ => 0

abbrev hbmTy0_0 (i : Nat) : BufTy := match i % 128 with
  | 0 => ⟨S2x64, .f32⟩
  | 1 => ⟨S64, .f32⟩
  | 2 => ⟨S64x1, .f32⟩
  | 3 => ⟨S1, .f32⟩
  | 4 => ⟨S129, .f32⟩
  | 5 => ⟨S_, .f32⟩
  | 6 => ⟨S129, .f32⟩
  | 7 => ⟨S129, .f32⟩
  | 8 => ⟨S1x129, .f32⟩
  | 9 => ⟨S129x129, .f32⟩
  | 10 => ⟨S16641, .f32⟩
  | 11 => ⟨S129x129, .f32⟩
  | 12 => ⟨S16641, .f32⟩
  | 13 => ⟨S16641x1, .f32⟩
  | 14 => ⟨S16641x1, .f32⟩
  | 15 => ⟨S16641x2, .f32⟩
  | 16 => ⟨S_, .i32⟩
  | 17 => ⟨S_, .f32⟩
  | 18 => ⟨S18432x2, .f32⟩
  | 19 => ⟨S1x64, .f32⟩
  | 20 => ⟨S1x64, .f32⟩
  | 21 => ⟨S1x1, .f32⟩
  | 22 => ⟨S18432, .f32⟩
  | 23 => ⟨S16641, .f32⟩
  | 24 => ⟨S129x129, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S256, .f32⟩
  | 33 => ⟨S_, .f32⟩
  | 34 => ⟨S256, .f32⟩
  | 35 => ⟨S256, .f32⟩
  | 36 => ⟨S1, .f32⟩
  | 37 => ⟨S_, .f32⟩
  | 38 => ⟨S256, .f32⟩
  | 39 => ⟨S256, .f32⟩
  | 40 => ⟨S256, .f32⟩
  | 41 => ⟨S256, .f32⟩
  | 42 => ⟨S1, .f32⟩
  | 43 => ⟨S256, .f32⟩
  | 44 => ⟨S256, .f32⟩
  | 45 => ⟨S256, .f32⟩
  | 46 => ⟨S1, .f32⟩
  | 47 => ⟨S257, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S256, .f32⟩
  | 56 => ⟨S_, .f32⟩
  | 57 => ⟨S256, .f32⟩
  | 58 => ⟨S256, .f32⟩
  | 59 => ⟨S1, .f32⟩
  | 60 => ⟨S_, .f32⟩
  | 61 => ⟨S256, .f32⟩
  | 62 => ⟨S256, .f32⟩
  | 63 => ⟨S256, .f32⟩
  | 64 => ⟨S256, .f32⟩
  | 65 => ⟨S1, .f32⟩
  | 66 => ⟨S256, .f32⟩
  | 67 => ⟨S256, .f32⟩
  | 68 => ⟨S256, .f32⟩
  | 69 => ⟨S1, .f32⟩
  | 70 => ⟨S257, .f32⟩
  | 71 => ⟨S257, .f32⟩
  | 72 => ⟨S257, .i32⟩
  | 73 => ⟨S257, .f32⟩
  | 74 => ⟨S257, .i32⟩
  | 75 => ⟨S_, .i32⟩
  | 76 => ⟨S257, .i32⟩
  | 77 => ⟨S257, .i32⟩
  | 78 => ⟨S_, .i32⟩
  | 79 => ⟨S_, .i32⟩
  | 80 => ⟨S_, .i32⟩
  | 81 => ⟨S257, .i32⟩
  | 82 => ⟨S257, .i32⟩
  | 83 => ⟨S_, .i32⟩
  | 84 => ⟨S257, .i32⟩
  | 85 => ⟨S257, .i32⟩
  | 86 => ⟨S_, .i32⟩
  | 87 => ⟨S257, .i32⟩
  | 88 => ⟨S257, .i32⟩
  | 89 => ⟨S_, .i32⟩
  | 90 => ⟨S_, .i32⟩
  | 91 => ⟨S_, .i32⟩
  | 92 => ⟨S257, .i32⟩
  | 93 => ⟨S257, .i32⟩
  | 94 => ⟨S_, .i32⟩
  | 95 => ⟨S257, .i32⟩
  | 96 => ⟨S257, .i32⟩
  | 97 => ⟨S257, .f32⟩
  | 98 => ⟨S257, .f32⟩
  | 99 => ⟨S257x1, .f32⟩
  | 100 => ⟨S257, .f32⟩
  | 101 => ⟨S257, .f32⟩
  | 102 => ⟨S1x257, .f32⟩
  | 103 => ⟨S_, .i32⟩
  | 104 => ⟨S257, .i32⟩
  | 105 => ⟨S257, .i1⟩
  | 106 => ⟨S_, .i32⟩
  | 107 => ⟨S257, .i32⟩
  | 108 => ⟨S257, .i32⟩
  | 109 => ⟨S257, .i32⟩
  | 110 => ⟨S257x1, .i32⟩
  | 111 => ⟨S257x129, .f32⟩
  | 112 => ⟨S_, .i32⟩
  | 113 => ⟨S257, .i32⟩
  | 114 => ⟨S257, .i1⟩
  | 115 => ⟨S_, .i32⟩
  | 116 => ⟨S257, .i32⟩
  | 117 => ⟨S257, .i32⟩
  | 118 => ⟨S257, .i32⟩
  | 119 => ⟨S257x1, .i32⟩
  | 120 => ⟨S257x129, .f32⟩
  | 121 => ⟨S_, .f32⟩
  | 122 => ⟨S257x1, .f32⟩
  | 123 => ⟨S257x1, .f32⟩
  | 124 => ⟨S257x129, .f32⟩
  | 125 => ⟨S257x129, .f32⟩
  | 126 => ⟨S257x129, .f32⟩
  | 127 => ⟨S257x129, .f32⟩
  | _ => ⟨S2x64, .f32⟩

abbrev hbmTy0_1 (i : Nat) : BufTy := match i % 128 with
  | 0 => ⟨S257x129, .f32⟩
  | 1 => ⟨S_, .i32⟩
  | 2 => ⟨S257, .i32⟩
  | 3 => ⟨S257, .i1⟩
  | 4 => ⟨S_, .i32⟩
  | 5 => ⟨S257, .i32⟩
  | 6 => ⟨S257, .i32⟩
  | 7 => ⟨S257, .i32⟩
  | 8 => ⟨S257x1, .i32⟩
  | 9 => ⟨S257x257, .f32⟩
  | 10 => ⟨S_, .i32⟩
  | 11 => ⟨S257, .i32⟩
  | 12 => ⟨S257, .i1⟩
  | 13 => ⟨S_, .i32⟩
  | 14 => ⟨S257, .i32⟩
  | 15 => ⟨S257, .i32⟩
  | 16 => ⟨S257, .i32⟩
  | 17 => ⟨S257x1, .i32⟩
  | 18 => ⟨S257x257, .f32⟩
  | 19 => ⟨S_, .f32⟩
  | 20 => ⟨S1x257, .f32⟩
  | 21 => ⟨S1x257, .f32⟩
  | 22 => ⟨S257x257, .f32⟩
  | 23 => ⟨S257x257, .f32⟩
  | 24 => ⟨S257x257, .f32⟩
  | 25 => ⟨S257x257, .f32⟩
  | 26 => ⟨S257x257, .f32⟩
  | 27 => ⟨S66049, .f32⟩
  | 28 => ⟨S_, .f32⟩
  | 29 => ⟨S66049, .f32⟩
  | 30 => ⟨S66049, .f32⟩
  | 31 => ⟨S66049, .f32⟩
  | 32 => ⟨S66049, .f32⟩
  | 33 => ⟨S16384, .f32⟩
  | 34 => ⟨S16384, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i1⟩
  | 49 => ⟨S_, .i32⟩
  | 50 => ⟨S_, .i1⟩
  | 51 => ⟨S16384, .i1⟩
  | 52 => ⟨S16384, .i1⟩
  | 53 => ⟨S16384, .i1⟩
  | 54 => ⟨S16384, .i32⟩
  | 55 => ⟨S16384, .i32⟩
  | 56 => ⟨S16384, .i32⟩
  | 57 => ⟨S16384, .f32⟩
  | 58 => ⟨S_, .f32⟩
  | 59 => ⟨S16384, .f32⟩
  | 60 => ⟨S16384, .f32⟩
  | 61 => ⟨S_, .i32⟩
  | 62 => ⟨S_, .i32⟩
  | 63 => ⟨S16384, .i32⟩
  | 64 => ⟨S16384, .i32⟩
  | 65 => ⟨S16384, .i32⟩
  | 66 => ⟨S_, .i32⟩
  | 67 => ⟨S16384, .i32⟩
  | 68 => ⟨S16384, .i1⟩
  | 69 => ⟨S16384, .i32⟩
  | 70 => ⟨S16384, .i32⟩
  | 71 => ⟨S_, .i32⟩
  | 72 => ⟨S16384, .i32⟩
  | 73 => ⟨S16384, .i1⟩
  | 74 => ⟨S16384, .i1⟩
  | 75 => ⟨S_, .i32⟩
  | 76 => ⟨S16384, .i32⟩
  | 77 => ⟨S16384, .i32⟩
  | 78 => ⟨S16384, .i32⟩
  | 79 => ⟨S16384, .f32⟩
  | 80 => ⟨S_, .f32⟩
  | 81 => ⟨S16384, .f32⟩
  | 82 => ⟨S16384, .f32⟩
  | 83 => ⟨S16384x1, .f32⟩
  | 84 => ⟨S16384x1, .f32⟩
  | 85 => ⟨S16384x2, .f32⟩
  | 86 => ⟨S_, .i32⟩
  | 87 => ⟨S_, .f32⟩
  | 88 => ⟨S16384x2, .f32⟩
  | 89 => ⟨S1x64, .f32⟩
  | 90 => ⟨S1x64, .f32⟩
  | 91 => ⟨S1x1, .f32⟩
  | 92 => ⟨S16384, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S16384x1, .i32⟩
  | 101 => ⟨S66049, .f32⟩
  | 102 => ⟨S257x257, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S512, .f32⟩
  | 111 => ⟨S_, .f32⟩
  | 112 => ⟨S512, .f32⟩
  | 113 => ⟨S512, .f32⟩
  | 114 => ⟨S1, .f32⟩
  | 115 => ⟨S_, .f32⟩
  | 116 => ⟨S512, .f32⟩
  | 117 => ⟨S512, .f32⟩
  | 118 => ⟨S512, .f32⟩
  | 119 => ⟨S512, .f32⟩
  | 120 => ⟨S1, .f32⟩
  | 121 => ⟨S512, .f32⟩
  | 122 => ⟨S512, .f32⟩
  | 123 => ⟨S512, .f32⟩
  | 124 => ⟨S1, .f32⟩
  | 125 => ⟨S513, .f32⟩
  | 126 => ⟨S_, .f32⟩
  | 127 => ⟨S_, .f32⟩
  | _ => ⟨S2x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S512, .f32⟩
  | 6 => ⟨S_, .f32⟩
  | 7 => ⟨S512, .f32⟩
  | 8 => ⟨S512, .f32⟩
  | 9 => ⟨S1, .f32⟩
  | 10 => ⟨S_, .f32⟩
  | 11 => ⟨S512, .f32⟩
  | 12 => ⟨S512, .f32⟩
  | 13 => ⟨S512, .f32⟩
  | 14 => ⟨S512, .f32⟩
  | 15 => ⟨S1, .f32⟩
  | 16 => ⟨S512, .f32⟩
  | 17 => ⟨S512, .f32⟩
  | 18 => ⟨S512, .f32⟩
  | 19 => ⟨S1, .f32⟩
  | 20 => ⟨S513, .f32⟩
  | 21 => ⟨S513, .f32⟩
  | 22 => ⟨S513, .i32⟩
  | 23 => ⟨S513, .f32⟩
  | 24 => ⟨S513, .i32⟩
  | 25 => ⟨S_, .i32⟩
  | 26 => ⟨S513, .i32⟩
  | 27 => ⟨S513, .i32⟩
  | 28 => ⟨S_, .i32⟩
  | 29 => ⟨S_, .i32⟩
  | 30 => ⟨S_, .i32⟩
  | 31 => ⟨S513, .i32⟩
  | 32 => ⟨S513, .i32⟩
  | 33 => ⟨S_, .i32⟩
  | 34 => ⟨S513, .i32⟩
  | 35 => ⟨S513, .i32⟩
  | 36 => ⟨S_, .i32⟩
  | 37 => ⟨S513, .i32⟩
  | 38 => ⟨S513, .i32⟩
  | 39 => ⟨S_, .i32⟩
  | 40 => ⟨S_, .i32⟩
  | 41 => ⟨S_, .i32⟩
  | 42 => ⟨S513, .i32⟩
  | 43 => ⟨S513, .i32⟩
  | 44 => ⟨S_, .i32⟩
  | 45 => ⟨S513, .i32⟩
  | 46 => ⟨S513, .i32⟩
  | 47 => ⟨S513, .f32⟩
  | 48 => ⟨S513, .f32⟩
  | 49 => ⟨S513x1, .f32⟩
  | 50 => ⟨S513, .f32⟩
  | 51 => ⟨S513, .f32⟩
  | 52 => ⟨S1x513, .f32⟩
  | 53 => ⟨S_, .i32⟩
  | 54 => ⟨S513, .i32⟩
  | 55 => ⟨S513, .i1⟩
  | 56 => ⟨S_, .i32⟩
  | 57 => ⟨S513, .i32⟩
  | 58 => ⟨S513, .i32⟩
  | 59 => ⟨S513, .i32⟩
  | 60 => ⟨S513x1, .i32⟩
  | 61 => ⟨S513x257, .f32⟩
  | 62 => ⟨S_, .i32⟩
  | 63 => ⟨S513, .i32⟩
  | 64 => ⟨S513, .i1⟩
  | 65 => ⟨S_, .i32⟩
  | 66 => ⟨S513, .i32⟩
  | 67 => ⟨S513, .i32⟩
  | 68 => ⟨S513, .i32⟩
  | 69 => ⟨S513x1, .i32⟩
  | 70 => ⟨S513x257, .f32⟩
  | 71 => ⟨S_, .f32⟩
  | 72 => ⟨S513x1, .f32⟩
  | 73 => ⟨S513x1, .f32⟩
  | 74 => ⟨S513x257, .f32⟩
  | 75 => ⟨S513x257, .f32⟩
  | 76 => ⟨S513x257, .f32⟩
  | 77 => ⟨S513x257, .f32⟩
  | 78 => ⟨S513x257, .f32⟩
  | 79 => ⟨S_, .i32⟩
  | 80 => ⟨S513, .i32⟩
  | 81 => ⟨S513, .i1⟩
  | 82 => ⟨S_, .i32⟩
  | 83 => ⟨S513, .i32⟩
  | 84 => ⟨S513, .i32⟩
  | 85 => ⟨S513, .i32⟩
  | 86 => ⟨S513x1, .i32⟩
  | 87 => ⟨S513x513, .f32⟩
  | 88 => ⟨S_, .i32⟩
  | 89 => ⟨S513, .i32⟩
  | 90 => ⟨S513, .i1⟩
  | 91 => ⟨S_, .i32⟩
  | 92 => ⟨S513, .i32⟩
  | 93 => ⟨S513, .i32⟩
  | 94 => ⟨S513, .i32⟩
  | 95 => ⟨S513x1, .i32⟩
  | 96 => ⟨S513x513, .f32⟩
  | 97 => ⟨S_, .f32⟩
  | 98 => ⟨S1x513, .f32⟩
  | 99 => ⟨S1x513, .f32⟩
  | 100 => ⟨S513x513, .f32⟩
  | 101 => ⟨S513x513, .f32⟩
  | 102 => ⟨S513x513, .f32⟩
  | 103 => ⟨S513x513, .f32⟩
  | 104 => ⟨S513x513, .f32⟩
  | 105 => ⟨S263169, .f32⟩
  | 106 => ⟨S_, .f32⟩
  | 107 => ⟨S263169, .f32⟩
  | 108 => ⟨S263169, .f32⟩
  | 109 => ⟨S263169, .f32⟩
  | 110 => ⟨S263169, .f32⟩
  | 111 => ⟨S32768, .f32⟩
  | 112 => ⟨S32768, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S32768, .i32⟩
  | 120 => ⟨S32768, .i32⟩
  | 121 => ⟨S_, .i32⟩
  | 122 => ⟨S32768, .i32⟩
  | 123 => ⟨S32768, .i1⟩
  | 124 => ⟨S_, .i32⟩
  | 125 => ⟨S32768, .i32⟩
  | 126 => ⟨S32768, .i1⟩
  | 127 => ⟨S_, .i32⟩
  | _ => ⟨S2x64, .f32⟩

abbrev hbmTy0_3 (i : Nat) : BufTy := match i % 128 with
  | 0 => ⟨S_, .i1⟩
  | 1 => ⟨S32768, .i1⟩
  | 2 => ⟨S32768, .i1⟩
  | 3 => ⟨S32768, .i1⟩
  | 4 => ⟨S32768, .i32⟩
  | 5 => ⟨S32768, .i32⟩
  | 6 => ⟨S32768, .i32⟩
  | 7 => ⟨S32768, .f32⟩
  | 8 => ⟨S_, .f32⟩
  | 9 => ⟨S32768, .f32⟩
  | 10 => ⟨S32768, .f32⟩
  | 11 => ⟨S_, .i32⟩
  | 12 => ⟨S_, .i32⟩
  | 13 => ⟨S32768, .i32⟩
  | 14 => ⟨S32768, .i32⟩
  | 15 => ⟨S32768, .i32⟩
  | 16 => ⟨S_, .i32⟩
  | 17 => ⟨S32768, .i32⟩
  | 18 => ⟨S32768, .i1⟩
  | 19 => ⟨S32768, .i32⟩
  | 20 => ⟨S32768, .i32⟩
  | 21 => ⟨S_, .i32⟩
  | 22 => ⟨S32768, .i32⟩
  | 23 => ⟨S32768, .i1⟩
  | 24 => ⟨S32768, .i1⟩
  | 25 => ⟨S_, .i32⟩
  | 26 => ⟨S32768, .i32⟩
  | 27 => ⟨S32768, .i32⟩
  | 28 => ⟨S32768, .i32⟩
  | 29 => ⟨S32768, .f32⟩
  | 30 => ⟨S_, .f32⟩
  | 31 => ⟨S32768, .f32⟩
  | 32 => ⟨S32768, .f32⟩
  | 33 => ⟨S32768x1, .f32⟩
  | 34 => ⟨S32768x1, .f32⟩
  | 35 => ⟨S32768x2, .f32⟩
  | 36 => ⟨S_, .i32⟩
  | 37 => ⟨S_, .f32⟩
  | 38 => ⟨S32768x2, .f32⟩
  | 39 => ⟨S1x64, .f32⟩
  | 40 => ⟨S1x64, .f32⟩
  | 41 => ⟨S1x1, .f32⟩
  | 42 => ⟨S32768, .f32⟩
  | 43 => ⟨S_, .i32⟩
  | 44 => ⟨S32768, .i32⟩
  | 45 => ⟨S32768, .i1⟩
  | 46 => ⟨S_, .i32⟩
  | 47 => ⟨S32768, .i32⟩
  | 48 => ⟨S32768, .i32⟩
  | 49 => ⟨S32768, .i32⟩
  | 50 => ⟨S32768x1, .i32⟩
  | 51 => ⟨S263169, .f32⟩
  | 52 => ⟨S513x513, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S1024, .f32⟩
  | 61 => ⟨S_, .f32⟩
  | 62 => ⟨S1024, .f32⟩
  | 63 => ⟨S1024, .f32⟩
  | 64 => ⟨S1, .f32⟩
  | 65 => ⟨S_, .f32⟩
  | 66 => ⟨S1024, .f32⟩
  | 67 => ⟨S1024, .f32⟩
  | 68 => ⟨S1024, .f32⟩
  | 69 => ⟨S1024, .f32⟩
  | 70 => ⟨S1, .f32⟩
  | 71 => ⟨S1024, .f32⟩
  | 72 => ⟨S1024, .f32⟩
  | 73 => ⟨S1024, .f32⟩
  | 74 => ⟨S1, .f32⟩
  | 75 => ⟨S1025, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1024, .f32⟩
  | 84 => ⟨S_, .f32⟩
  | 85 => ⟨S1024, .f32⟩
  | 86 => ⟨S1024, .f32⟩
  | 87 => ⟨S1, .f32⟩
  | 88 => ⟨S_, .f32⟩
  | 89 => ⟨S1024, .f32⟩
  | 90 => ⟨S1024, .f32⟩
  | 91 => ⟨S1024, .f32⟩
  | 92 => ⟨S1024, .f32⟩
  | 93 => ⟨S1, .f32⟩
  | 94 => ⟨S1024, .f32⟩
  | 95 => ⟨S1024, .f32⟩
  | 96 => ⟨S1024, .f32⟩
  | 97 => ⟨S1, .f32⟩
  | 98 => ⟨S1025, .f32⟩
  | 99 => ⟨S1025, .f32⟩
  | 100 => ⟨S1025, .i32⟩
  | 101 => ⟨S1025, .f32⟩
  | 102 => ⟨S1025, .i32⟩
  | 103 => ⟨S_, .i32⟩
  | 104 => ⟨S1025, .i32⟩
  | 105 => ⟨S1025, .i32⟩
  | 106 => ⟨S_, .i32⟩
  | 107 => ⟨S_, .i32⟩
  | 108 => ⟨S_, .i32⟩
  | 109 => ⟨S1025, .i32⟩
  | 110 => ⟨S1025, .i32⟩
  | 111 => ⟨S_, .i32⟩
  | 112 => ⟨S1025, .i32⟩
  | 113 => ⟨S1025, .i32⟩
  | 114 => ⟨S_, .i32⟩
  | 115 => ⟨S1025, .i32⟩
  | 116 => ⟨S1025, .i32⟩
  | 117 => ⟨S_, .i32⟩
  | 118 => ⟨S_, .i32⟩
  | 119 => ⟨S_, .i32⟩
  | 120 => ⟨S1025, .i32⟩
  | 121 => ⟨S1025, .i32⟩
  | 122 => ⟨S_, .i32⟩
  | 123 => ⟨S1025, .i32⟩
  | 124 => ⟨S1025, .i32⟩
  | 125 => ⟨S1025, .f32⟩
  | 126 => ⟨S1025, .f32⟩
  | 127 => ⟨S1025x1, .f32⟩
  | _ => ⟨S2x64, .f32⟩

abbrev hbmTy0_4 (i : Nat) : BufTy := match i % 128 with
  | 0 => ⟨S1025, .f32⟩
  | 1 => ⟨S1025, .f32⟩
  | 2 => ⟨S1x1025, .f32⟩
  | 3 => ⟨S_, .i32⟩
  | 4 => ⟨S1025, .i32⟩
  | 5 => ⟨S1025, .i1⟩
  | 6 => ⟨S_, .i32⟩
  | 7 => ⟨S1025, .i32⟩
  | 8 => ⟨S1025, .i32⟩
  | 9 => ⟨S1025, .i32⟩
  | 10 => ⟨S1025x1, .i32⟩
  | 11 => ⟨S1025x513, .f32⟩
  | 12 => ⟨S_, .i32⟩
  | 13 => ⟨S1025, .i32⟩
  | 14 => ⟨S1025, .i1⟩
  | 15 => ⟨S_, .i32⟩
  | 16 => ⟨S1025, .i32⟩
  | 17 => ⟨S1025, .i32⟩
  | 18 => ⟨S1025, .i32⟩
  | 19 => ⟨S1025x1, .i32⟩
  | 20 => ⟨S1025x513, .f32⟩
  | 21 => ⟨S_, .f32⟩
  | 22 => ⟨S1025x1, .f32⟩
  | 23 => ⟨S1025x1, .f32⟩
  | 24 => ⟨S1025x513, .f32⟩
  | 25 => ⟨S1025x513, .f32⟩
  | 26 => ⟨S1025x513, .f32⟩
  | 27 => ⟨S1025x513, .f32⟩
  | 28 => ⟨S1025x513, .f32⟩
  | 29 => ⟨S_, .i32⟩
  | 30 => ⟨S1025, .i32⟩
  | 31 => ⟨S1025, .i1⟩
  | 32 => ⟨S_, .i32⟩
  | 33 => ⟨S1025, .i32⟩
  | 34 => ⟨S1025, .i32⟩
  | 35 => ⟨S1025, .i32⟩
  | 36 => ⟨S1025x1, .i32⟩
  | 37 => ⟨S1025x1025, .f32⟩
  | 38 => ⟨S_, .i32⟩
  | 39 => ⟨S1025, .i32⟩
  | 40 => ⟨S1025, .i1⟩
  | 41 => ⟨S_, .i32⟩
  | 42 => ⟨S1025, .i32⟩
  | 43 => ⟨S1025, .i32⟩
  | 44 => ⟨S1025, .i32⟩
  | 45 => ⟨S1025x1, .i32⟩
  | 46 => ⟨S1025x1025, .f32⟩
  | 47 => ⟨S_, .f32⟩
  | 48 => ⟨S1x1025, .f32⟩
  | 49 => ⟨S1x1025, .f32⟩
  | 50 => ⟨S1025x1025, .f32⟩
  | 51 => ⟨S1025x1025, .f32⟩
  | 52 => ⟨S1025x1025, .f32⟩
  | 53 => ⟨S1025x1025, .f32⟩
  | 54 => ⟨S1025x1025, .f32⟩
  | 55 => ⟨S1050625, .f32⟩
  | 56 => ⟨S_, .f32⟩
  | 57 => ⟨S1050625, .f32⟩
  | 58 => ⟨S1050625, .f32⟩
  | 59 => ⟨S1050625, .f32⟩
  | 60 => ⟨S1050625, .f32⟩
  | 61 => ⟨S65536, .f32⟩
  | 62 => ⟨S65536, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S65536, .i32⟩
  | 70 => ⟨S65536, .i32⟩
  | 71 => ⟨S_, .i32⟩
  | 72 => ⟨S65536, .i32⟩
  | 73 => ⟨S65536, .i1⟩
  | 74 => ⟨S_, .i32⟩
  | 75 => ⟨S65536, .i32⟩
  | 76 => ⟨S65536, .i1⟩
  | 77 => ⟨S_, .i32⟩
  | 78 => ⟨S_, .i1⟩
  | 79 => ⟨S65536, .i1⟩
  | 80 => ⟨S65536, .i1⟩
  | 81 => ⟨S65536, .i1⟩
  | 82 => ⟨S65536, .i32⟩
  | 83 => ⟨S65536, .i32⟩
  | 84 => ⟨S65536, .i32⟩
  | 85 => ⟨S65536, .f32⟩
  | 86 => ⟨S_, .f32⟩
  | 87 => ⟨S65536, .f32⟩
  | 88 => ⟨S65536, .f32⟩
  | 89 => ⟨S_, .i32⟩
  | 90 => ⟨S_, .i32⟩
  | 91 => ⟨S65536, .i32⟩
  | 92 => ⟨S65536, .i32⟩
  | 93 => ⟨S65536, .i32⟩
  | 94 => ⟨S_, .i32⟩
  | 95 => ⟨S65536, .i32⟩
  | 96 => ⟨S65536, .i1⟩
  | 97 => ⟨S65536, .i32⟩
  | 98 => ⟨S65536, .i32⟩
  | 99 => ⟨S_, .i32⟩
  | 100 => ⟨S65536, .i32⟩
  | 101 => ⟨S65536, .i1⟩
  | 102 => ⟨S65536, .i1⟩
  | 103 => ⟨S_, .i32⟩
  | 104 => ⟨S65536, .i32⟩
  | 105 => ⟨S65536, .i32⟩
  | 106 => ⟨S65536, .i32⟩
  | 107 => ⟨S65536, .f32⟩
  | 108 => ⟨S_, .f32⟩
  | 109 => ⟨S65536, .f32⟩
  | 110 => ⟨S65536, .f32⟩
  | 111 => ⟨S65536x1, .f32⟩
  | 112 => ⟨S65536x1, .f32⟩
  | 113 => ⟨S65536x2, .f32⟩
  | 114 => ⟨S_, .i32⟩
  | 115 => ⟨S_, .f32⟩
  | 116 => ⟨S65536x2, .f32⟩
  | 117 => ⟨S1x64, .f32⟩
  | 118 => ⟨S1x64, .f32⟩
  | 119 => ⟨S1x1, .f32⟩
  | 120 => ⟨S65536, .f32⟩
  | 121 => ⟨S_, .i32⟩
  | 122 => ⟨S65536, .i32⟩
  | 123 => ⟨S65536, .i1⟩
  | 124 => ⟨S_, .i32⟩
  | 125 => ⟨S65536, .i32⟩
  | 126 => ⟨S65536, .i32⟩
  | 127 => ⟨S65536, .i32⟩
  | _ => ⟨S2x64, .f32⟩

abbrev hbmTy0_5 (i : Nat) : BufTy := match i % 128 with
  | 0 => ⟨S65536x1, .i32⟩
  | 1 => ⟨S1050625, .f32⟩
  | 2 => ⟨S1025x1025, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S2048, .f32⟩
  | 11 => ⟨S_, .f32⟩
  | 12 => ⟨S2048, .f32⟩
  | 13 => ⟨S2048, .f32⟩
  | 14 => ⟨S1, .f32⟩
  | 15 => ⟨S_, .f32⟩
  | 16 => ⟨S2048, .f32⟩
  | 17 => ⟨S2048, .f32⟩
  | 18 => ⟨S2048, .f32⟩
  | 19 => ⟨S2048, .f32⟩
  | 20 => ⟨S1, .f32⟩
  | 21 => ⟨S2048, .f32⟩
  | 22 => ⟨S2048, .f32⟩
  | 23 => ⟨S2048, .f32⟩
  | 24 => ⟨S1, .f32⟩
  | 25 => ⟨S2049, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S2048, .f32⟩
  | 34 => ⟨S_, .f32⟩
  | 35 => ⟨S2048, .f32⟩
  | 36 => ⟨S2048, .f32⟩
  | 37 => ⟨S1, .f32⟩
  | 38 => ⟨S_, .f32⟩
  | 39 => ⟨S2048, .f32⟩
  | 40 => ⟨S2048, .f32⟩
  | 41 => ⟨S2048, .f32⟩
  | 42 => ⟨S2048, .f32⟩
  | 43 => ⟨S1, .f32⟩
  | 44 => ⟨S2048, .f32⟩
  | 45 => ⟨S2048, .f32⟩
  | 46 => ⟨S2048, .f32⟩
  | 47 => ⟨S1, .f32⟩
  | 48 => ⟨S2049, .f32⟩
  | 49 => ⟨S2049, .f32⟩
  | 50 => ⟨S2049, .i32⟩
  | 51 => ⟨S2049, .f32⟩
  | 52 => ⟨S2049, .i32⟩
  | 53 => ⟨S_, .i32⟩
  | 54 => ⟨S2049, .i32⟩
  | 55 => ⟨S2049, .i32⟩
  | 56 => ⟨S_, .i32⟩
  | 57 => ⟨S_, .i32⟩
  | 58 => ⟨S_, .i32⟩
  | 59 => ⟨S2049, .i32⟩
  | 60 => ⟨S2049, .i32⟩
  | 61 => ⟨S_, .i32⟩
  | 62 => ⟨S2049, .i32⟩
  | 63 => ⟨S2049, .i32⟩
  | 64 => ⟨S_, .i32⟩
  | 65 => ⟨S2049, .i32⟩
  | 66 => ⟨S2049, .i32⟩
  | 67 => ⟨S_, .i32⟩
  | 68 => ⟨S_, .i32⟩
  | 69 => ⟨S_, .i32⟩
  | 70 => ⟨S2049, .i32⟩
  | 71 => ⟨S2049, .i32⟩
  | 72 => ⟨S_, .i32⟩
  | 73 => ⟨S2049, .i32⟩
  | 74 => ⟨S2049, .i32⟩
  | 75 => ⟨S2049, .f32⟩
  | 76 => ⟨S2049, .f32⟩
  | 77 => ⟨S2049x1, .f32⟩
  | 78 => ⟨S2049, .f32⟩
  | 79 => ⟨S2049, .f32⟩
  | 80 => ⟨S1x2049, .f32⟩
  | 81 => ⟨S_, .i32⟩
  | 82 => ⟨S2049, .i32⟩
  | 83 => ⟨S2049, .i1⟩
  | 84 => ⟨S_, .i32⟩
  | 85 => ⟨S2049, .i32⟩
  | 86 => ⟨S2049, .i32⟩
  | 87 => ⟨S2049, .i32⟩
  | 88 => ⟨S2049x1, .i32⟩
  | 89 => ⟨S2049x1025, .f32⟩
  | 90 => ⟨S_, .i32⟩
  | 91 => ⟨S2049, .i32⟩
  | 92 => ⟨S2049, .i1⟩
  | 93 => ⟨S_, .i32⟩
  | 94 => ⟨S2049, .i32⟩
  | 95 => ⟨S2049, .i32⟩
  | 96 => ⟨S2049, .i32⟩
  | 97 => ⟨S2049x1, .i32⟩
  | 98 => ⟨S2049x1025, .f32⟩
  | 99 => ⟨S_, .f32⟩
  | 100 => ⟨S2049x1, .f32⟩
  | 101 => ⟨S2049x1, .f32⟩
  | 102 => ⟨S2049x1025, .f32⟩
  | 103 => ⟨S2049x1025, .f32⟩
  | 104 => ⟨S2049x1025, .f32⟩
  | 105 => ⟨S2049x1025, .f32⟩
  | 106 => ⟨S2049x1025, .f32⟩
  | 107 => ⟨S_, .i32⟩
  | 108 => ⟨S2049, .i32⟩
  | 109 => ⟨S2049, .i1⟩
  | 110 => ⟨S_, .i32⟩
  | 111 => ⟨S2049, .i32⟩
  | 112 => ⟨S2049, .i32⟩
  | 113 => ⟨S2049, .i32⟩
  | 114 => ⟨S2049x1, .i32⟩
  | 115 => ⟨S2049x2049, .f32⟩
  | 116 => ⟨S_, .i32⟩
  | 117 => ⟨S2049, .i32⟩
  | 118 => ⟨S2049, .i1⟩
  | 119 => ⟨S_, .i32⟩
  | 120 => ⟨S2049, .i32⟩
  | 121 => ⟨S2049, .i32⟩
  | 122 => ⟨S2049, .i32⟩
  | 123 => ⟨S2049x1, .i32⟩
  | 124 => ⟨S2049x2049, .f32⟩
  | 125 => ⟨S_, .f32⟩
  | 126 => ⟨S1x2049, .f32⟩
  | 127 => ⟨S1x2049, .f32⟩
  | _ => ⟨S2x64, .f32⟩

abbrev hbmTy0_6 (i : Nat) : BufTy := match i % 128 with
  | 0 => ⟨S2049x2049, .f32⟩
  | 1 => ⟨S2049x2049, .f32⟩
  | 2 => ⟨S2049x2049, .f32⟩
  | 3 => ⟨S2049x2049, .f32⟩
  | 4 => ⟨S2049x2049, .f32⟩
  | 5 => ⟨S4198401, .f32⟩
  | 6 => ⟨S_, .f32⟩
  | 7 => ⟨S4198401, .f32⟩
  | 8 => ⟨S4198401, .f32⟩
  | 9 => ⟨S4198401, .f32⟩
  | 10 => ⟨S4198401, .f32⟩
  | 11 => ⟨S131072, .f32⟩
  | 12 => ⟨S131072, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i1⟩
  | 27 => ⟨S_, .i32⟩
  | 28 => ⟨S_, .i1⟩
  | 29 => ⟨S131072, .i1⟩
  | 30 => ⟨S131072, .i1⟩
  | 31 => ⟨S131072, .i1⟩
  | 32 => ⟨S131072, .i32⟩
  | 33 => ⟨S131072, .i32⟩
  | 34 => ⟨S131072, .i32⟩
  | 35 => ⟨S131072, .f32⟩
  | 36 => ⟨S_, .f32⟩
  | 37 => ⟨S131072, .f32⟩
  | 38 => ⟨S131072, .f32⟩
  | 39 => ⟨S_, .i32⟩
  | 40 => ⟨S_, .i32⟩
  | 41 => ⟨S131072, .i32⟩
  | 42 => ⟨S131072, .i32⟩
  | 43 => ⟨S131072, .i32⟩
  | 44 => ⟨S_, .i32⟩
  | 45 => ⟨S131072, .i32⟩
  | 46 => ⟨S131072, .i1⟩
  | 47 => ⟨S131072, .i32⟩
  | 48 => ⟨S131072, .i32⟩
  | 49 => ⟨S_, .i32⟩
  | 50 => ⟨S131072, .i32⟩
  | 51 => ⟨S131072, .i1⟩
  | 52 => ⟨S131072, .i1⟩
  | 53 => ⟨S_, .i32⟩
  | 54 => ⟨S131072, .i32⟩
  | 55 => ⟨S131072, .i32⟩
  | 56 => ⟨S131072, .i32⟩
  | 57 => ⟨S131072, .f32⟩
  | 58 => ⟨S_, .f32⟩
  | 59 => ⟨S131072, .f32⟩
  | 60 => ⟨S131072, .f32⟩
  | 61 => ⟨S131072x1, .f32⟩
  | 62 => ⟨S131072x1, .f32⟩
  | 63 => ⟨S131072x2, .f32⟩
  | 64 => ⟨S_, .i32⟩
  | 65 => ⟨S_, .f32⟩
  | 66 => ⟨S131072x2, .f32⟩
  | 67 => ⟨S1x64, .f32⟩
  | 68 => ⟨S1x64, .f32⟩
  | 69 => ⟨S1x1, .f32⟩
  | 70 => ⟨S131072, .f32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S4198401, .f32⟩
  | 80 => ⟨S2049x2049, .f32⟩
  | 81 => ⟨S1x1x2049x2049, .f32⟩
  | _ => ⟨S2x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x64, .f32⟩

abbrev bufTy : (tb : Table) → Fin (tcTables nBuf tb) → BufTy
  | .hbm, ⟨i, _⟩ => hbmTy i
  | .local _ .vmem, ⟨0, _⟩ => ⟨S2048x2, .f32⟩
  | .local _ .vmem, ⟨1, _⟩ => ⟨S2048x2, .f32⟩
  | .local _ .vmem, ⟨2, _⟩ => ⟨S2x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S2048, .f32⟩
  | .local _ .vmem, ⟨7, _⟩ => ⟨S2048, .f32⟩
  | .local _ .vmem, ⟨8, _⟩ => ⟨S2048x2, .f32⟩
  | .local _ .vmem, ⟨9, _⟩ => ⟨S2048x2, .f32⟩
  | .local _ .vmem, ⟨10, _⟩ => ⟨S2x64, .f32⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S2048, .f32⟩
  | .local _ .vmem, ⟨15, _⟩ => ⟨S2048, .f32⟩
  | .local _ .vmem, ⟨16, _⟩ => ⟨S2048x2, .f32⟩
  | .local _ .vmem, ⟨17, _⟩ => ⟨S2048x2, .f32⟩
  | .local _ .vmem, ⟨18, _⟩ => ⟨S2x64, .f32⟩
  | .local _ .vmem, ⟨19, _⟩ => ⟨S1x64, .f32⟩
  | .local _ .vmem, ⟨20, _⟩ => ⟨S1x64, .f32⟩
  | .local _ .vmem, ⟨21, _⟩ => ⟨S1x1, .f32⟩
  | .local _ .vmem, ⟨22, _⟩ => ⟨S2048, .f32⟩
  | .local _ .vmem, ⟨23, _⟩ => ⟨S2048, .f32⟩
  | .local _ .vmem, ⟨24, _⟩ => ⟨S2048x2, .f32⟩
  | .local _ .vmem, ⟨25, _⟩ => ⟨S2048x2, .f32⟩
  | .local _ .vmem, ⟨26, _⟩ => ⟨S2x64, .f32⟩
  | .local _ .vmem, ⟨27, _⟩ => ⟨S1x64, .f32⟩
  | .local _ .vmem, ⟨28, _⟩ => ⟨S1x64, .f32⟩
  | .local _ .vmem, ⟨29, _⟩ => ⟨S1x1, .f32⟩
  | .local _ .vmem, ⟨30, _⟩ => ⟨S2048, .f32⟩
  | .local _ .vmem, ⟨31, _⟩ => ⟨S2048, .f32⟩
  | .local _ .vmem, ⟨32, _⟩ => ⟨S2048x2, .f32⟩
  | .local _ .vmem, ⟨33, _⟩ => ⟨S2048x2, .f32⟩
  | .local _ .vmem, ⟨34, _⟩ => ⟨S2x64, .f32⟩
  | .local _ .vmem, ⟨35, _⟩ => ⟨S1x64, .f32⟩
  | .local _ .vmem, ⟨36, _⟩ => ⟨S1x64, .f32⟩
  | .local _ .vmem, ⟨37, _⟩ => ⟨S1x1, .f32⟩
  | .local _ .vmem, ⟨38, _⟩ => ⟨S2048, .f32⟩
  | .local _ .vmem, ⟨39, _⟩ => ⟨S2048, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v18 : Ref sig .tc := ⟨.hbm, 47, rfl⟩
abbrev main_cst_2 : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_cst : Ref sig .tc := ⟨.hbm, 53, rfl⟩
abbrev main_call2_v3 : Ref sig .tc := ⟨.hbm, 54, rfl⟩
abbrev main_call2_v4 : Ref sig .tc := ⟨.hbm, 55, rfl⟩
abbrev main_call2_cst_0 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_cst_1 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_v15 : Ref sig .tc := ⟨.hbm, 68, rfl⟩
abbrev main_call2_v16 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_c_4 : Ref sig .tc := ⟨.hbm, 75, rfl⟩
abbrev main_v24 : Ref sig .tc := ⟨.hbm, 76, rfl⟩
abbrev main_v25 : Ref sig .tc := ⟨.hbm, 77, rfl⟩
abbrev main_c_5 : Ref sig .tc := ⟨.hbm, 78, rfl⟩
abbrev main_c_6 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v26 : Ref sig .tc := ⟨.hbm, 85, rfl⟩
abbrev main_c_7 : Ref sig .tc := ⟨.hbm, 86, rfl⟩
abbrev main_v27 : Ref sig .tc := ⟨.hbm, 87, rfl⟩
abbrev main_v28 : Ref sig .tc := ⟨.hbm, 88, rfl⟩
abbrev main_c_8 : Ref sig .tc := ⟨.hbm, 89, rfl⟩
abbrev main_c_9 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_c_10 : Ref sig .tc := ⟨.hbm, 103, rfl⟩
abbrev main_v36 : Ref sig .tc := ⟨.hbm, 104, rfl⟩
abbrev main_v37 : Ref sig .tc := ⟨.hbm, 105, rfl⟩
abbrev main_c_11 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_c_12 : Ref sig .tc := ⟨.hbm, 112, rfl⟩
abbrev main_v43 : Ref sig .tc := ⟨.hbm, 113, rfl⟩
abbrev main_v44 : Ref sig .tc := ⟨.hbm, 114, rfl⟩
abbrev main_c_13 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_cst_14 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_c_15 : Ref sig .tc := ⟨.hbm, 129, rfl⟩
abbrev main_v57 : Ref sig .tc := ⟨.hbm, 130, rfl⟩
abbrev main_v58 : Ref sig .tc := ⟨.hbm, 131, rfl⟩
abbrev main_c_16 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_c_17 : Ref sig .tc := ⟨.hbm, 138, rfl⟩
abbrev main_v64 : Ref sig .tc := ⟨.hbm, 139, rfl⟩
abbrev main_v65 : Ref sig .tc := ⟨.hbm, 140, rfl⟩
abbrev main_c_18 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_cst_19 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_cst_20 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_values : Ref sig .tc := ⟨.hbm, 161, rfl⟩
abbrev main_indices : Ref sig .tc := ⟨.hbm, 162, rfl⟩
abbrev main_c_21 : Ref sig .tc := ⟨.hbm, 163, rfl⟩
abbrev main_call5_v0 : Ref sig .tc := ⟨.hbm, 164, rfl⟩
abbrev main_call5_c : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_c_1 : Ref sig .tc := ⟨.hbm, 171, rfl⟩
abbrev main_call5_v5 : Ref sig .tc := ⟨.hbm, 172, rfl⟩
abbrev main_call5_v6 : Ref sig .tc := ⟨.hbm, 173, rfl⟩
abbrev main_call5_c_2 : Ref sig .tc := ⟨.hbm, 174, rfl⟩
abbrev main_call5_v7 : Ref sig .tc := ⟨.hbm, 175, rfl⟩
abbrev main_call5_v8 : Ref sig .tc := ⟨.hbm, 176, rfl⟩
abbrev main_call5_c_3 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_v12 : Ref sig .tc := ⟨.hbm, 181, rfl⟩
abbrev main_call5_v13 : Ref sig .tc := ⟨.hbm, 182, rfl⟩
abbrev main_call5_v14 : Ref sig .tc := ⟨.hbm, 183, rfl⟩
abbrev main_v83 : Ref sig .tc := ⟨.hbm, 184, rfl⟩
abbrev main_v84 : Ref sig .tc := ⟨.hbm, 185, rfl⟩
abbrev main_cst_22 : Ref sig .tc := ⟨.hbm, 186, rfl⟩
abbrev main_v85 : Ref sig .tc := ⟨.hbm, 187, rfl⟩
abbrev main_v86 : Ref sig .tc := ⟨.hbm, 188, rfl⟩
abbrev main_c_23 : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_v6 : Ref sig .tc := ⟨.hbm, 196, rfl⟩
abbrev main_call6_v7 : Ref sig .tc := ⟨.hbm, 197, rfl⟩
abbrev main_call6_v8 : Ref sig .tc := ⟨.hbm, 198, rfl⟩
abbrev main_call6_c : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_0 : Ref sig .tc := ⟨.hbm, 203, rfl⟩
abbrev main_call6_v12 : Ref sig .tc := ⟨.hbm, 204, rfl⟩
abbrev main_call6_v13 : Ref sig .tc := ⟨.hbm, 205, rfl⟩
abbrev main_v87 : Ref sig .tc := ⟨.hbm, 206, rfl⟩
abbrev main_v88 : Ref sig .tc := ⟨.hbm, 207, rfl⟩
abbrev main_cst_24 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_c_25 : Ref sig .tc := ⟨.hbm, 214, rfl⟩
abbrev main_call7_v0 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩
abbrev main_v97 : Ref sig .tc := ⟨.hbm, 219, rfl⟩
abbrev main_v98 : Ref sig .tc := ⟨.hbm, 220, rfl⟩
abbrev main_c_26 : Ref sig .tc := ⟨.hbm, 221, rfl⟩
abbrev main_v99 : Ref sig .tc := ⟨.hbm, 222, rfl⟩
abbrev main_v100 : Ref sig .tc := ⟨.hbm, 223, rfl⟩
abbrev main_c_27 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_cst_28 : Ref sig .tc := ⟨.hbm, 231, rfl⟩
abbrev main_cst_29 : Ref sig .tc := ⟨.hbm, 232, rfl⟩
abbrev main_call8_v0 : Ref sig .tc := ⟨.hbm, 233, rfl⟩
abbrev main_call8_v1 : Ref sig .tc := ⟨.hbm, 234, rfl⟩
abbrev main_call8_v2 : Ref sig .tc := ⟨.hbm, 235, rfl⟩
abbrev main_call8_cst : Ref sig .tc := ⟨.hbm, 236, rfl⟩
abbrev main_call8_v3 : Ref sig .tc := ⟨.hbm, 237, rfl⟩
abbrev main_call8_v4 : Ref sig .tc := ⟨.hbm, 238, rfl⟩
abbrev main_call8_cst_0 : Ref sig .tc := ⟨.hbm, 239, rfl⟩
abbrev main_call8_v5 : Ref sig .tc := ⟨.hbm, 240, rfl⟩
abbrev main_call8_v6 : Ref sig .tc := ⟨.hbm, 241, rfl⟩
abbrev main_call8_v7 : Ref sig .tc := ⟨.hbm, 242, rfl⟩
abbrev main_call8_cst_1 : Ref sig .tc := ⟨.hbm, 243, rfl⟩
abbrev main_call8_v8 : Ref sig .tc := ⟨.hbm, 244, rfl⟩
abbrev main_call8_v9 : Ref sig .tc := ⟨.hbm, 245, rfl⟩
abbrev main_call8_v10 : Ref sig .tc := ⟨.hbm, 246, rfl⟩
abbrev main_call8_v11 : Ref sig .tc := ⟨.hbm, 247, rfl⟩
abbrev main_call8_v12 : Ref sig .tc := ⟨.hbm, 248, rfl⟩
abbrev main_call8_v13 : Ref sig .tc := ⟨.hbm, 249, rfl⟩
abbrev main_call8_v14 : Ref sig .tc := ⟨.hbm, 250, rfl⟩
abbrev main_call8_v15 : Ref sig .tc := ⟨.hbm, 251, rfl⟩
abbrev main_call8_v16 : Ref sig .tc := ⟨.hbm, 252, rfl⟩
abbrev main_v107 : Ref sig .tc := ⟨.hbm, 253, rfl⟩
abbrev main_cst_30 : Ref sig .tc := ⟨.hbm, 254, rfl⟩
abbrev main_cst_31 : Ref sig .tc := ⟨.hbm, 255, rfl⟩
abbrev main_call9_v0 : Ref sig .tc := ⟨.hbm, 256, rfl⟩
abbrev main_call9_v1 : Ref sig .tc := ⟨.hbm, 257, rfl⟩
abbrev main_call9_v2 : Ref sig .tc := ⟨.hbm, 258, rfl⟩
abbrev main_call9_cst : Ref sig .tc := ⟨.hbm, 259, rfl⟩
abbrev main_call9_v3 : Ref sig .tc := ⟨.hbm, 260, rfl⟩
abbrev main_call9_v4 : Ref sig .tc := ⟨.hbm, 261, rfl⟩
abbrev main_call9_cst_0 : Ref sig .tc := ⟨.hbm, 262, rfl⟩
abbrev main_call9_v5 : Ref sig .tc := ⟨.hbm, 263, rfl⟩
abbrev main_call9_v6 : Ref sig .tc := ⟨.hbm, 264, rfl⟩
abbrev main_call9_v7 : Ref sig .tc := ⟨.hbm, 265, rfl⟩
abbrev main_call9_cst_1 : Ref sig .tc := ⟨.hbm, 266, rfl⟩
abbrev main_call9_v8 : Ref sig .tc := ⟨.hbm, 267, rfl⟩
abbrev main_call9_v9 : Ref sig .tc := ⟨.hbm, 268, rfl⟩
abbrev main_call9_v10 : Ref sig .tc := ⟨.hbm, 269, rfl⟩
abbrev main_call9_v11 : Ref sig .tc := ⟨.hbm, 270, rfl⟩
abbrev main_call9_v12 : Ref sig .tc := ⟨.hbm, 271, rfl⟩
abbrev main_call9_v13 : Ref sig .tc := ⟨.hbm, 272, rfl⟩
abbrev main_call9_v14 : Ref sig .tc := ⟨.hbm, 273, rfl⟩
abbrev main_call9_v15 : Ref sig .tc := ⟨.hbm, 274, rfl⟩
abbrev main_call9_v16 : Ref sig .tc := ⟨.hbm, 275, rfl⟩
abbrev main_v108 : Ref sig .tc := ⟨.hbm, 276, rfl⟩
abbrev main_v109 : Ref sig .tc := ⟨.hbm, 277, rfl⟩
abbrev main_v110 : Ref sig .tc := ⟨.hbm, 278, rfl⟩
abbrev main_v111 : Ref sig .tc := ⟨.hbm, 279, rfl⟩
abbrev main_v112 : Ref sig .tc := ⟨.hbm, 280, rfl⟩
abbrev main_c_32 : Ref sig .tc := ⟨.hbm, 281, rfl⟩
abbrev main_v113 : Ref sig .tc := ⟨.hbm, 282, rfl⟩
abbrev main_v114 : Ref sig .tc := ⟨.hbm, 283, rfl⟩
abbrev main_c_33 : Ref sig .tc := ⟨.hbm, 284, rfl⟩
abbrev main_c_34 : Ref sig .tc := ⟨.hbm, 285, rfl⟩
abbrev main_call10_v0 : Ref sig .tc := ⟨.hbm, 286, rfl⟩
abbrev main_call10_v1 : Ref sig .tc := ⟨.hbm, 287, rfl⟩
abbrev main_call10_v2 : Ref sig .tc := ⟨.hbm, 288, rfl⟩
abbrev main_call10_v3 : Ref sig .tc := ⟨.hbm, 289, rfl⟩
abbrev main_call10_v4 : Ref sig .tc := ⟨.hbm, 290, rfl⟩
abbrev main_v115 : Ref sig .tc := ⟨.hbm, 291, rfl⟩
abbrev main_c_35 : Ref sig .tc := ⟨.hbm, 292, rfl⟩
abbrev main_v116 : Ref sig .tc := ⟨.hbm, 293, rfl⟩
abbrev main_v117 : Ref sig .tc := ⟨.hbm, 294, rfl⟩
abbrev main_c_36 : Ref sig .tc := ⟨.hbm, 295, rfl⟩
abbrev main_c_37 : Ref sig .tc := ⟨.hbm, 296, rfl⟩
abbrev main_call11_v0 : Ref sig .tc := ⟨.hbm, 297, rfl⟩
abbrev main_call11_v1 : Ref sig .tc := ⟨.hbm, 298, rfl⟩
abbrev main_call11_v2 : Ref sig .tc := ⟨.hbm, 299, rfl⟩
abbrev main_call11_v3 : Ref sig .tc := ⟨.hbm, 300, rfl⟩
abbrev main_call11_v4 : Ref sig .tc := ⟨.hbm, 301, rfl⟩
abbrev main_v118 : Ref sig .tc := ⟨.hbm, 302, rfl⟩
abbrev main_v119 : Ref sig .tc := ⟨.hbm, 303, rfl⟩
abbrev main_v120 : Ref sig .tc := ⟨.hbm, 304, rfl⟩
abbrev main_v121 : Ref sig .tc := ⟨.hbm, 305, rfl⟩
abbrev main_v122 : Ref sig .tc := ⟨.hbm, 306, rfl⟩
abbrev main_v123 : Ref sig .tc := ⟨.hbm, 307, rfl⟩
abbrev main_v124 : Ref sig .tc := ⟨.hbm, 308, rfl⟩
abbrev main_c_38 : Ref sig .tc := ⟨.hbm, 309, rfl⟩
abbrev main_v125 : Ref sig .tc := ⟨.hbm, 310, rfl⟩
abbrev main_v126 : Ref sig .tc := ⟨.hbm, 311, rfl⟩
abbrev main_c_39 : Ref sig .tc := ⟨.hbm, 312, rfl⟩
abbrev main_v127 : Ref sig .tc := ⟨.hbm, 313, rfl⟩
abbrev main_v128 : Ref sig .tc := ⟨.hbm, 314, rfl⟩
abbrev main_v129 : Ref sig .tc := ⟨.hbm, 315, rfl⟩
abbrev main_v130 : Ref sig .tc := ⟨.hbm, 316, rfl⟩
abbrev main_v131 : Ref sig .tc := ⟨.hbm, 317, rfl⟩
abbrev main_c_40 : Ref sig .tc := ⟨.hbm, 318, rfl⟩
abbrev main_v132 : Ref sig .tc := ⟨.hbm, 319, rfl⟩
abbrev main_v133 : Ref sig .tc := ⟨.hbm, 320, rfl⟩
abbrev main_c_41 : Ref sig .tc := ⟨.hbm, 321, rfl⟩
abbrev main_v134 : Ref sig .tc := ⟨.hbm, 322, rfl⟩
abbrev main_v135 : Ref sig .tc := ⟨.hbm, 323, rfl⟩
abbrev main_v136 : Ref sig .tc := ⟨.hbm, 324, rfl⟩
abbrev main_v137 : Ref sig .tc := ⟨.hbm, 325, rfl⟩
abbrev main_v138 : Ref sig .tc := ⟨.hbm, 326, rfl⟩
abbrev main_cst_42 : Ref sig .tc := ⟨.hbm, 327, rfl⟩
abbrev main_v139 : Ref sig .tc := ⟨.hbm, 328, rfl⟩
abbrev main_v140 : Ref sig .tc := ⟨.hbm, 329, rfl⟩
abbrev main_v141 : Ref sig .tc := ⟨.hbm, 330, rfl⟩
abbrev main_v142 : Ref sig .tc := ⟨.hbm, 331, rfl⟩
abbrev main_v143 : Ref sig .tc := ⟨.hbm, 332, rfl⟩
abbrev main_v144 : Ref sig .tc := ⟨.hbm, 333, rfl⟩
abbrev main_v145 : Ref sig .tc := ⟨.hbm, 334, rfl⟩
abbrev main_c_43 : Ref sig .tc := ⟨.hbm, 335, rfl⟩
abbrev main_v146 : Ref sig .tc := ⟨.hbm, 336, rfl⟩
abbrev main_v147 : Ref sig .tc := ⟨.hbm, 337, rfl⟩
abbrev main_c_44 : Ref sig .tc := ⟨.hbm, 338, rfl⟩
abbrev main_v148 : Ref sig .tc := ⟨.hbm, 339, rfl⟩
abbrev main_v149 : Ref sig .tc := ⟨.hbm, 340, rfl⟩
abbrev main_v150 : Ref sig .tc := ⟨.hbm, 341, rfl⟩
abbrev main_v151 : Ref sig .tc := ⟨.hbm, 342, rfl⟩
abbrev main_v152 : Ref sig .tc := ⟨.hbm, 343, rfl⟩
abbrev main_c_45 : Ref sig .tc := ⟨.hbm, 344, rfl⟩
abbrev main_v153 : Ref sig .tc := ⟨.hbm, 345, rfl⟩
abbrev main_v154 : Ref sig .tc := ⟨.hbm, 346, rfl⟩
abbrev main_c_46 : Ref sig .tc := ⟨.hbm, 347, rfl⟩
abbrev main_v155 : Ref sig .tc := ⟨.hbm, 348, rfl⟩
abbrev main_v156 : Ref sig .tc := ⟨.hbm, 349, rfl⟩
abbrev main_v157 : Ref sig .tc := ⟨.hbm, 350, rfl⟩
abbrev main_v158 : Ref sig .tc := ⟨.hbm, 351, rfl⟩
abbrev main_v159 : Ref sig .tc := ⟨.hbm, 352, rfl⟩
abbrev main_cst_47 : Ref sig .tc := ⟨.hbm, 353, rfl⟩
abbrev main_v160 : Ref sig .tc := ⟨.hbm, 354, rfl⟩
abbrev main_v161 : Ref sig .tc := ⟨.hbm, 355, rfl⟩
abbrev main_v162 : Ref sig .tc := ⟨.hbm, 356, rfl⟩
abbrev main_v163 : Ref sig .tc := ⟨.hbm, 357, rfl⟩
abbrev main_v164 : Ref sig .tc := ⟨.hbm, 358, rfl⟩
abbrev main_v165 : Ref sig .tc := ⟨.hbm, 359, rfl⟩
abbrev main_v166 : Ref sig .tc := ⟨.hbm, 360, rfl⟩
abbrev main_v167 : Ref sig .tc := ⟨.hbm, 361, rfl⟩
abbrev main_cst_48 : Ref sig .tc := ⟨.hbm, 362, rfl⟩
abbrev main_v168 : Ref sig .tc := ⟨.hbm, 363, rfl⟩
abbrev main_v169 : Ref sig .tc := ⟨.hbm, 364, rfl⟩
abbrev main_v170 : Ref sig .tc := ⟨.hbm, 365, rfl⟩
abbrev main_v171 : Ref sig .tc := ⟨.hbm, 366, rfl⟩
abbrev main_values_49 : Ref sig .tc := ⟨.hbm, 367, rfl⟩
abbrev main_indices_50 : Ref sig .tc := ⟨.hbm, 368, rfl⟩
abbrev main_c_51 : Ref sig .tc := ⟨.hbm, 369, rfl⟩
abbrev main_call12_v0 : Ref sig .tc := ⟨.hbm, 370, rfl⟩
abbrev main_call12_c : Ref sig .tc := ⟨.hbm, 371, rfl⟩
abbrev main_call12_v1 : Ref sig .tc := ⟨.hbm, 372, rfl⟩
abbrev main_call12_c_0 : Ref sig .tc := ⟨.hbm, 373, rfl⟩
abbrev main_call12_v2 : Ref sig .tc := ⟨.hbm, 374, rfl⟩
abbrev main_call12_v3 : Ref sig .tc := ⟨.hbm, 375, rfl⟩
abbrev main_call12_v4 : Ref sig .tc := ⟨.hbm, 376, rfl⟩
abbrev main_call12_c_1 : Ref sig .tc := ⟨.hbm, 377, rfl⟩
abbrev main_call12_v5 : Ref sig .tc := ⟨.hbm, 378, rfl⟩
abbrev main_call12_v6 : Ref sig .tc := ⟨.hbm, 379, rfl⟩
abbrev main_call12_c_2 : Ref sig .tc := ⟨.hbm, 380, rfl⟩
abbrev main_call12_v7 : Ref sig .tc := ⟨.hbm, 381, rfl⟩
abbrev main_call12_v8 : Ref sig .tc := ⟨.hbm, 382, rfl⟩
abbrev main_call12_c_3 : Ref sig .tc := ⟨.hbm, 383, rfl⟩
abbrev main_call12_v9 : Ref sig .tc := ⟨.hbm, 384, rfl⟩
abbrev main_call12_v10 : Ref sig .tc := ⟨.hbm, 385, rfl⟩
abbrev main_call12_v11 : Ref sig .tc := ⟨.hbm, 386, rfl⟩
abbrev main_call12_v12 : Ref sig .tc := ⟨.hbm, 387, rfl⟩
abbrev main_call12_v13 : Ref sig .tc := ⟨.hbm, 388, rfl⟩
abbrev main_call12_v14 : Ref sig .tc := ⟨.hbm, 389, rfl⟩
abbrev main_v172 : Ref sig .tc := ⟨.hbm, 390, rfl⟩
abbrev main_v173 : Ref sig .tc := ⟨.hbm, 391, rfl⟩
abbrev main_cst_52 : Ref sig .tc := ⟨.hbm, 392, rfl⟩
abbrev main_v174 : Ref sig .tc := ⟨.hbm, 393, rfl⟩
abbrev main_v175 : Ref sig .tc := ⟨.hbm, 394, rfl⟩
abbrev main_c_53 : Ref sig .tc := ⟨.hbm, 395, rfl⟩
abbrev main_call13_v0 : Ref sig .tc := ⟨.hbm, 396, rfl⟩
abbrev main_call13_v1 : Ref sig .tc := ⟨.hbm, 397, rfl⟩
abbrev main_call13_v2 : Ref sig .tc := ⟨.hbm, 398, rfl⟩
abbrev main_call13_v3 : Ref sig .tc := ⟨.hbm, 399, rfl⟩
abbrev main_call13_v4 : Ref sig .tc := ⟨.hbm, 400, rfl⟩
abbrev main_call13_v5 : Ref sig .tc := ⟨.hbm, 401, rfl⟩
abbrev main_call13_v6 : Ref sig .tc := ⟨.hbm, 402, rfl⟩
abbrev main_call13_v7 : Ref sig .tc := ⟨.hbm, 403, rfl⟩
abbrev main_call13_v8 : Ref sig .tc := ⟨.hbm, 404, rfl⟩
abbrev main_call13_c : Ref sig .tc := ⟨.hbm, 405, rfl⟩
abbrev main_call13_v9 : Ref sig .tc := ⟨.hbm, 406, rfl⟩
abbrev main_call13_v10 : Ref sig .tc := ⟨.hbm, 407, rfl⟩
abbrev main_call13_v11 : Ref sig .tc := ⟨.hbm, 408, rfl⟩
abbrev main_call13_c_0 : Ref sig .tc := ⟨.hbm, 409, rfl⟩
abbrev main_call13_v12 : Ref sig .tc := ⟨.hbm, 410, rfl⟩
abbrev main_call13_v13 : Ref sig .tc := ⟨.hbm, 411, rfl⟩
abbrev main_v176 : Ref sig .tc := ⟨.hbm, 412, rfl⟩
abbrev main_v177 : Ref sig .tc := ⟨.hbm, 413, rfl⟩
abbrev main_cst_54 : Ref sig .tc := ⟨.hbm, 414, rfl⟩
abbrev main_v178 : Ref sig .tc := ⟨.hbm, 415, rfl⟩
abbrev main_v179 : Ref sig .tc := ⟨.hbm, 416, rfl⟩
abbrev main_v180 : Ref sig .tc := ⟨.hbm, 417, rfl⟩
abbrev main_v181 : Ref sig .tc := ⟨.hbm, 418, rfl⟩
abbrev main_v182 : Ref sig .tc := ⟨.hbm, 419, rfl⟩
abbrev main_c_55 : Ref sig .tc := ⟨.hbm, 420, rfl⟩
abbrev main_call14_v0 : Ref sig .tc := ⟨.hbm, 421, rfl⟩
abbrev main_v183 : Ref sig .tc := ⟨.hbm, 422, rfl⟩
abbrev main_v184 : Ref sig .tc := ⟨.hbm, 423, rfl⟩
abbrev main_v185 : Ref sig .tc := ⟨.hbm, 424, rfl⟩
abbrev main_v186 : Ref sig .tc := ⟨.hbm, 425, rfl⟩
abbrev main_v187 : Ref sig .tc := ⟨.hbm, 426, rfl⟩
abbrev main_c_56 : Ref sig .tc := ⟨.hbm, 427, rfl⟩
abbrev main_v188 : Ref sig .tc := ⟨.hbm, 428, rfl⟩
abbrev main_v189 : Ref sig .tc := ⟨.hbm, 429, rfl⟩
abbrev main_c_57 : Ref sig .tc := ⟨.hbm, 430, rfl⟩
abbrev main_v190 : Ref sig .tc := ⟨.hbm, 431, rfl⟩
abbrev main_v191 : Ref sig .tc := ⟨.hbm, 432, rfl⟩
abbrev main_v192 : Ref sig .tc := ⟨.hbm, 433, rfl⟩
abbrev main_v193 : Ref sig .tc := ⟨.hbm, 434, rfl⟩
abbrev main_v194 : Ref sig .tc := ⟨.hbm, 435, rfl⟩
abbrev main_v195 : Ref sig .tc := ⟨.hbm, 436, rfl⟩
abbrev main_cst_58 : Ref sig .tc := ⟨.hbm, 437, rfl⟩
abbrev main_cst_59 : Ref sig .tc := ⟨.hbm, 438, rfl⟩
abbrev main_call15_v0 : Ref sig .tc := ⟨.hbm, 439, rfl⟩
abbrev main_call15_v1 : Ref sig .tc := ⟨.hbm, 440, rfl⟩
abbrev main_call15_v2 : Ref sig .tc := ⟨.hbm, 441, rfl⟩
abbrev main_call15_cst : Ref sig .tc := ⟨.hbm, 442, rfl⟩
abbrev main_call15_v3 : Ref sig .tc := ⟨.hbm, 443, rfl⟩
abbrev main_call15_v4 : Ref sig .tc := ⟨.hbm, 444, rfl⟩
abbrev main_call15_cst_0 : Ref sig .tc := ⟨.hbm, 445, rfl⟩
abbrev main_call15_v5 : Ref sig .tc := ⟨.hbm, 446, rfl⟩
abbrev main_call15_v6 : Ref sig .tc := ⟨.hbm, 447, rfl⟩
abbrev main_call15_v7 : Ref sig .tc := ⟨.hbm, 448, rfl⟩
abbrev main_call15_cst_1 : Ref sig .tc := ⟨.hbm, 449, rfl⟩
abbrev main_call15_v8 : Ref sig .tc := ⟨.hbm, 450, rfl⟩
abbrev main_call15_v9 : Ref sig .tc := ⟨.hbm, 451, rfl⟩
abbrev main_call15_v10 : Ref sig .tc := ⟨.hbm, 452, rfl⟩
abbrev main_call15_v11 : Ref sig .tc := ⟨.hbm, 453, rfl⟩
abbrev main_call15_v12 : Ref sig .tc := ⟨.hbm, 454, rfl⟩
abbrev main_call15_v13 : Ref sig .tc := ⟨.hbm, 455, rfl⟩
abbrev main_call15_v14 : Ref sig .tc := ⟨.hbm, 456, rfl⟩
abbrev main_call15_v15 : Ref sig .tc := ⟨.hbm, 457, rfl⟩
abbrev main_call15_v16 : Ref sig .tc := ⟨.hbm, 458, rfl⟩
abbrev main_v196 : Ref sig .tc := ⟨.hbm, 459, rfl⟩
abbrev main_cst_60 : Ref sig .tc := ⟨.hbm, 460, rfl⟩
abbrev main_cst_61 : Ref sig .tc := ⟨.hbm, 461, rfl⟩
abbrev main_call16_v0 : Ref sig .tc := ⟨.hbm, 462, rfl⟩
abbrev main_call16_v1 : Ref sig .tc := ⟨.hbm, 463, rfl⟩
abbrev main_call16_v2 : Ref sig .tc := ⟨.hbm, 464, rfl⟩
abbrev main_call16_cst : Ref sig .tc := ⟨.hbm, 465, rfl⟩
abbrev main_call16_v3 : Ref sig .tc := ⟨.hbm, 466, rfl⟩
abbrev main_call16_v4 : Ref sig .tc := ⟨.hbm, 467, rfl⟩
abbrev main_call16_cst_0 : Ref sig .tc := ⟨.hbm, 468, rfl⟩
abbrev main_call16_v5 : Ref sig .tc := ⟨.hbm, 469, rfl⟩
abbrev main_call16_v6 : Ref sig .tc := ⟨.hbm, 470, rfl⟩
abbrev main_call16_v7 : Ref sig .tc := ⟨.hbm, 471, rfl⟩
abbrev main_call16_cst_1 : Ref sig .tc := ⟨.hbm, 472, rfl⟩
abbrev main_call16_v8 : Ref sig .tc := ⟨.hbm, 473, rfl⟩
abbrev main_call16_v9 : Ref sig .tc := ⟨.hbm, 474, rfl⟩
abbrev main_call16_v10 : Ref sig .tc := ⟨.hbm, 475, rfl⟩
abbrev main_call16_v11 : Ref sig .tc := ⟨.hbm, 476, rfl⟩
abbrev main_call16_v12 : Ref sig .tc := ⟨.hbm, 477, rfl⟩
abbrev main_call16_v13 : Ref sig .tc := ⟨.hbm, 478, rfl⟩
abbrev main_call16_v14 : Ref sig .tc := ⟨.hbm, 479, rfl⟩
abbrev main_call16_v15 : Ref sig .tc := ⟨.hbm, 480, rfl⟩
abbrev main_call16_v16 : Ref sig .tc := ⟨.hbm, 481, rfl⟩
abbrev main_v197 : Ref sig .tc := ⟨.hbm, 482, rfl⟩
abbrev main_v198 : Ref sig .tc := ⟨.hbm, 483, rfl⟩
abbrev main_v199 : Ref sig .tc := ⟨.hbm, 484, rfl⟩
abbrev main_v200 : Ref sig .tc := ⟨.hbm, 485, rfl⟩
abbrev main_v201 : Ref sig .tc := ⟨.hbm, 486, rfl⟩
abbrev main_c_62 : Ref sig .tc := ⟨.hbm, 487, rfl⟩
abbrev main_v202 : Ref sig .tc := ⟨.hbm, 488, rfl⟩
abbrev main_v203 : Ref sig .tc := ⟨.hbm, 489, rfl⟩
abbrev main_c_63 : Ref sig .tc := ⟨.hbm, 490, rfl⟩
abbrev main_c_64 : Ref sig .tc := ⟨.hbm, 491, rfl⟩
abbrev main_call17_v0 : Ref sig .tc := ⟨.hbm, 492, rfl⟩
abbrev main_call17_v1 : Ref sig .tc := ⟨.hbm, 493, rfl⟩
abbrev main_call17_v2 : Ref sig .tc := ⟨.hbm, 494, rfl⟩
abbrev main_call17_v3 : Ref sig .tc := ⟨.hbm, 495, rfl⟩
abbrev main_call17_v4 : Ref sig .tc := ⟨.hbm, 496, rfl⟩
abbrev main_v204 : Ref sig .tc := ⟨.hbm, 497, rfl⟩
abbrev main_c_65 : Ref sig .tc := ⟨.hbm, 498, rfl⟩
abbrev main_v205 : Ref sig .tc := ⟨.hbm, 499, rfl⟩
abbrev main_v206 : Ref sig .tc := ⟨.hbm, 500, rfl⟩
abbrev main_c_66 : Ref sig .tc := ⟨.hbm, 501, rfl⟩
abbrev main_c_67 : Ref sig .tc := ⟨.hbm, 502, rfl⟩
abbrev main_call18_v0 : Ref sig .tc := ⟨.hbm, 503, rfl⟩
abbrev main_call18_v1 : Ref sig .tc := ⟨.hbm, 504, rfl⟩
abbrev main_call18_v2 : Ref sig .tc := ⟨.hbm, 505, rfl⟩
abbrev main_call18_v3 : Ref sig .tc := ⟨.hbm, 506, rfl⟩
abbrev main_call18_v4 : Ref sig .tc := ⟨.hbm, 507, rfl⟩
abbrev main_v207 : Ref sig .tc := ⟨.hbm, 508, rfl⟩
abbrev main_v208 : Ref sig .tc := ⟨.hbm, 509, rfl⟩
abbrev main_v209 : Ref sig .tc := ⟨.hbm, 510, rfl⟩
abbrev main_v210 : Ref sig .tc := ⟨.hbm, 511, rfl⟩
abbrev main_v211 : Ref sig .tc := ⟨.hbm, 512, rfl⟩
abbrev main_v212 : Ref sig .tc := ⟨.hbm, 513, rfl⟩
abbrev main_v213 : Ref sig .tc := ⟨.hbm, 514, rfl⟩
abbrev main_c_68 : Ref sig .tc := ⟨.hbm, 515, rfl⟩
abbrev main_v214 : Ref sig .tc := ⟨.hbm, 516, rfl⟩
abbrev main_v215 : Ref sig .tc := ⟨.hbm, 517, rfl⟩
abbrev main_c_69 : Ref sig .tc := ⟨.hbm, 518, rfl⟩
abbrev main_v216 : Ref sig .tc := ⟨.hbm, 519, rfl⟩
abbrev main_v217 : Ref sig .tc := ⟨.hbm, 520, rfl⟩
abbrev main_v218 : Ref sig .tc := ⟨.hbm, 521, rfl⟩
abbrev main_v219 : Ref sig .tc := ⟨.hbm, 522, rfl⟩
abbrev main_v220 : Ref sig .tc := ⟨.hbm, 523, rfl⟩
abbrev main_c_70 : Ref sig .tc := ⟨.hbm, 524, rfl⟩
abbrev main_v221 : Ref sig .tc := ⟨.hbm, 525, rfl⟩
abbrev main_v222 : Ref sig .tc := ⟨.hbm, 526, rfl⟩
abbrev main_c_71 : Ref sig .tc := ⟨.hbm, 527, rfl⟩
abbrev main_v223 : Ref sig .tc := ⟨.hbm, 528, rfl⟩
abbrev main_v224 : Ref sig .tc := ⟨.hbm, 529, rfl⟩
abbrev main_v225 : Ref sig .tc := ⟨.hbm, 530, rfl⟩
abbrev main_v226 : Ref sig .tc := ⟨.hbm, 531, rfl⟩
abbrev main_v227 : Ref sig .tc := ⟨.hbm, 532, rfl⟩
abbrev main_cst_72 : Ref sig .tc := ⟨.hbm, 533, rfl⟩
abbrev main_v228 : Ref sig .tc := ⟨.hbm, 534, rfl⟩
abbrev main_v229 : Ref sig .tc := ⟨.hbm, 535, rfl⟩
abbrev main_v230 : Ref sig .tc := ⟨.hbm, 536, rfl⟩
abbrev main_v231 : Ref sig .tc := ⟨.hbm, 537, rfl⟩
abbrev main_v232 : Ref sig .tc := ⟨.hbm, 538, rfl⟩
abbrev main_v233 : Ref sig .tc := ⟨.hbm, 539, rfl⟩
abbrev main_v234 : Ref sig .tc := ⟨.hbm, 540, rfl⟩
abbrev main_c_73 : Ref sig .tc := ⟨.hbm, 541, rfl⟩
abbrev main_v235 : Ref sig .tc := ⟨.hbm, 542, rfl⟩
abbrev main_v236 : Ref sig .tc := ⟨.hbm, 543, rfl⟩
abbrev main_c_74 : Ref sig .tc := ⟨.hbm, 544, rfl⟩
abbrev main_v237 : Ref sig .tc := ⟨.hbm, 545, rfl⟩
abbrev main_v238 : Ref sig .tc := ⟨.hbm, 546, rfl⟩
abbrev main_v239 : Ref sig .tc := ⟨.hbm, 547, rfl⟩
abbrev main_v240 : Ref sig .tc := ⟨.hbm, 548, rfl⟩
abbrev main_v241 : Ref sig .tc := ⟨.hbm, 549, rfl⟩
abbrev main_c_75 : Ref sig .tc := ⟨.hbm, 550, rfl⟩
abbrev main_v242 : Ref sig .tc := ⟨.hbm, 551, rfl⟩
abbrev main_v243 : Ref sig .tc := ⟨.hbm, 552, rfl⟩
abbrev main_c_76 : Ref sig .tc := ⟨.hbm, 553, rfl⟩
abbrev main_v244 : Ref sig .tc := ⟨.hbm, 554, rfl⟩
abbrev main_v245 : Ref sig .tc := ⟨.hbm, 555, rfl⟩
abbrev main_v246 : Ref sig .tc := ⟨.hbm, 556, rfl⟩
abbrev main_v247 : Ref sig .tc := ⟨.hbm, 557, rfl⟩
abbrev main_v248 : Ref sig .tc := ⟨.hbm, 558, rfl⟩
abbrev main_cst_77 : Ref sig .tc := ⟨.hbm, 559, rfl⟩
abbrev main_v249 : Ref sig .tc := ⟨.hbm, 560, rfl⟩
abbrev main_v250 : Ref sig .tc := ⟨.hbm, 561, rfl⟩
abbrev main_v251 : Ref sig .tc := ⟨.hbm, 562, rfl⟩
abbrev main_v252 : Ref sig .tc := ⟨.hbm, 563, rfl⟩
abbrev main_v253 : Ref sig .tc := ⟨.hbm, 564, rfl⟩
abbrev main_v254 : Ref sig .tc := ⟨.hbm, 565, rfl⟩
abbrev main_v255 : Ref sig .tc := ⟨.hbm, 566, rfl⟩
abbrev main_v256 : Ref sig .tc := ⟨.hbm, 567, rfl⟩
abbrev main_cst_78 : Ref sig .tc := ⟨.hbm, 568, rfl⟩
abbrev main_v257 : Ref sig .tc := ⟨.hbm, 569, rfl⟩
abbrev main_v258 : Ref sig .tc := ⟨.hbm, 570, rfl⟩
abbrev main_v259 : Ref sig .tc := ⟨.hbm, 571, rfl⟩
abbrev main_v260 : Ref sig .tc := ⟨.hbm, 572, rfl⟩
abbrev main_values_79 : Ref sig .tc := ⟨.hbm, 573, rfl⟩
abbrev main_indices_80 : Ref sig .tc := ⟨.hbm, 574, rfl⟩
abbrev main_c_81 : Ref sig .tc := ⟨.hbm, 575, rfl⟩
abbrev main_call19_v0 : Ref sig .tc := ⟨.hbm, 576, rfl⟩
abbrev main_call19_c : Ref sig .tc := ⟨.hbm, 577, rfl⟩
abbrev main_call19_v1 : Ref sig .tc := ⟨.hbm, 578, rfl⟩
abbrev main_call19_c_0 : Ref sig .tc := ⟨.hbm, 579, rfl⟩
abbrev main_call19_v2 : Ref sig .tc := ⟨.hbm, 580, rfl⟩
abbrev main_call19_v3 : Ref sig .tc := ⟨.hbm, 581, rfl⟩
abbrev main_call19_v4 : Ref sig .tc := ⟨.hbm, 582, rfl⟩
abbrev main_call19_c_1 : Ref sig .tc := ⟨.hbm, 583, rfl⟩
abbrev main_call19_v5 : Ref sig .tc := ⟨.hbm, 584, rfl⟩
abbrev main_call19_v6 : Ref sig .tc := ⟨.hbm, 585, rfl⟩
abbrev main_call19_c_2 : Ref sig .tc := ⟨.hbm, 586, rfl⟩
abbrev main_call19_v7 : Ref sig .tc := ⟨.hbm, 587, rfl⟩
abbrev main_call19_v8 : Ref sig .tc := ⟨.hbm, 588, rfl⟩
abbrev main_call19_c_3 : Ref sig .tc := ⟨.hbm, 589, rfl⟩
abbrev main_call19_v9 : Ref sig .tc := ⟨.hbm, 590, rfl⟩
abbrev main_call19_v10 : Ref sig .tc := ⟨.hbm, 591, rfl⟩
abbrev main_call19_v11 : Ref sig .tc := ⟨.hbm, 592, rfl⟩
abbrev main_call19_v12 : Ref sig .tc := ⟨.hbm, 593, rfl⟩
abbrev main_call19_v13 : Ref sig .tc := ⟨.hbm, 594, rfl⟩
abbrev main_call19_v14 : Ref sig .tc := ⟨.hbm, 595, rfl⟩
abbrev main_v261 : Ref sig .tc := ⟨.hbm, 596, rfl⟩
abbrev main_v262 : Ref sig .tc := ⟨.hbm, 597, rfl⟩
abbrev main_cst_82 : Ref sig .tc := ⟨.hbm, 598, rfl⟩
abbrev main_v263 : Ref sig .tc := ⟨.hbm, 599, rfl⟩
abbrev main_v264 : Ref sig .tc := ⟨.hbm, 600, rfl⟩
abbrev main_c_83 : Ref sig .tc := ⟨.hbm, 601, rfl⟩
abbrev main_call20_v0 : Ref sig .tc := ⟨.hbm, 602, rfl⟩
abbrev main_call20_v1 : Ref sig .tc := ⟨.hbm, 603, rfl⟩
abbrev main_call20_v2 : Ref sig .tc := ⟨.hbm, 604, rfl⟩
abbrev main_call20_v3 : Ref sig .tc := ⟨.hbm, 605, rfl⟩
abbrev main_call20_v4 : Ref sig .tc := ⟨.hbm, 606, rfl⟩
abbrev main_call20_v5 : Ref sig .tc := ⟨.hbm, 607, rfl⟩
abbrev main_call20_v6 : Ref sig .tc := ⟨.hbm, 608, rfl⟩
abbrev main_call20_v7 : Ref sig .tc := ⟨.hbm, 609, rfl⟩
abbrev main_call20_v8 : Ref sig .tc := ⟨.hbm, 610, rfl⟩
abbrev main_call20_c : Ref sig .tc := ⟨.hbm, 611, rfl⟩
abbrev main_call20_v9 : Ref sig .tc := ⟨.hbm, 612, rfl⟩
abbrev main_call20_v10 : Ref sig .tc := ⟨.hbm, 613, rfl⟩
abbrev main_call20_v11 : Ref sig .tc := ⟨.hbm, 614, rfl⟩
abbrev main_call20_c_0 : Ref sig .tc := ⟨.hbm, 615, rfl⟩
abbrev main_call20_v12 : Ref sig .tc := ⟨.hbm, 616, rfl⟩
abbrev main_call20_v13 : Ref sig .tc := ⟨.hbm, 617, rfl⟩
abbrev main_v265 : Ref sig .tc := ⟨.hbm, 618, rfl⟩
abbrev main_v266 : Ref sig .tc := ⟨.hbm, 619, rfl⟩
abbrev main_cst_84 : Ref sig .tc := ⟨.hbm, 620, rfl⟩
abbrev main_v267 : Ref sig .tc := ⟨.hbm, 621, rfl⟩
abbrev main_v268 : Ref sig .tc := ⟨.hbm, 622, rfl⟩
abbrev main_v269 : Ref sig .tc := ⟨.hbm, 623, rfl⟩
abbrev main_v270 : Ref sig .tc := ⟨.hbm, 624, rfl⟩
abbrev main_v271 : Ref sig .tc := ⟨.hbm, 625, rfl⟩
abbrev main_c_85 : Ref sig .tc := ⟨.hbm, 626, rfl⟩
abbrev main_call21_v0 : Ref sig .tc := ⟨.hbm, 627, rfl⟩
abbrev main_v272 : Ref sig .tc := ⟨.hbm, 628, rfl⟩
abbrev main_v273 : Ref sig .tc := ⟨.hbm, 629, rfl⟩
abbrev main_v274 : Ref sig .tc := ⟨.hbm, 630, rfl⟩
abbrev main_v275 : Ref sig .tc := ⟨.hbm, 631, rfl⟩
abbrev main_v276 : Ref sig .tc := ⟨.hbm, 632, rfl⟩
abbrev main_c_86 : Ref sig .tc := ⟨.hbm, 633, rfl⟩
abbrev main_v277 : Ref sig .tc := ⟨.hbm, 634, rfl⟩
abbrev main_v278 : Ref sig .tc := ⟨.hbm, 635, rfl⟩
abbrev main_c_87 : Ref sig .tc := ⟨.hbm, 636, rfl⟩
abbrev main_v279 : Ref sig .tc := ⟨.hbm, 637, rfl⟩
abbrev main_v280 : Ref sig .tc := ⟨.hbm, 638, rfl⟩
abbrev main_v281 : Ref sig .tc := ⟨.hbm, 639, rfl⟩
abbrev main_v282 : Ref sig .tc := ⟨.hbm, 640, rfl⟩
abbrev main_v283 : Ref sig .tc := ⟨.hbm, 641, rfl⟩
abbrev main_v284 : Ref sig .tc := ⟨.hbm, 642, rfl⟩
abbrev main_cst_88 : Ref sig .tc := ⟨.hbm, 643, rfl⟩
abbrev main_cst_89 : Ref sig .tc := ⟨.hbm, 644, rfl⟩
abbrev main_call22_v0 : Ref sig .tc := ⟨.hbm, 645, rfl⟩
abbrev main_call22_v1 : Ref sig .tc := ⟨.hbm, 646, rfl⟩
abbrev main_call22_v2 : Ref sig .tc := ⟨.hbm, 647, rfl⟩
abbrev main_call22_cst : Ref sig .tc := ⟨.hbm, 648, rfl⟩
abbrev main_call22_v3 : Ref sig .tc := ⟨.hbm, 649, rfl⟩
abbrev main_call22_v4 : Ref sig .tc := ⟨.hbm, 650, rfl⟩
abbrev main_call22_cst_0 : Ref sig .tc := ⟨.hbm, 651, rfl⟩
abbrev main_call22_v5 : Ref sig .tc := ⟨.hbm, 652, rfl⟩
abbrev main_call22_v6 : Ref sig .tc := ⟨.hbm, 653, rfl⟩
abbrev main_call22_v7 : Ref sig .tc := ⟨.hbm, 654, rfl⟩
abbrev main_call22_cst_1 : Ref sig .tc := ⟨.hbm, 655, rfl⟩
abbrev main_call22_v8 : Ref sig .tc := ⟨.hbm, 656, rfl⟩
abbrev main_call22_v9 : Ref sig .tc := ⟨.hbm, 657, rfl⟩
abbrev main_call22_v10 : Ref sig .tc := ⟨.hbm, 658, rfl⟩
abbrev main_call22_v11 : Ref sig .tc := ⟨.hbm, 659, rfl⟩
abbrev main_call22_v12 : Ref sig .tc := ⟨.hbm, 660, rfl⟩
abbrev main_call22_v13 : Ref sig .tc := ⟨.hbm, 661, rfl⟩
abbrev main_call22_v14 : Ref sig .tc := ⟨.hbm, 662, rfl⟩
abbrev main_call22_v15 : Ref sig .tc := ⟨.hbm, 663, rfl⟩
abbrev main_call22_v16 : Ref sig .tc := ⟨.hbm, 664, rfl⟩
abbrev main_v285 : Ref sig .tc := ⟨.hbm, 665, rfl⟩
abbrev main_cst_90 : Ref sig .tc := ⟨.hbm, 666, rfl⟩
abbrev main_cst_91 : Ref sig .tc := ⟨.hbm, 667, rfl⟩
abbrev main_call23_v0 : Ref sig .tc := ⟨.hbm, 668, rfl⟩
abbrev main_call23_v1 : Ref sig .tc := ⟨.hbm, 669, rfl⟩
abbrev main_call23_v2 : Ref sig .tc := ⟨.hbm, 670, rfl⟩
abbrev main_call23_cst : Ref sig .tc := ⟨.hbm, 671, rfl⟩
abbrev main_call23_v3 : Ref sig .tc := ⟨.hbm, 672, rfl⟩
abbrev main_call23_v4 : Ref sig .tc := ⟨.hbm, 673, rfl⟩
abbrev main_call23_cst_0 : Ref sig .tc := ⟨.hbm, 674, rfl⟩
abbrev main_call23_v5 : Ref sig .tc := ⟨.hbm, 675, rfl⟩
abbrev main_call23_v6 : Ref sig .tc := ⟨.hbm, 676, rfl⟩
abbrev main_call23_v7 : Ref sig .tc := ⟨.hbm, 677, rfl⟩
abbrev main_call23_cst_1 : Ref sig .tc := ⟨.hbm, 678, rfl⟩
abbrev main_call23_v8 : Ref sig .tc := ⟨.hbm, 679, rfl⟩
abbrev main_call23_v9 : Ref sig .tc := ⟨.hbm, 680, rfl⟩
abbrev main_call23_v10 : Ref sig .tc := ⟨.hbm, 681, rfl⟩
abbrev main_call23_v11 : Ref sig .tc := ⟨.hbm, 682, rfl⟩
abbrev main_call23_v12 : Ref sig .tc := ⟨.hbm, 683, rfl⟩
abbrev main_call23_v13 : Ref sig .tc := ⟨.hbm, 684, rfl⟩
abbrev main_call23_v14 : Ref sig .tc := ⟨.hbm, 685, rfl⟩
abbrev main_call23_v15 : Ref sig .tc := ⟨.hbm, 686, rfl⟩
abbrev main_call23_v16 : Ref sig .tc := ⟨.hbm, 687, rfl⟩
abbrev main_v286 : Ref sig .tc := ⟨.hbm, 688, rfl⟩
abbrev main_v287 : Ref sig .tc := ⟨.hbm, 689, rfl⟩
abbrev main_v288 : Ref sig .tc := ⟨.hbm, 690, rfl⟩
abbrev main_v289 : Ref sig .tc := ⟨.hbm, 691, rfl⟩
abbrev main_v290 : Ref sig .tc := ⟨.hbm, 692, rfl⟩
abbrev main_c_92 : Ref sig .tc := ⟨.hbm, 693, rfl⟩
abbrev main_v291 : Ref sig .tc := ⟨.hbm, 694, rfl⟩
abbrev main_v292 : Ref sig .tc := ⟨.hbm, 695, rfl⟩
abbrev main_c_93 : Ref sig .tc := ⟨.hbm, 696, rfl⟩
abbrev main_c_94 : Ref sig .tc := ⟨.hbm, 697, rfl⟩
abbrev main_call24_v0 : Ref sig .tc := ⟨.hbm, 698, rfl⟩
abbrev main_call24_v1 : Ref sig .tc := ⟨.hbm, 699, rfl⟩
abbrev main_call24_v2 : Ref sig .tc := ⟨.hbm, 700, rfl⟩
abbrev main_call24_v3 : Ref sig .tc := ⟨.hbm, 701, rfl⟩
abbrev main_call24_v4 : Ref sig .tc := ⟨.hbm, 702, rfl⟩
abbrev main_v293 : Ref sig .tc := ⟨.hbm, 703, rfl⟩
abbrev main_c_95 : Ref sig .tc := ⟨.hbm, 704, rfl⟩
abbrev main_v294 : Ref sig .tc := ⟨.hbm, 705, rfl⟩
abbrev main_v295 : Ref sig .tc := ⟨.hbm, 706, rfl⟩
abbrev main_c_96 : Ref sig .tc := ⟨.hbm, 707, rfl⟩
abbrev main_c_97 : Ref sig .tc := ⟨.hbm, 708, rfl⟩
abbrev main_call25_v0 : Ref sig .tc := ⟨.hbm, 709, rfl⟩
abbrev main_call25_v1 : Ref sig .tc := ⟨.hbm, 710, rfl⟩
abbrev main_call25_v2 : Ref sig .tc := ⟨.hbm, 711, rfl⟩
abbrev main_call25_v3 : Ref sig .tc := ⟨.hbm, 712, rfl⟩
abbrev main_call25_v4 : Ref sig .tc := ⟨.hbm, 713, rfl⟩
abbrev main_v296 : Ref sig .tc := ⟨.hbm, 714, rfl⟩
abbrev main_v297 : Ref sig .tc := ⟨.hbm, 715, rfl⟩
abbrev main_v298 : Ref sig .tc := ⟨.hbm, 716, rfl⟩
abbrev main_v299 : Ref sig .tc := ⟨.hbm, 717, rfl⟩
abbrev main_v300 : Ref sig .tc := ⟨.hbm, 718, rfl⟩
abbrev main_v301 : Ref sig .tc := ⟨.hbm, 719, rfl⟩
abbrev main_v302 : Ref sig .tc := ⟨.hbm, 720, rfl⟩
abbrev main_c_98 : Ref sig .tc := ⟨.hbm, 721, rfl⟩
abbrev main_v303 : Ref sig .tc := ⟨.hbm, 722, rfl⟩
abbrev main_v304 : Ref sig .tc := ⟨.hbm, 723, rfl⟩
abbrev main_c_99 : Ref sig .tc := ⟨.hbm, 724, rfl⟩
abbrev main_v305 : Ref sig .tc := ⟨.hbm, 725, rfl⟩
abbrev main_v306 : Ref sig .tc := ⟨.hbm, 726, rfl⟩
abbrev main_v307 : Ref sig .tc := ⟨.hbm, 727, rfl⟩
abbrev main_v308 : Ref sig .tc := ⟨.hbm, 728, rfl⟩
abbrev main_v309 : Ref sig .tc := ⟨.hbm, 729, rfl⟩
abbrev main_c_100 : Ref sig .tc := ⟨.hbm, 730, rfl⟩
abbrev main_v310 : Ref sig .tc := ⟨.hbm, 731, rfl⟩
abbrev main_v311 : Ref sig .tc := ⟨.hbm, 732, rfl⟩
abbrev main_c_101 : Ref sig .tc := ⟨.hbm, 733, rfl⟩
abbrev main_v312 : Ref sig .tc := ⟨.hbm, 734, rfl⟩
abbrev main_v313 : Ref sig .tc := ⟨.hbm, 735, rfl⟩
abbrev main_v314 : Ref sig .tc := ⟨.hbm, 736, rfl⟩
abbrev main_v315 : Ref sig .tc := ⟨.hbm, 737, rfl⟩
abbrev main_v316 : Ref sig .tc := ⟨.hbm, 738, rfl⟩
abbrev main_cst_102 : Ref sig .tc := ⟨.hbm, 739, rfl⟩
abbrev main_v317 : Ref sig .tc := ⟨.hbm, 740, rfl⟩
abbrev main_v318 : Ref sig .tc := ⟨.hbm, 741, rfl⟩
abbrev main_v319 : Ref sig .tc := ⟨.hbm, 742, rfl⟩
abbrev main_v320 : Ref sig .tc := ⟨.hbm, 743, rfl⟩
abbrev main_v321 : Ref sig .tc := ⟨.hbm, 744, rfl⟩
abbrev main_v322 : Ref sig .tc := ⟨.hbm, 745, rfl⟩
abbrev main_v323 : Ref sig .tc := ⟨.hbm, 746, rfl⟩
abbrev main_c_103 : Ref sig .tc := ⟨.hbm, 747, rfl⟩
abbrev main_v324 : Ref sig .tc := ⟨.hbm, 748, rfl⟩
abbrev main_v325 : Ref sig .tc := ⟨.hbm, 749, rfl⟩
abbrev main_c_104 : Ref sig .tc := ⟨.hbm, 750, rfl⟩
abbrev main_v326 : Ref sig .tc := ⟨.hbm, 751, rfl⟩
abbrev main_v327 : Ref sig .tc := ⟨.hbm, 752, rfl⟩
abbrev main_v328 : Ref sig .tc := ⟨.hbm, 753, rfl⟩
abbrev main_v329 : Ref sig .tc := ⟨.hbm, 754, rfl⟩
abbrev main_v330 : Ref sig .tc := ⟨.hbm, 755, rfl⟩
abbrev main_c_105 : Ref sig .tc := ⟨.hbm, 756, rfl⟩
abbrev main_v331 : Ref sig .tc := ⟨.hbm, 757, rfl⟩
abbrev main_v332 : Ref sig .tc := ⟨.hbm, 758, rfl⟩
abbrev main_c_106 : Ref sig .tc := ⟨.hbm, 759, rfl⟩
abbrev main_v333 : Ref sig .tc := ⟨.hbm, 760, rfl⟩
abbrev main_v334 : Ref sig .tc := ⟨.hbm, 761, rfl⟩
abbrev main_v335 : Ref sig .tc := ⟨.hbm, 762, rfl⟩
abbrev main_v336 : Ref sig .tc := ⟨.hbm, 763, rfl⟩
abbrev main_v337 : Ref sig .tc := ⟨.hbm, 764, rfl⟩
abbrev main_cst_107 : Ref sig .tc := ⟨.hbm, 765, rfl⟩
abbrev main_v338 : Ref sig .tc := ⟨.hbm, 766, rfl⟩
abbrev main_v339 : Ref sig .tc := ⟨.hbm, 767, rfl⟩
abbrev main_v340 : Ref sig .tc := ⟨.hbm, 768, rfl⟩
abbrev main_v341 : Ref sig .tc := ⟨.hbm, 769, rfl⟩
abbrev main_v342 : Ref sig .tc := ⟨.hbm, 770, rfl⟩
abbrev main_v343 : Ref sig .tc := ⟨.hbm, 771, rfl⟩
abbrev main_v344 : Ref sig .tc := ⟨.hbm, 772, rfl⟩
abbrev main_v345 : Ref sig .tc := ⟨.hbm, 773, rfl⟩
abbrev main_cst_108 : Ref sig .tc := ⟨.hbm, 774, rfl⟩
abbrev main_v346 : Ref sig .tc := ⟨.hbm, 775, rfl⟩
abbrev main_v347 : Ref sig .tc := ⟨.hbm, 776, rfl⟩
abbrev main_v348 : Ref sig .tc := ⟨.hbm, 777, rfl⟩
abbrev main_v349 : Ref sig .tc := ⟨.hbm, 778, rfl⟩
abbrev main_values_109 : Ref sig .tc := ⟨.hbm, 779, rfl⟩
abbrev main_indices_110 : Ref sig .tc := ⟨.hbm, 780, rfl⟩
abbrev main_c_111 : Ref sig .tc := ⟨.hbm, 781, rfl⟩
abbrev main_call26_v0 : Ref sig .tc := ⟨.hbm, 782, rfl⟩
abbrev main_call26_c : Ref sig .tc := ⟨.hbm, 783, rfl⟩
abbrev main_call26_v1 : Ref sig .tc := ⟨.hbm, 784, rfl⟩
abbrev main_call26_c_0 : Ref sig .tc := ⟨.hbm, 785, rfl⟩
abbrev main_call26_v2 : Ref sig .tc := ⟨.hbm, 786, rfl⟩
abbrev main_call26_v3 : Ref sig .tc := ⟨.hbm, 787, rfl⟩
abbrev main_call26_v4 : Ref sig .tc := ⟨.hbm, 788, rfl⟩
abbrev main_call26_c_1 : Ref sig .tc := ⟨.hbm, 789, rfl⟩
abbrev main_call26_v5 : Ref sig .tc := ⟨.hbm, 790, rfl⟩
abbrev main_call26_v6 : Ref sig .tc := ⟨.hbm, 791, rfl⟩
abbrev main_call26_c_2 : Ref sig .tc := ⟨.hbm, 792, rfl⟩
abbrev main_call26_v7 : Ref sig .tc := ⟨.hbm, 793, rfl⟩
abbrev main_call26_v8 : Ref sig .tc := ⟨.hbm, 794, rfl⟩
abbrev main_call26_c_3 : Ref sig .tc := ⟨.hbm, 795, rfl⟩
abbrev main_call26_v9 : Ref sig .tc := ⟨.hbm, 796, rfl⟩
abbrev main_call26_v10 : Ref sig .tc := ⟨.hbm, 797, rfl⟩
abbrev main_call26_v11 : Ref sig .tc := ⟨.hbm, 798, rfl⟩
abbrev main_call26_v12 : Ref sig .tc := ⟨.hbm, 799, rfl⟩
abbrev main_call26_v13 : Ref sig .tc := ⟨.hbm, 800, rfl⟩
abbrev main_call26_v14 : Ref sig .tc := ⟨.hbm, 801, rfl⟩
abbrev main_v350 : Ref sig .tc := ⟨.hbm, 802, rfl⟩
abbrev main_v351 : Ref sig .tc := ⟨.hbm, 803, rfl⟩
abbrev main_cst_112 : Ref sig .tc := ⟨.hbm, 804, rfl⟩
abbrev main_v352 : Ref sig .tc := ⟨.hbm, 805, rfl⟩
abbrev main_v353 : Ref sig .tc := ⟨.hbm, 806, rfl⟩
abbrev main_c_113 : Ref sig .tc := ⟨.hbm, 807, rfl⟩
abbrev main_call27_v0 : Ref sig .tc := ⟨.hbm, 808, rfl⟩
abbrev main_call27_v1 : Ref sig .tc := ⟨.hbm, 809, rfl⟩
abbrev main_call27_v2 : Ref sig .tc := ⟨.hbm, 810, rfl⟩
abbrev main_call27_v3 : Ref sig .tc := ⟨.hbm, 811, rfl⟩
abbrev main_call27_v4 : Ref sig .tc := ⟨.hbm, 812, rfl⟩
abbrev main_call27_v5 : Ref sig .tc := ⟨.hbm, 813, rfl⟩
abbrev main_call27_v6 : Ref sig .tc := ⟨.hbm, 814, rfl⟩
abbrev main_call27_v7 : Ref sig .tc := ⟨.hbm, 815, rfl⟩
abbrev main_call27_v8 : Ref sig .tc := ⟨.hbm, 816, rfl⟩
abbrev main_call27_c : Ref sig .tc := ⟨.hbm, 817, rfl⟩
abbrev main_call27_v9 : Ref sig .tc := ⟨.hbm, 818, rfl⟩
abbrev main_call27_v10 : Ref sig .tc := ⟨.hbm, 819, rfl⟩
abbrev main_call27_v11 : Ref sig .tc := ⟨.hbm, 820, rfl⟩
abbrev main_call27_c_0 : Ref sig .tc := ⟨.hbm, 821, rfl⟩
abbrev main_call27_v12 : Ref sig .tc := ⟨.hbm, 822, rfl⟩
abbrev main_call27_v13 : Ref sig .tc := ⟨.hbm, 823, rfl⟩
abbrev main_v354 : Ref sig .tc := ⟨.hbm, 824, rfl⟩
abbrev main_v355 : Ref sig .tc := ⟨.hbm, 825, rfl⟩
abbrev main_cst_114 : Ref sig .tc := ⟨.hbm, 826, rfl⟩
abbrev main_v356 : Ref sig .tc := ⟨.hbm, 827, rfl⟩
abbrev main_v357 : Ref sig .tc := ⟨.hbm, 828, rfl⟩
abbrev main_v358 : Ref sig .tc := ⟨.hbm, 829, rfl⟩
abbrev main_v359 : Ref sig .tc := ⟨.hbm, 830, rfl⟩
abbrev main_v360 : Ref sig .tc := ⟨.hbm, 831, rfl⟩
abbrev main_c_115 : Ref sig .tc := ⟨.hbm, 832, rfl⟩
abbrev main_call28_v0 : Ref sig .tc := ⟨.hbm, 833, rfl⟩
abbrev main_v361 : Ref sig .tc := ⟨.hbm, 834, rfl⟩
abbrev main_v362 : Ref sig .tc := ⟨.hbm, 835, rfl⟩
abbrev main_v363 : Ref sig .tc := ⟨.hbm, 836, rfl⟩
abbrev main_v364 : Ref sig .tc := ⟨.hbm, 837, rfl⟩
abbrev main_v365 : Ref sig .tc := ⟨.hbm, 838, rfl⟩
abbrev main_c_116 : Ref sig .tc := ⟨.hbm, 839, rfl⟩
abbrev main_v366 : Ref sig .tc := ⟨.hbm, 840, rfl⟩
abbrev main_v367 : Ref sig .tc := ⟨.hbm, 841, rfl⟩
abbrev main_c_117 : Ref sig .tc := ⟨.hbm, 842, rfl⟩
abbrev main_v368 : Ref sig .tc := ⟨.hbm, 843, rfl⟩
abbrev main_v369 : Ref sig .tc := ⟨.hbm, 844, rfl⟩
abbrev main_v370 : Ref sig .tc := ⟨.hbm, 845, rfl⟩
abbrev main_v371 : Ref sig .tc := ⟨.hbm, 846, rfl⟩
abbrev main_v372 : Ref sig .tc := ⟨.hbm, 847, rfl⟩
abbrev main_v373 : Ref sig .tc := ⟨.hbm, 848, rfl⟩
abbrev main_v374 : Ref sig .tc := ⟨.hbm, 849, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2048x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S2048x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S2048x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]
-- ==== ReferenceIdeal.lean ====
abbrev S2x64 : Shape := ⟨2, ![2, 64]⟩
abbrev S64 : Shape := ⟨1, ![64]⟩
abbrev S64x1 : Shape := ⟨2, ![64, 1]⟩
abbrev S1 : Shape := ⟨1, ![1]⟩
abbrev S1x1x2 : Shape := ⟨3, ![1, 1, 2]⟩
abbrev S_ : Shape := ⟨0, ![]⟩
abbrev S128 : Shape := ⟨1, ![128]⟩
abbrev S129 : Shape := ⟨1, ![129]⟩
abbrev S129x129 : Shape := ⟨2, ![129, 129]⟩
abbrev S1x129x129 : Shape := ⟨3, ![1, 129, 129]⟩
abbrev S2x129x129 : Shape := ⟨3, ![2, 129, 129]⟩
abbrev S2x16641 : Shape := ⟨2, ![2, 16641]⟩
abbrev S16641x2 : Shape := ⟨2, ![16641, 2]⟩
abbrev S1x16641x2 : Shape := ⟨3, ![1, 16641, 2]⟩
abbrev S1x16641x64 : Shape := ⟨3, ![1, 16641, 64]⟩
abbrev S1x1x64 : Shape := ⟨3, ![1, 1, 64]⟩
abbrev S1x16641x1 : Shape := ⟨3, ![1, 16641, 1]⟩
abbrev S1x1x1 : Shape := ⟨3, ![1, 1, 1]⟩
abbrev S1x1x16641 : Shape := ⟨3, ![1, 1, 16641]⟩
abbrev S1x1x129x129 : Shape := ⟨4, ![1, 1, 129, 129]⟩
abbrev S256 : Shape := ⟨1, ![256]⟩
abbrev S257 : Shape := ⟨1, ![257]⟩
abbrev S1x1x257x1 : Shape := ⟨4, ![1, 1, 257, 1]⟩
abbrev S1x1x1x257 : Shape := ⟨4, ![1, 1, 1, 257]⟩
abbrev S257x1 : Shape := ⟨2, ![257, 1]⟩
abbrev S1x1x257x129 : Shape := ⟨4, ![1, 1, 257, 129]⟩
abbrev S1x1x257x257 : Shape := ⟨4, ![1, 1, 257, 257]⟩
abbrev S1x66049 : Shape := ⟨2, ![1, 66049]⟩
abbrev S1x16384 : Shape := ⟨2, ![1, 16384]⟩
abbrev S1x16384x1 : Shape := ⟨3, ![1, 16384, 1]⟩
abbrev S1x16384x2 : Shape := ⟨3, ![1, 16384, 2]⟩
abbrev S1x16384x64 : Shape := ⟨3, ![1, 16384, 64]⟩
abbrev S1x1x16384 : Shape := ⟨3, ![1, 1, 16384]⟩
abbrev S1x1x66049 : Shape := ⟨3, ![1, 1, 66049]⟩
abbrev S1x1x16384x1 : Shape := ⟨4, ![1, 1, 16384, 1]⟩
abbrev S1x1x16384x3 : Shape := ⟨4, ![1, 1, 16384, 3]⟩
abbrev S512 : Shape := ⟨1, ![512]⟩
abbrev S513 : Shape := ⟨1, ![513]⟩
abbrev S1x1x513x1 : Shape := ⟨4, ![1, 1, 513, 1]⟩
abbrev S1x1x1x513 : Shape := ⟨4, ![1, 1, 1, 513]⟩
abbrev S513x1 : Shape := ⟨2, ![513, 1]⟩
abbrev S1x1x513x257 : Shape := ⟨4, ![1, 1, 513, 257]⟩
abbrev S1x1x513x513 : Shape := ⟨4, ![1, 1, 513, 513]⟩
abbrev S1x263169 : Shape := ⟨2, ![1, 263169]⟩
abbrev S1x32768 : Shape := ⟨2, ![1, 32768]⟩
abbrev S1x32768x1 : Shape := ⟨3, ![1, 32768, 1]⟩
abbrev S1x32768x2 : Shape := ⟨3, ![1, 32768, 2]⟩
abbrev S1x32768x64 : Shape := ⟨3, ![1, 32768, 64]⟩
abbrev S1x1x32768 : Shape := ⟨3, ![1, 1, 32768]⟩
abbrev S1x1x263169 : Shape := ⟨3, ![1, 1, 263169]⟩
abbrev S1x1x32768x1 : Shape := ⟨4, ![1, 1, 32768, 1]⟩
abbrev S1x1x32768x3 : Shape := ⟨4, ![1, 1, 32768, 3]⟩
abbrev S1024 : Shape := ⟨1, ![1024]⟩
abbrev S1025 : Shape := ⟨1, ![1025]⟩
abbrev S1x1x1025x1 : Shape := ⟨4, ![1, 1, 1025, 1]⟩
abbrev S1x1x1x1025 : Shape := ⟨4, ![1, 1, 1, 1025]⟩
abbrev S1025x1 : Shape := ⟨2, ![1025, 1]⟩
abbrev S1x1x1025x513 : Shape := ⟨4, ![1, 1, 1025, 513]⟩
abbrev S1x1x1025x1025 : Shape := ⟨4, ![1, 1, 1025, 1025]⟩
abbrev S1x1050625 : Shape := ⟨2, ![1, 1050625]⟩
abbrev S1x65536 : Shape := ⟨2, ![1, 65536]⟩
abbrev S1x65536x1 : Shape := ⟨3, ![1, 65536, 1]⟩
abbrev S1x65536x2 : Shape := ⟨3, ![1, 65536, 2]⟩
abbrev S1x65536x64 : Shape := ⟨3, ![1, 65536, 64]⟩
abbrev S1x1x65536 : Shape := ⟨3, ![1, 1, 65536]⟩
abbrev S1x1x1050625 : Shape := ⟨3, ![1, 1, 1050625]⟩
abbrev S1x1x65536x1 : Shape := ⟨4, ![1, 1, 65536, 1]⟩
abbrev S1x1x65536x3 : Shape := ⟨4, ![1, 1, 65536, 3]⟩
abbrev S2048 : Shape := ⟨1, ![2048]⟩
abbrev S2049 : Shape := ⟨1, ![2049]⟩
abbrev S1x1x2049x1 : Shape := ⟨4, ![1, 1, 2049, 1]⟩
abbrev S1x1x1x2049 : Shape := ⟨4, ![1, 1, 1, 2049]⟩
abbrev S2049x1 : Shape := ⟨2, ![2049, 1]⟩
abbrev S1x1x2049x1025 : Shape := ⟨4, ![1, 1, 2049, 1025]⟩
abbrev S1x1x2049x2049 : Shape := ⟨4, ![1, 1, 2049, 2049]⟩
abbrev S1x4198401 : Shape := ⟨2, ![1, 4198401]⟩
abbrev S1x131072 : Shape := ⟨2, ![1, 131072]⟩
abbrev S1x131072x1 : Shape := ⟨3, ![1, 131072, 1]⟩
abbrev S1x131072x2 : Shape := ⟨3, ![1, 131072, 2]⟩
abbrev S1x131072x64 : Shape := ⟨3, ![1, 131072, 64]⟩
abbrev S1x1x131072 : Shape := ⟨3, ![1, 1, 131072]⟩
abbrev S1x1x4198401 : Shape := ⟨3, ![1, 1, 4198401]⟩
abbrev S1x1x131072x1 : Shape := ⟨4, ![1, 1, 131072, 1]⟩
abbrev S1x1x131072x3 : Shape := ⟨4, ![1, 1, 131072, 3]⟩

abbrev nBuf : Space → Nat
  | .hbm => 1065
  | .vmem => 0
  | .smem => 0
  | _ => 0

abbrev hbmTy0_0 (i : Nat) : BufTy := match i % 128 with
  | 0 => ⟨S2x64, .f32⟩
  | 1 => ⟨S64, .f32⟩
  | 2 => ⟨S64x1, .f32⟩
  | 3 => ⟨S1, .f32⟩
  | 4 => ⟨S1x1x2, .f32⟩
  | 5 => ⟨S1x1x2, .f32⟩
  | 6 => ⟨S_, .i32⟩
  | 7 => ⟨S_, .i32⟩
  | 8 => ⟨S_, .f32⟩
  | 9 => ⟨S_, .f32⟩
  | 10 => ⟨S_, .f32⟩
  | 11 => ⟨S_, .f32⟩
  | 12 => ⟨S_, .f32⟩
  | 13 => ⟨S128, .f32⟩
  | 14 => ⟨S_, .f32⟩
  | 15 => ⟨S128, .f32⟩
  | 16 => ⟨S128, .f32⟩
  | 17 => ⟨S1, .f32⟩
  | 18 => ⟨S_, .f32⟩
  | 19 => ⟨S128, .f32⟩
  | 20 => ⟨S128, .f32⟩
  | 21 => ⟨S128, .f32⟩
  | 22 => ⟨S128, .f32⟩
  | 23 => ⟨S1, .f32⟩
  | 24 => ⟨S128, .f32⟩
  | 25 => ⟨S128, .f32⟩
  | 26 => ⟨S128, .f32⟩
  | 27 => ⟨S1, .f32⟩
  | 28 => ⟨S129, .f32⟩
  | 29 => ⟨S129, .i32⟩
  | 30 => ⟨S129x129, .i32⟩
  | 31 => ⟨S129x129, .i32⟩
  | 32 => ⟨S1x129x129, .i32⟩
  | 33 => ⟨S1x129x129, .i32⟩
  | 34 => ⟨S2x129x129, .i32⟩
  | 35 => ⟨S2x16641, .i32⟩
  | 36 => ⟨S16641x2, .i32⟩
  | 37 => ⟨S1x16641x2, .i32⟩
  | 38 => ⟨S1x16641x2, .f32⟩
  | 39 => ⟨S_, .f32⟩
  | 40 => ⟨S1x16641x2, .f32⟩
  | 41 => ⟨S1x16641x2, .f32⟩
  | 42 => ⟨S_, .f32⟩
  | 43 => ⟨S1x16641x2, .f32⟩
  | 44 => ⟨S1x16641x2, .f32⟩
  | 45 => ⟨S1x1x2, .f32⟩
  | 46 => ⟨S1x16641x2, .f32⟩
  | 47 => ⟨S1x16641x2, .f32⟩
  | 48 => ⟨S1x16641x2, .f32⟩
  | 49 => ⟨S1x16641x2, .f32⟩
  | 50 => ⟨S1x16641x64, .f32⟩
  | 51 => ⟨S1x1x64, .f32⟩
  | 52 => ⟨S1x16641x64, .f32⟩
  | 53 => ⟨S1x16641x64, .f32⟩
  | 54 => ⟨S1x16641x64, .f32⟩
  | 55 => ⟨S1x16641x1, .f32⟩
  | 56 => ⟨S1x1x1, .f32⟩
  | 57 => ⟨S1x16641x1, .f32⟩
  | 58 => ⟨S1x16641x1, .f32⟩
  | 59 => ⟨S1x16641x1, .f32⟩
  | 60 => ⟨S1x16641x1, .f32⟩
  | 61 => ⟨S_, .f32⟩
  | 62 => ⟨S1x16641x1, .f32⟩
  | 63 => ⟨S1x16641x1, .f32⟩
  | 64 => ⟨S_, .f32⟩
  | 65 => ⟨S1x16641x1, .f32⟩
  | 66 => ⟨S1x16641x1, .f32⟩
  | 67 => ⟨S1x1x16641, .f32⟩
  | 68 => ⟨S1x1x129x129, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S256, .f32⟩
  | 77 => ⟨S_, .f32⟩
  | 78 => ⟨S256, .f32⟩
  | 79 => ⟨S256, .f32⟩
  | 80 => ⟨S1, .f32⟩
  | 81 => ⟨S_, .f32⟩
  | 82 => ⟨S256, .f32⟩
  | 83 => ⟨S256, .f32⟩
  | 84 => ⟨S256, .f32⟩
  | 85 => ⟨S256, .f32⟩
  | 86 => ⟨S1, .f32⟩
  | 87 => ⟨S256, .f32⟩
  | 88 => ⟨S256, .f32⟩
  | 89 => ⟨S256, .f32⟩
  | 90 => ⟨S1, .f32⟩
  | 91 => ⟨S257, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S256, .f32⟩
  | 100 => ⟨S_, .f32⟩
  | 101 => ⟨S256, .f32⟩
  | 102 => ⟨S256, .f32⟩
  | 103 => ⟨S1, .f32⟩
  | 104 => ⟨S_, .f32⟩
  | 105 => ⟨S256, .f32⟩
  | 106 => ⟨S256, .f32⟩
  | 107 => ⟨S256, .f32⟩
  | 108 => ⟨S256, .f32⟩
  | 109 => ⟨S1, .f32⟩
  | 110 => ⟨S256, .f32⟩
  | 111 => ⟨S256, .f32⟩
  | 112 => ⟨S256, .f32⟩
  | 113 => ⟨S1, .f32⟩
  | 114 => ⟨S257, .f32⟩
  | 115 => ⟨S257, .f32⟩
  | 116 => ⟨S257, .i32⟩
  | 117 => ⟨S257, .f32⟩
  | 118 => ⟨S257, .i32⟩
  | 119 => ⟨S_, .i32⟩
  | 120 => ⟨S257, .i32⟩
  | 121 => ⟨S257, .i32⟩
  | 122 => ⟨S_, .i32⟩
  | 123 => ⟨S_, .i32⟩
  | 124 => ⟨S_, .i32⟩
  | 125 => ⟨S257, .i32⟩
  | 126 => ⟨S257, .i32⟩
  | 127 => ⟨S_, .i32⟩
  | _ => ⟨S2x64, .f32⟩

abbrev hbmTy0_1 (i : Nat) : BufTy := match i % 128 with
  | 0 => ⟨S257, .i32⟩
  | 1 => ⟨S257, .i32⟩
  | 2 => ⟨S_, .i32⟩
  | 3 => ⟨S257, .i32⟩
  | 4 => ⟨S257, .i32⟩
  | 5 => ⟨S_, .i32⟩
  | 6 => ⟨S_, .i32⟩
  | 7 => ⟨S_, .i32⟩
  | 8 => ⟨S257, .i32⟩
  | 9 => ⟨S257, .i32⟩
  | 10 => ⟨S_, .i32⟩
  | 11 => ⟨S257, .i32⟩
  | 12 => ⟨S257, .i32⟩
  | 13 => ⟨S257, .f32⟩
  | 14 => ⟨S257, .f32⟩
  | 15 => ⟨S1x1x257x1, .f32⟩
  | 16 => ⟨S257, .f32⟩
  | 17 => ⟨S257, .f32⟩
  | 18 => ⟨S1x1x1x257, .f32⟩
  | 19 => ⟨S_, .i32⟩
  | 20 => ⟨S257, .i32⟩
  | 21 => ⟨S257, .i1⟩
  | 22 => ⟨S_, .i32⟩
  | 23 => ⟨S257, .i32⟩
  | 24 => ⟨S257, .i32⟩
  | 25 => ⟨S257, .i32⟩
  | 26 => ⟨S257x1, .i32⟩
  | 27 => ⟨S1x1x257x129, .f32⟩
  | 28 => ⟨S_, .i32⟩
  | 29 => ⟨S257, .i32⟩
  | 30 => ⟨S257, .i1⟩
  | 31 => ⟨S_, .i32⟩
  | 32 => ⟨S257, .i32⟩
  | 33 => ⟨S257, .i32⟩
  | 34 => ⟨S257, .i32⟩
  | 35 => ⟨S257x1, .i32⟩
  | 36 => ⟨S1x1x257x129, .f32⟩
  | 37 => ⟨S_, .f32⟩
  | 38 => ⟨S1x1x257x1, .f32⟩
  | 39 => ⟨S1x1x257x1, .f32⟩
  | 40 => ⟨S1x1x257x129, .f32⟩
  | 41 => ⟨S1x1x257x129, .f32⟩
  | 42 => ⟨S1x1x257x129, .f32⟩
  | 43 => ⟨S1x1x257x129, .f32⟩
  | 44 => ⟨S1x1x257x129, .f32⟩
  | 45 => ⟨S_, .i32⟩
  | 46 => ⟨S257, .i32⟩
  | 47 => ⟨S257, .i1⟩
  | 48 => ⟨S_, .i32⟩
  | 49 => ⟨S257, .i32⟩
  | 50 => ⟨S257, .i32⟩
  | 51 => ⟨S257, .i32⟩
  | 52 => ⟨S257x1, .i32⟩
  | 53 => ⟨S1x1x257x257, .f32⟩
  | 54 => ⟨S_, .i32⟩
  | 55 => ⟨S257, .i32⟩
  | 56 => ⟨S257, .i1⟩
  | 57 => ⟨S_, .i32⟩
  | 58 => ⟨S257, .i32⟩
  | 59 => ⟨S257, .i32⟩
  | 60 => ⟨S257, .i32⟩
  | 61 => ⟨S257x1, .i32⟩
  | 62 => ⟨S1x1x257x257, .f32⟩
  | 63 => ⟨S_, .f32⟩
  | 64 => ⟨S1x1x1x257, .f32⟩
  | 65 => ⟨S1x1x1x257, .f32⟩
  | 66 => ⟨S1x1x257x257, .f32⟩
  | 67 => ⟨S1x1x257x257, .f32⟩
  | 68 => ⟨S1x1x257x257, .f32⟩
  | 69 => ⟨S1x1x257x257, .f32⟩
  | 70 => ⟨S1x1x257x257, .f32⟩
  | 71 => ⟨S_, .f32⟩
  | 72 => ⟨S1x1x257x257, .f32⟩
  | 73 => ⟨S1x1x257x257, .f32⟩
  | 74 => ⟨S1x1x257x257, .f32⟩
  | 75 => ⟨S1x1x257x257, .f32⟩
  | 76 => ⟨S1x66049, .f32⟩
  | 77 => ⟨S1x16384, .f32⟩
  | 78 => ⟨S1x16384, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S1x16384, .i32⟩
  | 86 => ⟨S1x16384, .i32⟩
  | 87 => ⟨S_, .i32⟩
  | 88 => ⟨S1x16384, .i32⟩
  | 89 => ⟨S1x16384, .i1⟩
  | 90 => ⟨S_, .i32⟩
  | 91 => ⟨S1x16384, .i32⟩
  | 92 => ⟨S1x16384, .i1⟩
  | 93 => ⟨S_, .i32⟩
  | 94 => ⟨S_, .i1⟩
  | 95 => ⟨S1x16384, .i1⟩
  | 96 => ⟨S1x16384, .i1⟩
  | 97 => ⟨S1x16384, .i1⟩
  | 98 => ⟨S1x16384, .i32⟩
  | 99 => ⟨S1x16384, .i32⟩
  | 100 => ⟨S1x16384, .i32⟩
  | 101 => ⟨S_, .i32⟩
  | 102 => ⟨S_, .i32⟩
  | 103 => ⟨S1x16384, .i32⟩
  | 104 => ⟨S1x16384, .i32⟩
  | 105 => ⟨S1x16384, .i32⟩
  | 106 => ⟨S_, .i32⟩
  | 107 => ⟨S1x16384, .i32⟩
  | 108 => ⟨S1x16384, .i1⟩
  | 109 => ⟨S1x16384, .i32⟩
  | 110 => ⟨S1x16384, .i32⟩
  | 111 => ⟨S_, .i32⟩
  | 112 => ⟨S1x16384, .i32⟩
  | 113 => ⟨S1x16384, .i1⟩
  | 114 => ⟨S1x16384, .i1⟩
  | 115 => ⟨S_, .i32⟩
  | 116 => ⟨S1x16384, .i32⟩
  | 117 => ⟨S1x16384, .i32⟩
  | 118 => ⟨S1x16384, .i32⟩
  | 119 => ⟨S1x16384x1, .i32⟩
  | 120 => ⟨S1x16384x1, .i32⟩
  | 121 => ⟨S1x16384x2, .i32⟩
  | 122 => ⟨S1x16384x2, .f32⟩
  | 123 => ⟨S_, .f32⟩
  | 124 => ⟨S1x16384x2, .f32⟩
  | 125 => ⟨S1x16384x2, .f32⟩
  | 126 => ⟨S_, .f32⟩
  | 127 => ⟨S1x16384x2, .f32⟩
  | _ => ⟨S2x64, .f32⟩

abbrev hbmTy0_2 (i : Nat) : BufTy := match i % 128 with
  | 0 => ⟨S1x16384x2, .f32⟩
  | 1 => ⟨S_, .f32⟩
  | 2 => ⟨S1x16384x2, .f32⟩
  | 3 => ⟨S1x16384x2, .f32⟩
  | 4 => ⟨S1x1x2, .f32⟩
  | 5 => ⟨S1x16384x2, .f32⟩
  | 6 => ⟨S1x16384x2, .f32⟩
  | 7 => ⟨S1x16384x2, .f32⟩
  | 8 => ⟨S1x16384x2, .f32⟩
  | 9 => ⟨S1x16384x64, .f32⟩
  | 10 => ⟨S1x1x64, .f32⟩
  | 11 => ⟨S1x16384x64, .f32⟩
  | 12 => ⟨S1x16384x64, .f32⟩
  | 13 => ⟨S1x16384x64, .f32⟩
  | 14 => ⟨S1x16384x1, .f32⟩
  | 15 => ⟨S1x1x1, .f32⟩
  | 16 => ⟨S1x16384x1, .f32⟩
  | 17 => ⟨S1x16384x1, .f32⟩
  | 18 => ⟨S1x16384x1, .f32⟩
  | 19 => ⟨S1x16384x1, .f32⟩
  | 20 => ⟨S_, .f32⟩
  | 21 => ⟨S1x16384x1, .f32⟩
  | 22 => ⟨S1x16384x1, .f32⟩
  | 23 => ⟨S_, .f32⟩
  | 24 => ⟨S1x16384x1, .f32⟩
  | 25 => ⟨S1x16384x1, .f32⟩
  | 26 => ⟨S1x1x16384, .f32⟩
  | 27 => ⟨S1x1x66049, .f32⟩
  | 28 => ⟨S1, .i32⟩
  | 29 => ⟨S1x1x1, .i32⟩
  | 30 => ⟨S1, .i32⟩
  | 31 => ⟨S1x1x1, .i32⟩
  | 32 => ⟨S1x1x16384, .i32⟩
  | 33 => ⟨S_, .i32⟩
  | 34 => ⟨S1x1x1, .i32⟩
  | 35 => ⟨S1x1x1, .i1⟩
  | 36 => ⟨S_, .i32⟩
  | 37 => ⟨S1x1x1, .i32⟩
  | 38 => ⟨S1x1x1, .i32⟩
  | 39 => ⟨S1x1x1, .i32⟩
  | 40 => ⟨S_, .i32⟩
  | 41 => ⟨S1x1x1, .i32⟩
  | 42 => ⟨S1x1x1, .i1⟩
  | 43 => ⟨S_, .i32⟩
  | 44 => ⟨S1x1x1, .i32⟩
  | 45 => ⟨S1x1x1, .i32⟩
  | 46 => ⟨S1x1x1, .i32⟩
  | 47 => ⟨S_, .i32⟩
  | 48 => ⟨S1x1x16384, .i32⟩
  | 49 => ⟨S1x1x16384, .i1⟩
  | 50 => ⟨S_, .i32⟩
  | 51 => ⟨S1x1x16384, .i32⟩
  | 52 => ⟨S1x1x16384, .i32⟩
  | 53 => ⟨S1x1x16384, .i32⟩
  | 54 => ⟨S1x1x16384, .i32⟩
  | 55 => ⟨S1x1x16384, .i32⟩
  | 56 => ⟨S1x1x16384x1, .i32⟩
  | 57 => ⟨S1x1x16384x1, .i32⟩
  | 58 => ⟨S1x1x16384x1, .i32⟩
  | 59 => ⟨S1x1x16384x3, .i32⟩
  | 60 => ⟨S1x1x66049, .f32⟩
  | 61 => ⟨S1x1x257x257, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S512, .f32⟩
  | 70 => ⟨S_, .f32⟩
  | 71 => ⟨S512, .f32⟩
  | 72 => ⟨S512, .f32⟩
  | 73 => ⟨S1, .f32⟩
  | 74 => ⟨S_, .f32⟩
  | 75 => ⟨S512, .f32⟩
  | 76 => ⟨S512, .f32⟩
  | 77 => ⟨S512, .f32⟩
  | 78 => ⟨S512, .f32⟩
  | 79 => ⟨S1, .f32⟩
  | 80 => ⟨S512, .f32⟩
  | 81 => ⟨S512, .f32⟩
  | 82 => ⟨S512, .f32⟩
  | 83 => ⟨S1, .f32⟩
  | 84 => ⟨S513, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S512, .f32⟩
  | 93 => ⟨S_, .f32⟩
  | 94 => ⟨S512, .f32⟩
  | 95 => ⟨S512, .f32⟩
  | 96 => ⟨S1, .f32⟩
  | 97 => ⟨S_, .f32⟩
  | 98 => ⟨S512, .f32⟩
  | 99 => ⟨S512, .f32⟩
  | 100 => ⟨S512, .f32⟩
  | 101 => ⟨S512, .f32⟩
  | 102 => ⟨S1, .f32⟩
  | 103 => ⟨S512, .f32⟩
  | 104 => ⟨S512, .f32⟩
  | 105 => ⟨S512, .f32⟩
  | 106 => ⟨S1, .f32⟩
  | 107 => ⟨S513, .f32⟩
  | 108 => ⟨S513, .f32⟩
  | 109 => ⟨S513, .i32⟩
  | 110 => ⟨S513, .f32⟩
  | 111 => ⟨S513, .i32⟩
  | 112 => ⟨S_, .i32⟩
  | 113 => ⟨S513, .i32⟩
  | 114 => ⟨S513, .i32⟩
  | 115 => ⟨S_, .i32⟩
  | 116 => ⟨S_, .i32⟩
  | 117 => ⟨S_, .i32⟩
  | 118 => ⟨S513, .i32⟩
  | 119 => ⟨S513, .i32⟩
  | 120 => ⟨S_, .i32⟩
  | 121 => ⟨S513, .i32⟩
  | 122 => ⟨S513, .i32⟩
  | 123 => ⟨S_, .i32⟩
  | 124 => ⟨S513, .i32⟩
  | 125 => ⟨S513, .i32⟩
  | 126 => ⟨S_, .i32⟩
  | 127 => ⟨S_, .i32⟩
  | _ => ⟨S2x64, .f32⟩

abbrev hbmTy0_3 (i : Nat) : BufTy := match i % 128 with
  | 0 => ⟨S_, .i32⟩
  | 1 => ⟨S513, .i32⟩
  | 2 => ⟨S513, .i32⟩
  | 3 => ⟨S_, .i32⟩
  | 4 => ⟨S513, .i32⟩
  | 5 => ⟨S513, .i32⟩
  | 6 => ⟨S513, .f32⟩
  | 7 => ⟨S513, .f32⟩
  | 8 => ⟨S1x1x513x1, .f32⟩
  | 9 => ⟨S513, .f32⟩
  | 10 => ⟨S513, .f32⟩
  | 11 => ⟨S1x1x1x513, .f32⟩
  | 12 => ⟨S_, .i32⟩
  | 13 => ⟨S513, .i32⟩
  | 14 => ⟨S513, .i1⟩
  | 15 => ⟨S_, .i32⟩
  | 16 => ⟨S513, .i32⟩
  | 17 => ⟨S513, .i32⟩
  | 18 => ⟨S513, .i32⟩
  | 19 => ⟨S513x1, .i32⟩
  | 20 => ⟨S1x1x513x257, .f32⟩
  | 21 => ⟨S_, .i32⟩
  | 22 => ⟨S513, .i32⟩
  | 23 => ⟨S513, .i1⟩
  | 24 => ⟨S_, .i32⟩
  | 25 => ⟨S513, .i32⟩
  | 26 => ⟨S513, .i32⟩
  | 27 => ⟨S513, .i32⟩
  | 28 => ⟨S513x1, .i32⟩
  | 29 => ⟨S1x1x513x257, .f32⟩
  | 30 => ⟨S_, .f32⟩
  | 31 => ⟨S1x1x513x1, .f32⟩
  | 32 => ⟨S1x1x513x1, .f32⟩
  | 33 => ⟨S1x1x513x257, .f32⟩
  | 34 => ⟨S1x1x513x257, .f32⟩
  | 35 => ⟨S1x1x513x257, .f32⟩
  | 36 => ⟨S1x1x513x257, .f32⟩
  | 37 => ⟨S1x1x513x257, .f32⟩
  | 38 => ⟨S_, .i32⟩
  | 39 => ⟨S513, .i32⟩
  | 40 => ⟨S513, .i1⟩
  | 41 => ⟨S_, .i32⟩
  | 42 => ⟨S513, .i32⟩
  | 43 => ⟨S513, .i32⟩
  | 44 => ⟨S513, .i32⟩
  | 45 => ⟨S513x1, .i32⟩
  | 46 => ⟨S1x1x513x513, .f32⟩
  | 47 => ⟨S_, .i32⟩
  | 48 => ⟨S513, .i32⟩
  | 49 => ⟨S513, .i1⟩
  | 50 => ⟨S_, .i32⟩
  | 51 => ⟨S513, .i32⟩
  | 52 => ⟨S513, .i32⟩
  | 53 => ⟨S513, .i32⟩
  | 54 => ⟨S513x1, .i32⟩
  | 55 => ⟨S1x1x513x513, .f32⟩
  | 56 => ⟨S_, .f32⟩
  | 57 => ⟨S1x1x1x513, .f32⟩
  | 58 => ⟨S1x1x1x513, .f32⟩
  | 59 => ⟨S1x1x513x513, .f32⟩
  | 60 => ⟨S1x1x513x513, .f32⟩
  | 61 => ⟨S1x1x513x513, .f32⟩
  | 62 => ⟨S1x1x513x513, .f32⟩
  | 63 => ⟨S1x1x513x513, .f32⟩
  | 64 => ⟨S_, .f32⟩
  | 65 => ⟨S1x1x513x513, .f32⟩
  | 66 => ⟨S1x1x513x513, .f32⟩
  | 67 => ⟨S1x1x513x513, .f32⟩
  | 68 => ⟨S1x1x513x513, .f32⟩
  | 69 => ⟨S1x263169, .f32⟩
  | 70 => ⟨S1x32768, .f32⟩
  | 71 => ⟨S1x32768, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1x32768, .i32⟩
  | 79 => ⟨S1x32768, .i32⟩
  | 80 => ⟨S_, .i32⟩
  | 81 => ⟨S1x32768, .i32⟩
  | 82 => ⟨S1x32768, .i1⟩
  | 83 => ⟨S_, .i32⟩
  | 84 => ⟨S1x32768, .i32⟩
  | 85 => ⟨S1x32768, .i1⟩
  | 86 => ⟨S_, .i32⟩
  | 87 => ⟨S_, .i1⟩
  | 88 => ⟨S1x32768, .i1⟩
  | 89 => ⟨S1x32768, .i1⟩
  | 90 => ⟨S1x32768, .i1⟩
  | 91 => ⟨S1x32768, .i32⟩
  | 92 => ⟨S1x32768, .i32⟩
  | 93 => ⟨S1x32768, .i32⟩
  | 94 => ⟨S_, .i32⟩
  | 95 => ⟨S_, .i32⟩
  | 96 => ⟨S1x32768, .i32⟩
  | 97 => ⟨S1x32768, .i32⟩
  | 98 => ⟨S1x32768, .i32⟩
  | 99 => ⟨S_, .i32⟩
  | 100 => ⟨S1x32768, .i32⟩
  | 101 => ⟨S1x32768, .i1⟩
  | 102 => ⟨S1x32768, .i32⟩
  | 103 => ⟨S1x32768, .i32⟩
  | 104 => ⟨S_, .i32⟩
  | 105 => ⟨S1x32768, .i32⟩
  | 106 => ⟨S1x32768, .i1⟩
  | 107 => ⟨S1x32768, .i1⟩
  | 108 => ⟨S_, .i32⟩
  | 109 => ⟨S1x32768, .i32⟩
  | 110 => ⟨S1x32768, .i32⟩
  | 111 => ⟨S1x32768, .i32⟩
  | 112 => ⟨S1x32768x1, .i32⟩
  | 113 => ⟨S1x32768x1, .i32⟩
  | 114 => ⟨S1x32768x2, .i32⟩
  | 115 => ⟨S1x32768x2, .f32⟩
  | 116 => ⟨S_, .f32⟩
  | 117 => ⟨S1x32768x2, .f32⟩
  | 118 => ⟨S1x32768x2, .f32⟩
  | 119 => ⟨S_, .f32⟩
  | 120 => ⟨S1x32768x2, .f32⟩
  | 121 => ⟨S1x32768x2, .f32⟩
  | 122 => ⟨S_, .f32⟩
  | 123 => ⟨S1x32768x2, .f32⟩
  | 124 => ⟨S1x32768x2, .f32⟩
  | 125 => ⟨S1x1x2, .f32⟩
  | 126 => ⟨S1x32768x2, .f32⟩
  | 127 => ⟨S1x32768x2, .f32⟩
  | _ => ⟨S2x64, .f32⟩

abbrev hbmTy0_4 (i : Nat) : BufTy := match i % 128 with
  | 0 => ⟨S1x32768x2, .f32⟩
  | 1 => ⟨S1x32768x2, .f32⟩
  | 2 => ⟨S1x32768x64, .f32⟩
  | 3 => ⟨S1x1x64, .f32⟩
  | 4 => ⟨S1x32768x64, .f32⟩
  | 5 => ⟨S1x32768x64, .f32⟩
  | 6 => ⟨S1x32768x64, .f32⟩
  | 7 => ⟨S1x32768x1, .f32⟩
  | 8 => ⟨S1x1x1, .f32⟩
  | 9 => ⟨S1x32768x1, .f32⟩
  | 10 => ⟨S1x32768x1, .f32⟩
  | 11 => ⟨S1x32768x1, .f32⟩
  | 12 => ⟨S1x32768x1, .f32⟩
  | 13 => ⟨S_, .f32⟩
  | 14 => ⟨S1x32768x1, .f32⟩
  | 15 => ⟨S1x32768x1, .f32⟩
  | 16 => ⟨S_, .f32⟩
  | 17 => ⟨S1x32768x1, .f32⟩
  | 18 => ⟨S1x32768x1, .f32⟩
  | 19 => ⟨S1x1x32768, .f32⟩
  | 20 => ⟨S1x1x263169, .f32⟩
  | 21 => ⟨S1, .i32⟩
  | 22 => ⟨S1x1x1, .i32⟩
  | 23 => ⟨S1, .i32⟩
  | 24 => ⟨S1x1x1, .i32⟩
  | 25 => ⟨S1x1x32768, .i32⟩
  | 26 => ⟨S_, .i32⟩
  | 27 => ⟨S1x1x1, .i32⟩
  | 28 => ⟨S1x1x1, .i1⟩
  | 29 => ⟨S_, .i32⟩
  | 30 => ⟨S1x1x1, .i32⟩
  | 31 => ⟨S1x1x1, .i32⟩
  | 32 => ⟨S1x1x1, .i32⟩
  | 33 => ⟨S_, .i32⟩
  | 34 => ⟨S1x1x1, .i32⟩
  | 35 => ⟨S1x1x1, .i1⟩
  | 36 => ⟨S_, .i32⟩
  | 37 => ⟨S1x1x1, .i32⟩
  | 38 => ⟨S1x1x1, .i32⟩
  | 39 => ⟨S1x1x1, .i32⟩
  | 40 => ⟨S_, .i32⟩
  | 41 => ⟨S1x1x32768, .i32⟩
  | 42 => ⟨S1x1x32768, .i1⟩
  | 43 => ⟨S_, .i32⟩
  | 44 => ⟨S1x1x32768, .i32⟩
  | 45 => ⟨S1x1x32768, .i32⟩
  | 46 => ⟨S1x1x32768, .i32⟩
  | 47 => ⟨S1x1x32768, .i32⟩
  | 48 => ⟨S1x1x32768, .i32⟩
  | 49 => ⟨S1x1x32768x1, .i32⟩
  | 50 => ⟨S1x1x32768x1, .i32⟩
  | 51 => ⟨S1x1x32768x1, .i32⟩
  | 52 => ⟨S1x1x32768x3, .i32⟩
  | 53 => ⟨S1x1x263169, .f32⟩
  | 54 => ⟨S1x1x513x513, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S1024, .f32⟩
  | 63 => ⟨S_, .f32⟩
  | 64 => ⟨S1024, .f32⟩
  | 65 => ⟨S1024, .f32⟩
  | 66 => ⟨S1, .f32⟩
  | 67 => ⟨S_, .f32⟩
  | 68 => ⟨S1024, .f32⟩
  | 69 => ⟨S1024, .f32⟩
  | 70 => ⟨S1024, .f32⟩
  | 71 => ⟨S1024, .f32⟩
  | 72 => ⟨S1, .f32⟩
  | 73 => ⟨S1024, .f32⟩
  | 74 => ⟨S1024, .f32⟩
  | 75 => ⟨S1024, .f32⟩
  | 76 => ⟨S1, .f32⟩
  | 77 => ⟨S1025, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1024, .f32⟩
  | 86 => ⟨S_, .f32⟩
  | 87 => ⟨S1024, .f32⟩
  | 88 => ⟨S1024, .f32⟩
  | 89 => ⟨S1, .f32⟩
  | 90 => ⟨S_, .f32⟩
  | 91 => ⟨S1024, .f32⟩
  | 92 => ⟨S1024, .f32⟩
  | 93 => ⟨S1024, .f32⟩
  | 94 => ⟨S1024, .f32⟩
  | 95 => ⟨S1, .f32⟩
  | 96 => ⟨S1024, .f32⟩
  | 97 => ⟨S1024, .f32⟩
  | 98 => ⟨S1024, .f32⟩
  | 99 => ⟨S1, .f32⟩
  | 100 => ⟨S1025, .f32⟩
  | 101 => ⟨S1025, .f32⟩
  | 102 => ⟨S1025, .i32⟩
  | 103 => ⟨S1025, .f32⟩
  | 104 => ⟨S1025, .i32⟩
  | 105 => ⟨S_, .i32⟩
  | 106 => ⟨S1025, .i32⟩
  | 107 => ⟨S1025, .i32⟩
  | 108 => ⟨S_, .i32⟩
  | 109 => ⟨S_, .i32⟩
  | 110 => ⟨S_, .i32⟩
  | 111 => ⟨S1025, .i32⟩
  | 112 => ⟨S1025, .i32⟩
  | 113 => ⟨S_, .i32⟩
  | 114 => ⟨S1025, .i32⟩
  | 115 => ⟨S1025, .i32⟩
  | 116 => ⟨S_, .i32⟩
  | 117 => ⟨S1025, .i32⟩
  | 118 => ⟨S1025, .i32⟩
  | 119 => ⟨S_, .i32⟩
  | 120 => ⟨S_, .i32⟩
  | 121 => ⟨S_, .i32⟩
  | 122 => ⟨S1025, .i32⟩
  | 123 => ⟨S1025, .i32⟩
  | 124 => ⟨S_, .i32⟩
  | 125 => ⟨S1025, .i32⟩
  | 126 => ⟨S1025, .i32⟩
  | 127 => ⟨S1025, .f32⟩
  | _ => ⟨S2x64, .f32⟩

abbrev hbmTy0_5 (i : Nat) : BufTy := match i % 128 with
  | 0 => ⟨S1025, .f32⟩
  | 1 => ⟨S1x1x1025x1, .f32⟩
  | 2 => ⟨S1025, .f32⟩
  | 3 => ⟨S1025, .f32⟩
  | 4 => ⟨S1x1x1x1025, .f32⟩
  | 5 => ⟨S_, .i32⟩
  | 6 => ⟨S1025, .i32⟩
  | 7 => ⟨S1025, .i1⟩
  | 8 => ⟨S_, .i32⟩
  | 9 => ⟨S1025, .i32⟩
  | 10 => ⟨S1025, .i32⟩
  | 11 => ⟨S1025, .i32⟩
  | 12 => ⟨S1025x1, .i32⟩
  | 13 => ⟨S1x1x1025x513, .f32⟩
  | 14 => ⟨S_, .i32⟩
  | 15 => ⟨S1025, .i32⟩
  | 16 => ⟨S1025, .i1⟩
  | 17 => ⟨S_, .i32⟩
  | 18 => ⟨S1025, .i32⟩
  | 19 => ⟨S1025, .i32⟩
  | 20 => ⟨S1025, .i32⟩
  | 21 => ⟨S1025x1, .i32⟩
  | 22 => ⟨S1x1x1025x513, .f32⟩
  | 23 => ⟨S_, .f32⟩
  | 24 => ⟨S1x1x1025x1, .f32⟩
  | 25 => ⟨S1x1x1025x1, .f32⟩
  | 26 => ⟨S1x1x1025x513, .f32⟩
  | 27 => ⟨S1x1x1025x513, .f32⟩
  | 28 => ⟨S1x1x1025x513, .f32⟩
  | 29 => ⟨S1x1x1025x513, .f32⟩
  | 30 => ⟨S1x1x1025x513, .f32⟩
  | 31 => ⟨S_, .i32⟩
  | 32 => ⟨S1025, .i32⟩
  | 33 => ⟨S1025, .i1⟩
  | 34 => ⟨S_, .i32⟩
  | 35 => ⟨S1025, .i32⟩
  | 36 => ⟨S1025, .i32⟩
  | 37 => ⟨S1025, .i32⟩
  | 38 => ⟨S1025x1, .i32⟩
  | 39 => ⟨S1x1x1025x1025, .f32⟩
  | 40 => ⟨S_, .i32⟩
  | 41 => ⟨S1025, .i32⟩
  | 42 => ⟨S1025, .i1⟩
  | 43 => ⟨S_, .i32⟩
  | 44 => ⟨S1025, .i32⟩
  | 45 => ⟨S1025, .i32⟩
  | 46 => ⟨S1025, .i32⟩
  | 47 => ⟨S1025x1, .i32⟩
  | 48 => ⟨S1x1x1025x1025, .f32⟩
  | 49 => ⟨S_, .f32⟩
  | 50 => ⟨S1x1x1x1025, .f32⟩
  | 51 => ⟨S1x1x1x1025, .f32⟩
  | 52 => ⟨S1x1x1025x1025, .f32⟩
  | 53 => ⟨S1x1x1025x1025, .f32⟩
  | 54 => ⟨S1x1x1025x1025, .f32⟩
  | 55 => ⟨S1x1x1025x1025, .f32⟩
  | 56 => ⟨S1x1x1025x1025, .f32⟩
  | 57 => ⟨S_, .f32⟩
  | 58 => ⟨S1x1x1025x1025, .f32⟩
  | 59 => ⟨S1x1x1025x1025, .f32⟩
  | 60 => ⟨S1x1x1025x1025, .f32⟩
  | 61 => ⟨S1x1x1025x1025, .f32⟩
  | 62 => ⟨S1x1050625, .f32⟩
  | 63 => ⟨S1x65536, .f32⟩
  | 64 => ⟨S1x65536, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S1x65536, .i32⟩
  | 72 => ⟨S1x65536, .i32⟩
  | 73 => ⟨S_, .i32⟩
  | 74 => ⟨S1x65536, .i32⟩
  | 75 => ⟨S1x65536, .i1⟩
  | 76 => ⟨S_, .i32⟩
  | 77 => ⟨S1x65536, .i32⟩
  | 78 => ⟨S1x65536, .i1⟩
  | 79 => ⟨S_, .i32⟩
  | 80 => ⟨S_, .i1⟩
  | 81 => ⟨S1x65536, .i1⟩
  | 82 => ⟨S1x65536, .i1⟩
  | 83 => ⟨S1x65536, .i1⟩
  | 84 => ⟨S1x65536, .i32⟩
  | 85 => ⟨S1x65536, .i32⟩
  | 86 => ⟨S1x65536, .i32⟩
  | 87 => ⟨S_, .i32⟩
  | 88 => ⟨S_, .i32⟩
  | 89 => ⟨S1x65536, .i32⟩
  | 90 => ⟨S1x65536, .i32⟩
  | 91 => ⟨S1x65536, .i32⟩
  | 92 => ⟨S_, .i32⟩
  | 93 => ⟨S1x65536, .i32⟩
  | 94 => ⟨S1x65536, .i1⟩
  | 95 => ⟨S1x65536, .i32⟩
  | 96 => ⟨S1x65536, .i32⟩
  | 97 => ⟨S_, .i32⟩
  | 98 => ⟨S1x65536, .i32⟩
  | 99 => ⟨S1x65536, .i1⟩
  | 100 => ⟨S1x65536, .i1⟩
  | 101 => ⟨S_, .i32⟩
  | 102 => ⟨S1x65536, .i32⟩
  | 103 => ⟨S1x65536, .i32⟩
  | 104 => ⟨S1x65536, .i32⟩
  | 105 => ⟨S1x65536x1, .i32⟩
  | 106 => ⟨S1x65536x1, .i32⟩
  | 107 => ⟨S1x65536x2, .i32⟩
  | 108 => ⟨S1x65536x2, .f32⟩
  | 109 => ⟨S_, .f32⟩
  | 110 => ⟨S1x65536x2, .f32⟩
  | 111 => ⟨S1x65536x2, .f32⟩
  | 112 => ⟨S_, .f32⟩
  | 113 => ⟨S1x65536x2, .f32⟩
  | 114 => ⟨S1x65536x2, .f32⟩
  | 115 => ⟨S_, .f32⟩
  | 116 => ⟨S1x65536x2, .f32⟩
  | 117 => ⟨S1x65536x2, .f32⟩
  | 118 => ⟨S1x1x2, .f32⟩
  | 119 => ⟨S1x65536x2, .f32⟩
  | 120 => ⟨S1x65536x2, .f32⟩
  | 121 => ⟨S1x65536x2, .f32⟩
  | 122 => ⟨S1x65536x2, .f32⟩
  | 123 => ⟨S1x65536x64, .f32⟩
  | 124 => ⟨S1x1x64, .f32⟩
  | 125 => ⟨S1x65536x64, .f32⟩
  | 126 => ⟨S1x65536x64, .f32⟩
  | 127 => ⟨S1x65536x64, .f32⟩
  | _ => ⟨S2x64, .f32⟩

abbrev hbmTy0_6 (i : Nat) : BufTy := match i % 128 with
  | 0 => ⟨S1x65536x1, .f32⟩
  | 1 => ⟨S1x1x1, .f32⟩
  | 2 => ⟨S1x65536x1, .f32⟩
  | 3 => ⟨S1x65536x1, .f32⟩
  | 4 => ⟨S1x65536x1, .f32⟩
  | 5 => ⟨S1x65536x1, .f32⟩
  | 6 => ⟨S_, .f32⟩
  | 7 => ⟨S1x65536x1, .f32⟩
  | 8 => ⟨S1x65536x1, .f32⟩
  | 9 => ⟨S_, .f32⟩
  | 10 => ⟨S1x65536x1, .f32⟩
  | 11 => ⟨S1x65536x1, .f32⟩
  | 12 => ⟨S1x1x65536, .f32⟩
  | 13 => ⟨S1x1x1050625, .f32⟩
  | 14 => ⟨S1, .i32⟩
  | 15 => ⟨S1x1x1, .i32⟩
  | 16 => ⟨S1, .i32⟩
  | 17 => ⟨S1x1x1, .i32⟩
  | 18 => ⟨S1x1x65536, .i32⟩
  | 19 => ⟨S_, .i32⟩
  | 20 => ⟨S1x1x1, .i32⟩
  | 21 => ⟨S1x1x1, .i1⟩
  | 22 => ⟨S_, .i32⟩
  | 23 => ⟨S1x1x1, .i32⟩
  | 24 => ⟨S1x1x1, .i32⟩
  | 25 => ⟨S1x1x1, .i32⟩
  | 26 => ⟨S_, .i32⟩
  | 27 => ⟨S1x1x1, .i32⟩
  | 28 => ⟨S1x1x1, .i1⟩
  | 29 => ⟨S_, .i32⟩
  | 30 => ⟨S1x1x1, .i32⟩
  | 31 => ⟨S1x1x1, .i32⟩
  | 32 => ⟨S1x1x1, .i32⟩
  | 33 => ⟨S_, .i32⟩
  | 34 => ⟨S1x1x65536, .i32⟩
  | 35 => ⟨S1x1x65536, .i1⟩
  | 36 => ⟨S_, .i32⟩
  | 37 => ⟨S1x1x65536, .i32⟩
  | 38 => ⟨S1x1x65536, .i32⟩
  | 39 => ⟨S1x1x65536, .i32⟩
  | 40 => ⟨S1x1x65536, .i32⟩
  | 41 => ⟨S1x1x65536, .i32⟩
  | 42 => ⟨S1x1x65536x1, .i32⟩
  | 43 => ⟨S1x1x65536x1, .i32⟩
  | 44 => ⟨S1x1x65536x1, .i32⟩
  | 45 => ⟨S1x1x65536x3, .i32⟩
  | 46 => ⟨S1x1x1050625, .f32⟩
  | 47 => ⟨S1x1x1025x1025, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S2048, .f32⟩
  | 56 => ⟨S_, .f32⟩
  | 57 => ⟨S2048, .f32⟩
  | 58 => ⟨S2048, .f32⟩
  | 59 => ⟨S1, .f32⟩
  | 60 => ⟨S_, .f32⟩
  | 61 => ⟨S2048, .f32⟩
  | 62 => ⟨S2048, .f32⟩
  | 63 => ⟨S2048, .f32⟩
  | 64 => ⟨S2048, .f32⟩
  | 65 => ⟨S1, .f32⟩
  | 66 => ⟨S2048, .f32⟩
  | 67 => ⟨S2048, .f32⟩
  | 68 => ⟨S2048, .f32⟩
  | 69 => ⟨S1, .f32⟩
  | 70 => ⟨S2049, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S2048, .f32⟩
  | 79 => ⟨S_, .f32⟩
  | 80 => ⟨S2048, .f32⟩
  | 81 => ⟨S2048, .f32⟩
  | 82 => ⟨S1, .f32⟩
  | 83 => ⟨S_, .f32⟩
  | 84 => ⟨S2048, .f32⟩
  | 85 => ⟨S2048, .f32⟩
  | 86 => ⟨S2048, .f32⟩
  | 87 => ⟨S2048, .f32⟩
  | 88 => ⟨S1, .f32⟩
  | 89 => ⟨S2048, .f32⟩
  | 90 => ⟨S2048, .f32⟩
  | 91 => ⟨S2048, .f32⟩
  | 92 => ⟨S1, .f32⟩
  | 93 => ⟨S2049, .f32⟩
  | 94 => ⟨S2049, .f32⟩
  | 95 => ⟨S2049, .i32⟩
  | 96 => ⟨S2049, .f32⟩
  | 97 => ⟨S2049, .i32⟩
  | 98 => ⟨S_, .i32⟩
  | 99 => ⟨S2049, .i32⟩
  | 100 => ⟨S2049, .i32⟩
  | 101 => ⟨S_, .i32⟩
  | 102 => ⟨S_, .i32⟩
  | 103 => ⟨S_, .i32⟩
  | 104 => ⟨S2049, .i32⟩
  | 105 => ⟨S2049, .i32⟩
  | 106 => ⟨S_, .i32⟩
  | 107 => ⟨S2049, .i32⟩
  | 108 => ⟨S2049, .i32⟩
  | 109 => ⟨S_, .i32⟩
  | 110 => ⟨S2049, .i32⟩
  | 111 => ⟨S2049, .i32⟩
  | 112 => ⟨S_, .i32⟩
  | 113 => ⟨S_, .i32⟩
  | 114 => ⟨S_, .i32⟩
  | 115 => ⟨S2049, .i32⟩
  | 116 => ⟨S2049, .i32⟩
  | 117 => ⟨S_, .i32⟩
  | 118 => ⟨S2049, .i32⟩
  | 119 => ⟨S2049, .i32⟩
  | 120 => ⟨S2049, .f32⟩
  | 121 => ⟨S2049, .f32⟩
  | 122 => ⟨S1x1x2049x1, .f32⟩
  | 123 => ⟨S2049, .f32⟩
  | 124 => ⟨S2049, .f32⟩
  | 125 => ⟨S1x1x1x2049, .f32⟩
  | 126 => ⟨S_, .i32⟩
  | 127 => ⟨S2049, .i32⟩
  | _ => ⟨S2x64, .f32⟩

abbrev hbmTy0_7 (i : Nat) : BufTy := match i % 128 with
  | 0 => ⟨S2049, .i1⟩
  | 1 => ⟨S_, .i32⟩
  | 2 => ⟨S2049, .i32⟩
  | 3 => ⟨S2049, .i32⟩
  | 4 => ⟨S2049, .i32⟩
  | 5 => ⟨S2049x1, .i32⟩
  | 6 => ⟨S1x1x2049x1025, .f32⟩
  | 7 => ⟨S_, .i32⟩
  | 8 => ⟨S2049, .i32⟩
  | 9 => ⟨S2049, .i1⟩
  | 10 => ⟨S_, .i32⟩
  | 11 => ⟨S2049, .i32⟩
  | 12 => ⟨S2049, .i32⟩
  | 13 => ⟨S2049, .i32⟩
  | 14 => ⟨S2049x1, .i32⟩
  | 15 => ⟨S1x1x2049x1025, .f32⟩
  | 16 => ⟨S_, .f32⟩
  | 17 => ⟨S1x1x2049x1, .f32⟩
  | 18 => ⟨S1x1x2049x1, .f32⟩
  | 19 => ⟨S1x1x2049x1025, .f32⟩
  | 20 => ⟨S1x1x2049x1025, .f32⟩
  | 21 => ⟨S1x1x2049x1025, .f32⟩
  | 22 => ⟨S1x1x2049x1025, .f32⟩
  | 23 => ⟨S1x1x2049x1025, .f32⟩
  | 24 => ⟨S_, .i32⟩
  | 25 => ⟨S2049, .i32⟩
  | 26 => ⟨S2049, .i1⟩
  | 27 => ⟨S_, .i32⟩
  | 28 => ⟨S2049, .i32⟩
  | 29 => ⟨S2049, .i32⟩
  | 30 => ⟨S2049, .i32⟩
  | 31 => ⟨S2049x1, .i32⟩
  | 32 => ⟨S1x1x2049x2049, .f32⟩
  | 33 => ⟨S_, .i32⟩
  | 34 => ⟨S2049, .i32⟩
  | 35 => ⟨S2049, .i1⟩
  | 36 => ⟨S_, .i32⟩
  | 37 => ⟨S2049, .i32⟩
  | 38 => ⟨S2049, .i32⟩
  | 39 => ⟨S2049, .i32⟩
  | 40 => ⟨S2049x1, .i32⟩
  | 41 => ⟨S1x1x2049x2049, .f32⟩
  | 42 => ⟨S_, .f32⟩
  | 43 => ⟨S1x1x1x2049, .f32⟩
  | 44 => ⟨S1x1x1x2049, .f32⟩
  | 45 => ⟨S1x1x2049x2049, .f32⟩
  | 46 => ⟨S1x1x2049x2049, .f32⟩
  | 47 => ⟨S1x1x2049x2049, .f32⟩
  | 48 => ⟨S1x1x2049x2049, .f32⟩
  | 49 => ⟨S1x1x2049x2049, .f32⟩
  | 50 => ⟨S_, .f32⟩
  | 51 => ⟨S1x1x2049x2049, .f32⟩
  | 52 => ⟨S1x1x2049x2049, .f32⟩
  | 53 => ⟨S1x1x2049x2049, .f32⟩
  | 54 => ⟨S1x1x2049x2049, .f32⟩
  | 55 => ⟨S1x4198401, .f32⟩
  | 56 => ⟨S1x131072, .f32⟩
  | 57 => ⟨S1x131072, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S1x131072, .i32⟩
  | 65 => ⟨S1x131072, .i32⟩
  | 66 => ⟨S_, .i32⟩
  | 67 => ⟨S1x131072, .i32⟩
  | 68 => ⟨S1x131072, .i1⟩
  | 69 => ⟨S_, .i32⟩
  | 70 => ⟨S1x131072, .i32⟩
  | 71 => ⟨S1x131072, .i1⟩
  | 72 => ⟨S_, .i32⟩
  | 73 => ⟨S_, .i1⟩
  | 74 => ⟨S1x131072, .i1⟩
  | 75 => ⟨S1x131072, .i1⟩
  | 76 => ⟨S1x131072, .i1⟩
  | 77 => ⟨S1x131072, .i32⟩
  | 78 => ⟨S1x131072, .i32⟩
  | 79 => ⟨S1x131072, .i32⟩
  | 80 => ⟨S_, .i32⟩
  | 81 => ⟨S_, .i32⟩
  | 82 => ⟨S1x131072, .i32⟩
  | 83 => ⟨S1x131072, .i32⟩
  | 84 => ⟨S1x131072, .i32⟩
  | 85 => ⟨S_, .i32⟩
  | 86 => ⟨S1x131072, .i32⟩
  | 87 => ⟨S1x131072, .i1⟩
  | 88 => ⟨S1x131072, .i32⟩
  | 89 => ⟨S1x131072, .i32⟩
  | 90 => ⟨S_, .i32⟩
  | 91 => ⟨S1x131072, .i32⟩
  | 92 => ⟨S1x131072, .i1⟩
  | 93 => ⟨S1x131072, .i1⟩
  | 94 => ⟨S_, .i32⟩
  | 95 => ⟨S1x131072, .i32⟩
  | 96 => ⟨S1x131072, .i32⟩
  | 97 => ⟨S1x131072, .i32⟩
  | 98 => ⟨S1x131072x1, .i32⟩
  | 99 => ⟨S1x131072x1, .i32⟩
  | 100 => ⟨S1x131072x2, .i32⟩
  | 101 => ⟨S1x131072x2, .f32⟩
  | 102 => ⟨S_, .f32⟩
  | 103 => ⟨S1x131072x2, .f32⟩
  | 104 => ⟨S1x131072x2, .f32⟩
  | 105 => ⟨S_, .f32⟩
  | 106 => ⟨S1x131072x2, .f32⟩
  | 107 => ⟨S1x131072x2, .f32⟩
  | 108 => ⟨S_, .f32⟩
  | 109 => ⟨S1x131072x2, .f32⟩
  | 110 => ⟨S1x131072x2, .f32⟩
  | 111 => ⟨S1x1x2, .f32⟩
  | 112 => ⟨S1x131072x2, .f32⟩
  | 113 => ⟨S1x131072x2, .f32⟩
  | 114 => ⟨S1x131072x2, .f32⟩
  | 115 => ⟨S1x131072x2, .f32⟩
  | 116 => ⟨S1x131072x64, .f32⟩
  | 117 => ⟨S1x1x64, .f32⟩
  | 118 => ⟨S1x131072x64, .f32⟩
  | 119 => ⟨S1x131072x64, .f32⟩
  | 120 => ⟨S1x131072x64, .f32⟩
  | 121 => ⟨S1x131072x1, .f32⟩
  | 122 => ⟨S1x1x1, .f32⟩
  | 123 => ⟨S1x131072x1, .f32⟩
  | 124 => ⟨S1x131072x1, .f32⟩
  | 125 => ⟨S1x131072x1, .f32⟩
  | 126 => ⟨S1x131072x1, .f32⟩
  | 127 => ⟨S_, .f32⟩
  | _ => ⟨S2x64, .f32⟩

abbrev hbmTy0_8 (i : Nat) : BufTy := match i % 128 with
  | 0 => ⟨S1x131072x1, .f32⟩
  | 1 => ⟨S1x131072x1, .f32⟩
  | 2 => ⟨S_, .f32⟩
  | 3 => ⟨S1x131072x1, .f32⟩
  | 4 => ⟨S1x131072x1, .f32⟩
  | 5 => ⟨S1x1x131072, .f32⟩
  | 6 => ⟨S1x1x4198401, .f32⟩
  | 7 => ⟨S1, .i32⟩
  | 8 => ⟨S1x1x1, .i32⟩
  | 9 => ⟨S1, .i32⟩
  | 10 => ⟨S1x1x1, .i32⟩
  | 11 => ⟨S1x1x131072, .i32⟩
  | 12 => ⟨S_, .i32⟩
  | 13 => ⟨S1x1x1, .i32⟩
  | 14 => ⟨S1x1x1, .i1⟩
  | 15 => ⟨S_, .i32⟩
  | 16 => ⟨S1x1x1, .i32⟩
  | 17 => ⟨S1x1x1, .i32⟩
  | 18 => ⟨S1x1x1, .i32⟩
  | 19 => ⟨S_, .i32⟩
  | 20 => ⟨S1x1x1, .i32⟩
  | 21 => ⟨S1x1x1, .i1⟩
  | 22 => ⟨S_, .i32⟩
  | 23 => ⟨S1x1x1, .i32⟩
  | 24 => ⟨S1x1x1, .i32⟩
  | 25 => ⟨S1x1x1, .i32⟩
  | 26 => ⟨S_, .i32⟩
  | 27 => ⟨S1x1x131072, .i32⟩
  | 28 => ⟨S1x1x131072, .i1⟩
  | 29 => ⟨S_, .i32⟩
  | 30 => ⟨S1x1x131072, .i32⟩
  | 31 => ⟨S1x1x131072, .i32⟩
  | 32 => ⟨S1x1x131072, .i32⟩
  | 33 => ⟨S1x1x131072, .i32⟩
  | 34 => ⟨S1x1x131072, .i32⟩
  | 35 => ⟨S1x1x131072x1, .i32⟩
  | 36 => ⟨S1x1x131072x1, .i32⟩
  | 37 => ⟨S1x1x131072x1, .i32⟩
  | 38 => ⟨S1x1x131072x3, .i32⟩
  | 39 => ⟨S1x1x4198401, .f32⟩
  | 40 => ⟨S1x1x2049x2049, .f32⟩
  | _ => ⟨S2x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x64, .f32⟩

abbrev bufTy : (tb : Table) → Fin (tcTables nBuf tb) → BufTy
  | .hbm, ⟨i, _⟩ => hbmTy i
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_cst_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_cst : Ref sig .tc := ⟨.hbm, 74, rfl⟩
abbrev main_call1_v3 : Ref sig .tc := ⟨.hbm, 75, rfl⟩
abbrev main_call1_v4 : Ref sig .tc := ⟨.hbm, 76, rfl⟩
abbrev main_call1_cst_0 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_v15 : Ref sig .tc := ⟨.hbm, 89, rfl⟩
abbrev main_call1_v16 : Ref sig .tc := ⟨.hbm, 90, rfl⟩
abbrev main_v37 : Ref sig .tc := ⟨.hbm, 91, rfl⟩
abbrev main_cst_8 : Ref sig .tc := ⟨.hbm, 92, rfl⟩
abbrev main_cst_9 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_cst : Ref sig .tc := ⟨.hbm, 97, rfl⟩
abbrev main_call2_v3 : Ref sig .tc := ⟨.hbm, 98, rfl⟩
abbrev main_call2_v4 : Ref sig .tc := ⟨.hbm, 99, rfl⟩
abbrev main_call2_cst_0 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_cst_1 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_v15 : Ref sig .tc := ⟨.hbm, 112, rfl⟩
abbrev main_call2_v16 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_c_10 : Ref sig .tc := ⟨.hbm, 119, rfl⟩
abbrev main_v43 : Ref sig .tc := ⟨.hbm, 120, rfl⟩
abbrev main_v44 : Ref sig .tc := ⟨.hbm, 121, rfl⟩
abbrev main_c_11 : Ref sig .tc := ⟨.hbm, 122, rfl⟩
abbrev main_c_12 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v45 : Ref sig .tc := ⟨.hbm, 129, rfl⟩
abbrev main_c_13 : Ref sig .tc := ⟨.hbm, 130, rfl⟩
abbrev main_v46 : Ref sig .tc := ⟨.hbm, 131, rfl⟩
abbrev main_v47 : Ref sig .tc := ⟨.hbm, 132, rfl⟩
abbrev main_c_14 : Ref sig .tc := ⟨.hbm, 133, rfl⟩
abbrev main_c_15 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_c_16 : Ref sig .tc := ⟨.hbm, 147, rfl⟩
abbrev main_v55 : Ref sig .tc := ⟨.hbm, 148, rfl⟩
abbrev main_v56 : Ref sig .tc := ⟨.hbm, 149, rfl⟩
abbrev main_c_17 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_c_18 : Ref sig .tc := ⟨.hbm, 156, rfl⟩
abbrev main_v62 : Ref sig .tc := ⟨.hbm, 157, rfl⟩
abbrev main_v63 : Ref sig .tc := ⟨.hbm, 158, rfl⟩
abbrev main_c_19 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_cst_20 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_c_21 : Ref sig .tc := ⟨.hbm, 173, rfl⟩
abbrev main_v76 : Ref sig .tc := ⟨.hbm, 174, rfl⟩
abbrev main_v77 : Ref sig .tc := ⟨.hbm, 175, rfl⟩
abbrev main_c_22 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_c_23 : Ref sig .tc := ⟨.hbm, 182, rfl⟩
abbrev main_v83 : Ref sig .tc := ⟨.hbm, 183, rfl⟩
abbrev main_v84 : Ref sig .tc := ⟨.hbm, 184, rfl⟩
abbrev main_c_24 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_cst_25 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_cst_26 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_values : Ref sig .tc := ⟨.hbm, 205, rfl⟩
abbrev main_indices : Ref sig .tc := ⟨.hbm, 206, rfl⟩
abbrev main_c_27 : Ref sig .tc := ⟨.hbm, 207, rfl⟩
abbrev main_call5_v0 : Ref sig .tc := ⟨.hbm, 208, rfl⟩
abbrev main_call5_c : Ref sig .tc := ⟨.hbm, 209, rfl⟩
abbrev main_call5_v1 : Ref sig .tc := ⟨.hbm, 210, rfl⟩
abbrev main_call5_c_0 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_call5_c_1 : Ref sig .tc := ⟨.hbm, 215, rfl⟩
abbrev main_call5_v5 : Ref sig .tc := ⟨.hbm, 216, rfl⟩
abbrev main_call5_v6 : Ref sig .tc := ⟨.hbm, 217, rfl⟩
abbrev main_call5_c_2 : Ref sig .tc := ⟨.hbm, 218, rfl⟩
abbrev main_call5_v7 : Ref sig .tc := ⟨.hbm, 219, rfl⟩
abbrev main_call5_v8 : Ref sig .tc := ⟨.hbm, 220, rfl⟩
abbrev main_call5_c_3 : Ref sig .tc := ⟨.hbm, 221, rfl⟩
abbrev main_call5_v9 : Ref sig .tc := ⟨.hbm, 222, rfl⟩
abbrev main_call5_v10 : Ref sig .tc := ⟨.hbm, 223, rfl⟩
abbrev main_call5_v11 : Ref sig .tc := ⟨.hbm, 224, rfl⟩
abbrev main_call5_v12 : Ref sig .tc := ⟨.hbm, 225, rfl⟩
abbrev main_call5_v13 : Ref sig .tc := ⟨.hbm, 226, rfl⟩
abbrev main_call5_v14 : Ref sig .tc := ⟨.hbm, 227, rfl⟩
abbrev main_v102 : Ref sig .tc := ⟨.hbm, 228, rfl⟩
abbrev main_c_28 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_v6 : Ref sig .tc := ⟨.hbm, 236, rfl⟩
abbrev main_call6_v7 : Ref sig .tc := ⟨.hbm, 237, rfl⟩
abbrev main_call6_v8 : Ref sig .tc := ⟨.hbm, 238, rfl⟩
abbrev main_call6_c : Ref sig .tc := ⟨.hbm, 239, rfl⟩
abbrev main_call6_v9 : Ref sig .tc := ⟨.hbm, 240, rfl⟩
abbrev main_call6_v10 : Ref sig .tc := ⟨.hbm, 241, rfl⟩
abbrev main_call6_v11 : Ref sig .tc := ⟨.hbm, 242, rfl⟩
abbrev main_call6_c_0 : Ref sig .tc := ⟨.hbm, 243, rfl⟩
abbrev main_call6_v12 : Ref sig .tc := ⟨.hbm, 244, rfl⟩
abbrev main_call6_v13 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_cst_29 : Ref sig .tc := ⟨.hbm, 251, rfl⟩
abbrev main_v108 : Ref sig .tc := ⟨.hbm, 252, rfl⟩
abbrev main_v109 : Ref sig .tc := ⟨.hbm, 253, rfl⟩
abbrev main_cst_30 : Ref sig .tc := ⟨.hbm, 254, rfl⟩
abbrev main_v110 : Ref sig .tc := ⟨.hbm, 255, rfl⟩
abbrev main_v111 : Ref sig .tc := ⟨.hbm, 256, rfl⟩
abbrev main_cst_31 : Ref sig .tc := ⟨.hbm, 257, rfl⟩
abbrev main_v112 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_v119 : Ref sig .tc := ⟨.hbm, 265, rfl⟩
abbrev main_v120 : Ref sig .tc := ⟨.hbm, 266, rfl⟩
abbrev main_v121 : Ref sig .tc := ⟨.hbm, 267, rfl⟩
abbrev main_v122 : Ref sig .tc := ⟨.hbm, 268, rfl⟩
abbrev main_v123 : Ref sig .tc := ⟨.hbm, 269, rfl⟩
abbrev main_v124 : Ref sig .tc := ⟨.hbm, 270, rfl⟩
abbrev main_v125 : Ref sig .tc := ⟨.hbm, 271, rfl⟩
abbrev main_v126 : Ref sig .tc := ⟨.hbm, 272, rfl⟩
abbrev main_v127 : Ref sig .tc := ⟨.hbm, 273, rfl⟩
abbrev main_v128 : Ref sig .tc := ⟨.hbm, 274, rfl⟩
abbrev main_v129 : Ref sig .tc := ⟨.hbm, 275, rfl⟩
abbrev main_cst_32 : Ref sig .tc := ⟨.hbm, 276, rfl⟩
abbrev main_v130 : Ref sig .tc := ⟨.hbm, 277, rfl⟩
abbrev main_v131 : Ref sig .tc := ⟨.hbm, 278, rfl⟩
abbrev main_cst_33 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_c_34 : Ref sig .tc := ⟨.hbm, 289, rfl⟩
abbrev main_v141 : Ref sig .tc := ⟨.hbm, 290, rfl⟩
abbrev main_v142 : Ref sig .tc := ⟨.hbm, 291, rfl⟩
abbrev main_c_35 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_c_36 : Ref sig .tc := ⟨.hbm, 296, rfl⟩
abbrev main_v146 : Ref sig .tc := ⟨.hbm, 297, rfl⟩
abbrev main_v147 : Ref sig .tc := ⟨.hbm, 298, rfl⟩
abbrev main_c_37 : Ref sig .tc := ⟨.hbm, 299, rfl⟩
abbrev main_v148 : Ref sig .tc := ⟨.hbm, 300, rfl⟩
abbrev main_v149 : Ref sig .tc := ⟨.hbm, 301, rfl⟩
abbrev main_v150 : Ref sig .tc := ⟨.hbm, 302, rfl⟩
abbrev main_c_38 : Ref sig .tc := ⟨.hbm, 303, rfl⟩
abbrev main_v151 : Ref sig .tc := ⟨.hbm, 304, rfl⟩
abbrev main_v152 : Ref sig .tc := ⟨.hbm, 305, rfl⟩
abbrev main_c_39 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩
abbrev main_v158 : Ref sig .tc := ⟨.hbm, 312, rfl⟩
abbrev main_v159 : Ref sig .tc := ⟨.hbm, 313, rfl⟩
abbrev main_v160 : Ref sig .tc := ⟨.hbm, 314, rfl⟩
abbrev main_v161 : Ref sig .tc := ⟨.hbm, 315, rfl⟩
abbrev main_v162 : Ref sig .tc := ⟨.hbm, 316, rfl⟩
abbrev main_v163 : Ref sig .tc := ⟨.hbm, 317, rfl⟩
abbrev main_cst_40 : Ref sig .tc := ⟨.hbm, 318, rfl⟩
abbrev main_cst_41 : Ref sig .tc := ⟨.hbm, 319, rfl⟩
abbrev main_call7_v0 : Ref sig .tc := ⟨.hbm, 320, rfl⟩
abbrev main_call7_v1 : Ref sig .tc := ⟨.hbm, 321, rfl⟩
abbrev main_call7_v2 : Ref sig .tc := ⟨.hbm, 322, rfl⟩
abbrev main_call7_cst : Ref sig .tc := ⟨.hbm, 323, rfl⟩
abbrev main_call7_v3 : Ref sig .tc := ⟨.hbm, 324, rfl⟩
abbrev main_call7_v4 : Ref sig .tc := ⟨.hbm, 325, rfl⟩
abbrev main_call7_cst_0 : Ref sig .tc := ⟨.hbm, 326, rfl⟩
abbrev main_call7_v5 : Ref sig .tc := ⟨.hbm, 327, rfl⟩
abbrev main_call7_v6 : Ref sig .tc := ⟨.hbm, 328, rfl⟩
abbrev main_call7_v7 : Ref sig .tc := ⟨.hbm, 329, rfl⟩
abbrev main_call7_cst_1 : Ref sig .tc := ⟨.hbm, 330, rfl⟩
abbrev main_call7_v8 : Ref sig .tc := ⟨.hbm, 331, rfl⟩
abbrev main_call7_v9 : Ref sig .tc := ⟨.hbm, 332, rfl⟩
abbrev main_call7_v10 : Ref sig .tc := ⟨.hbm, 333, rfl⟩
abbrev main_call7_v11 : Ref sig .tc := ⟨.hbm, 334, rfl⟩
abbrev main_call7_v12 : Ref sig .tc := ⟨.hbm, 335, rfl⟩
abbrev main_call7_v13 : Ref sig .tc := ⟨.hbm, 336, rfl⟩
abbrev main_call7_v14 : Ref sig .tc := ⟨.hbm, 337, rfl⟩
abbrev main_call7_v15 : Ref sig .tc := ⟨.hbm, 338, rfl⟩
abbrev main_call7_v16 : Ref sig .tc := ⟨.hbm, 339, rfl⟩
abbrev main_v164 : Ref sig .tc := ⟨.hbm, 340, rfl⟩
abbrev main_cst_42 : Ref sig .tc := ⟨.hbm, 341, rfl⟩
abbrev main_cst_43 : Ref sig .tc := ⟨.hbm, 342, rfl⟩
abbrev main_call8_v0 : Ref sig .tc := ⟨.hbm, 343, rfl⟩
abbrev main_call8_v1 : Ref sig .tc := ⟨.hbm, 344, rfl⟩
abbrev main_call8_v2 : Ref sig .tc := ⟨.hbm, 345, rfl⟩
abbrev main_call8_cst : Ref sig .tc := ⟨.hbm, 346, rfl⟩
abbrev main_call8_v3 : Ref sig .tc := ⟨.hbm, 347, rfl⟩
abbrev main_call8_v4 : Ref sig .tc := ⟨.hbm, 348, rfl⟩
abbrev main_call8_cst_0 : Ref sig .tc := ⟨.hbm, 349, rfl⟩
abbrev main_call8_v5 : Ref sig .tc := ⟨.hbm, 350, rfl⟩
abbrev main_call8_v6 : Ref sig .tc := ⟨.hbm, 351, rfl⟩
abbrev main_call8_v7 : Ref sig .tc := ⟨.hbm, 352, rfl⟩
abbrev main_call8_cst_1 : Ref sig .tc := ⟨.hbm, 353, rfl⟩
abbrev main_call8_v8 : Ref sig .tc := ⟨.hbm, 354, rfl⟩
abbrev main_call8_v9 : Ref sig .tc := ⟨.hbm, 355, rfl⟩
abbrev main_call8_v10 : Ref sig .tc := ⟨.hbm, 356, rfl⟩
abbrev main_call8_v11 : Ref sig .tc := ⟨.hbm, 357, rfl⟩
abbrev main_call8_v12 : Ref sig .tc := ⟨.hbm, 358, rfl⟩
abbrev main_call8_v13 : Ref sig .tc := ⟨.hbm, 359, rfl⟩
abbrev main_call8_v14 : Ref sig .tc := ⟨.hbm, 360, rfl⟩
abbrev main_call8_v15 : Ref sig .tc := ⟨.hbm, 361, rfl⟩
abbrev main_call8_v16 : Ref sig .tc := ⟨.hbm, 362, rfl⟩
abbrev main_v165 : Ref sig .tc := ⟨.hbm, 363, rfl⟩
abbrev main_v166 : Ref sig .tc := ⟨.hbm, 364, rfl⟩
abbrev main_v167 : Ref sig .tc := ⟨.hbm, 365, rfl⟩
abbrev main_v168 : Ref sig .tc := ⟨.hbm, 366, rfl⟩
abbrev main_v169 : Ref sig .tc := ⟨.hbm, 367, rfl⟩
abbrev main_c_44 : Ref sig .tc := ⟨.hbm, 368, rfl⟩
abbrev main_v170 : Ref sig .tc := ⟨.hbm, 369, rfl⟩
abbrev main_v171 : Ref sig .tc := ⟨.hbm, 370, rfl⟩
abbrev main_c_45 : Ref sig .tc := ⟨.hbm, 371, rfl⟩
abbrev main_c_46 : Ref sig .tc := ⟨.hbm, 372, rfl⟩
abbrev main_call9_v0 : Ref sig .tc := ⟨.hbm, 373, rfl⟩
abbrev main_call9_v1 : Ref sig .tc := ⟨.hbm, 374, rfl⟩
abbrev main_call9_v2 : Ref sig .tc := ⟨.hbm, 375, rfl⟩
abbrev main_call9_v3 : Ref sig .tc := ⟨.hbm, 376, rfl⟩
abbrev main_call9_v4 : Ref sig .tc := ⟨.hbm, 377, rfl⟩
abbrev main_v172 : Ref sig .tc := ⟨.hbm, 378, rfl⟩
abbrev main_c_47 : Ref sig .tc := ⟨.hbm, 379, rfl⟩
abbrev main_v173 : Ref sig .tc := ⟨.hbm, 380, rfl⟩
abbrev main_v174 : Ref sig .tc := ⟨.hbm, 381, rfl⟩
abbrev main_c_48 : Ref sig .tc := ⟨.hbm, 382, rfl⟩
abbrev main_c_49 : Ref sig .tc := ⟨.hbm, 383, rfl⟩
abbrev main_call10_v0 : Ref sig .tc := ⟨.hbm, 384, rfl⟩
abbrev main_call10_v1 : Ref sig .tc := ⟨.hbm, 385, rfl⟩
abbrev main_call10_v2 : Ref sig .tc := ⟨.hbm, 386, rfl⟩
abbrev main_call10_v3 : Ref sig .tc := ⟨.hbm, 387, rfl⟩
abbrev main_call10_v4 : Ref sig .tc := ⟨.hbm, 388, rfl⟩
abbrev main_v175 : Ref sig .tc := ⟨.hbm, 389, rfl⟩
abbrev main_v176 : Ref sig .tc := ⟨.hbm, 390, rfl⟩
abbrev main_v177 : Ref sig .tc := ⟨.hbm, 391, rfl⟩
abbrev main_v178 : Ref sig .tc := ⟨.hbm, 392, rfl⟩
abbrev main_v179 : Ref sig .tc := ⟨.hbm, 393, rfl⟩
abbrev main_v180 : Ref sig .tc := ⟨.hbm, 394, rfl⟩
abbrev main_v181 : Ref sig .tc := ⟨.hbm, 395, rfl⟩
abbrev main_c_50 : Ref sig .tc := ⟨.hbm, 396, rfl⟩
abbrev main_v182 : Ref sig .tc := ⟨.hbm, 397, rfl⟩
abbrev main_v183 : Ref sig .tc := ⟨.hbm, 398, rfl⟩
abbrev main_c_51 : Ref sig .tc := ⟨.hbm, 399, rfl⟩
abbrev main_v184 : Ref sig .tc := ⟨.hbm, 400, rfl⟩
abbrev main_v185 : Ref sig .tc := ⟨.hbm, 401, rfl⟩
abbrev main_v186 : Ref sig .tc := ⟨.hbm, 402, rfl⟩
abbrev main_v187 : Ref sig .tc := ⟨.hbm, 403, rfl⟩
abbrev main_v188 : Ref sig .tc := ⟨.hbm, 404, rfl⟩
abbrev main_c_52 : Ref sig .tc := ⟨.hbm, 405, rfl⟩
abbrev main_v189 : Ref sig .tc := ⟨.hbm, 406, rfl⟩
abbrev main_v190 : Ref sig .tc := ⟨.hbm, 407, rfl⟩
abbrev main_c_53 : Ref sig .tc := ⟨.hbm, 408, rfl⟩
abbrev main_v191 : Ref sig .tc := ⟨.hbm, 409, rfl⟩
abbrev main_v192 : Ref sig .tc := ⟨.hbm, 410, rfl⟩
abbrev main_v193 : Ref sig .tc := ⟨.hbm, 411, rfl⟩
abbrev main_v194 : Ref sig .tc := ⟨.hbm, 412, rfl⟩
abbrev main_v195 : Ref sig .tc := ⟨.hbm, 413, rfl⟩
abbrev main_cst_54 : Ref sig .tc := ⟨.hbm, 414, rfl⟩
abbrev main_v196 : Ref sig .tc := ⟨.hbm, 415, rfl⟩
abbrev main_v197 : Ref sig .tc := ⟨.hbm, 416, rfl⟩
abbrev main_v198 : Ref sig .tc := ⟨.hbm, 417, rfl⟩
abbrev main_v199 : Ref sig .tc := ⟨.hbm, 418, rfl⟩
abbrev main_v200 : Ref sig .tc := ⟨.hbm, 419, rfl⟩
abbrev main_v201 : Ref sig .tc := ⟨.hbm, 420, rfl⟩
abbrev main_v202 : Ref sig .tc := ⟨.hbm, 421, rfl⟩
abbrev main_c_55 : Ref sig .tc := ⟨.hbm, 422, rfl⟩
abbrev main_v203 : Ref sig .tc := ⟨.hbm, 423, rfl⟩
abbrev main_v204 : Ref sig .tc := ⟨.hbm, 424, rfl⟩
abbrev main_c_56 : Ref sig .tc := ⟨.hbm, 425, rfl⟩
abbrev main_v205 : Ref sig .tc := ⟨.hbm, 426, rfl⟩
abbrev main_v206 : Ref sig .tc := ⟨.hbm, 427, rfl⟩
abbrev main_v207 : Ref sig .tc := ⟨.hbm, 428, rfl⟩
abbrev main_v208 : Ref sig .tc := ⟨.hbm, 429, rfl⟩
abbrev main_v209 : Ref sig .tc := ⟨.hbm, 430, rfl⟩
abbrev main_c_57 : Ref sig .tc := ⟨.hbm, 431, rfl⟩
abbrev main_v210 : Ref sig .tc := ⟨.hbm, 432, rfl⟩
abbrev main_v211 : Ref sig .tc := ⟨.hbm, 433, rfl⟩
abbrev main_c_58 : Ref sig .tc := ⟨.hbm, 434, rfl⟩
abbrev main_v212 : Ref sig .tc := ⟨.hbm, 435, rfl⟩
abbrev main_v213 : Ref sig .tc := ⟨.hbm, 436, rfl⟩
abbrev main_v214 : Ref sig .tc := ⟨.hbm, 437, rfl⟩
abbrev main_v215 : Ref sig .tc := ⟨.hbm, 438, rfl⟩
abbrev main_v216 : Ref sig .tc := ⟨.hbm, 439, rfl⟩
abbrev main_cst_59 : Ref sig .tc := ⟨.hbm, 440, rfl⟩
abbrev main_v217 : Ref sig .tc := ⟨.hbm, 441, rfl⟩
abbrev main_v218 : Ref sig .tc := ⟨.hbm, 442, rfl⟩
abbrev main_v219 : Ref sig .tc := ⟨.hbm, 443, rfl⟩
abbrev main_v220 : Ref sig .tc := ⟨.hbm, 444, rfl⟩
abbrev main_v221 : Ref sig .tc := ⟨.hbm, 445, rfl⟩
abbrev main_v222 : Ref sig .tc := ⟨.hbm, 446, rfl⟩
abbrev main_v223 : Ref sig .tc := ⟨.hbm, 447, rfl⟩
abbrev main_cst_60 : Ref sig .tc := ⟨.hbm, 448, rfl⟩
abbrev main_v224 : Ref sig .tc := ⟨.hbm, 449, rfl⟩
abbrev main_v225 : Ref sig .tc := ⟨.hbm, 450, rfl⟩
abbrev main_v226 : Ref sig .tc := ⟨.hbm, 451, rfl⟩
abbrev main_v227 : Ref sig .tc := ⟨.hbm, 452, rfl⟩
abbrev main_v228 : Ref sig .tc := ⟨.hbm, 453, rfl⟩
abbrev main_values_61 : Ref sig .tc := ⟨.hbm, 454, rfl⟩
abbrev main_indices_62 : Ref sig .tc := ⟨.hbm, 455, rfl⟩
abbrev main_c_63 : Ref sig .tc := ⟨.hbm, 456, rfl⟩
abbrev main_call11_v0 : Ref sig .tc := ⟨.hbm, 457, rfl⟩
abbrev main_call11_c : Ref sig .tc := ⟨.hbm, 458, rfl⟩
abbrev main_call11_v1 : Ref sig .tc := ⟨.hbm, 459, rfl⟩
abbrev main_call11_c_0 : Ref sig .tc := ⟨.hbm, 460, rfl⟩
abbrev main_call11_v2 : Ref sig .tc := ⟨.hbm, 461, rfl⟩
abbrev main_call11_v3 : Ref sig .tc := ⟨.hbm, 462, rfl⟩
abbrev main_call11_v4 : Ref sig .tc := ⟨.hbm, 463, rfl⟩
abbrev main_call11_c_1 : Ref sig .tc := ⟨.hbm, 464, rfl⟩
abbrev main_call11_v5 : Ref sig .tc := ⟨.hbm, 465, rfl⟩
abbrev main_call11_v6 : Ref sig .tc := ⟨.hbm, 466, rfl⟩
abbrev main_call11_c_2 : Ref sig .tc := ⟨.hbm, 467, rfl⟩
abbrev main_call11_v7 : Ref sig .tc := ⟨.hbm, 468, rfl⟩
abbrev main_call11_v8 : Ref sig .tc := ⟨.hbm, 469, rfl⟩
abbrev main_call11_c_3 : Ref sig .tc := ⟨.hbm, 470, rfl⟩
abbrev main_call11_v9 : Ref sig .tc := ⟨.hbm, 471, rfl⟩
abbrev main_call11_v10 : Ref sig .tc := ⟨.hbm, 472, rfl⟩
abbrev main_call11_v11 : Ref sig .tc := ⟨.hbm, 473, rfl⟩
abbrev main_call11_v12 : Ref sig .tc := ⟨.hbm, 474, rfl⟩
abbrev main_call11_v13 : Ref sig .tc := ⟨.hbm, 475, rfl⟩
abbrev main_call11_v14 : Ref sig .tc := ⟨.hbm, 476, rfl⟩
abbrev main_v229 : Ref sig .tc := ⟨.hbm, 477, rfl⟩
abbrev main_c_64 : Ref sig .tc := ⟨.hbm, 478, rfl⟩
abbrev main_call12_v0 : Ref sig .tc := ⟨.hbm, 479, rfl⟩
abbrev main_call12_v1 : Ref sig .tc := ⟨.hbm, 480, rfl⟩
abbrev main_call12_v2 : Ref sig .tc := ⟨.hbm, 481, rfl⟩
abbrev main_call12_v3 : Ref sig .tc := ⟨.hbm, 482, rfl⟩
abbrev main_call12_v4 : Ref sig .tc := ⟨.hbm, 483, rfl⟩
abbrev main_call12_v5 : Ref sig .tc := ⟨.hbm, 484, rfl⟩
abbrev main_call12_v6 : Ref sig .tc := ⟨.hbm, 485, rfl⟩
abbrev main_call12_v7 : Ref sig .tc := ⟨.hbm, 486, rfl⟩
abbrev main_call12_v8 : Ref sig .tc := ⟨.hbm, 487, rfl⟩
abbrev main_call12_c : Ref sig .tc := ⟨.hbm, 488, rfl⟩
abbrev main_call12_v9 : Ref sig .tc := ⟨.hbm, 489, rfl⟩
abbrev main_call12_v10 : Ref sig .tc := ⟨.hbm, 490, rfl⟩
abbrev main_call12_v11 : Ref sig .tc := ⟨.hbm, 491, rfl⟩
abbrev main_call12_c_0 : Ref sig .tc := ⟨.hbm, 492, rfl⟩
abbrev main_call12_v12 : Ref sig .tc := ⟨.hbm, 493, rfl⟩
abbrev main_call12_v13 : Ref sig .tc := ⟨.hbm, 494, rfl⟩
abbrev main_v230 : Ref sig .tc := ⟨.hbm, 495, rfl⟩
abbrev main_v231 : Ref sig .tc := ⟨.hbm, 496, rfl⟩
abbrev main_v232 : Ref sig .tc := ⟨.hbm, 497, rfl⟩
abbrev main_v233 : Ref sig .tc := ⟨.hbm, 498, rfl⟩
abbrev main_v234 : Ref sig .tc := ⟨.hbm, 499, rfl⟩
abbrev main_cst_65 : Ref sig .tc := ⟨.hbm, 500, rfl⟩
abbrev main_v235 : Ref sig .tc := ⟨.hbm, 501, rfl⟩
abbrev main_v236 : Ref sig .tc := ⟨.hbm, 502, rfl⟩
abbrev main_cst_66 : Ref sig .tc := ⟨.hbm, 503, rfl⟩
abbrev main_v237 : Ref sig .tc := ⟨.hbm, 504, rfl⟩
abbrev main_v238 : Ref sig .tc := ⟨.hbm, 505, rfl⟩
abbrev main_cst_67 : Ref sig .tc := ⟨.hbm, 506, rfl⟩
abbrev main_v239 : Ref sig .tc := ⟨.hbm, 507, rfl⟩
abbrev main_v240 : Ref sig .tc := ⟨.hbm, 508, rfl⟩
abbrev main_v241 : Ref sig .tc := ⟨.hbm, 509, rfl⟩
abbrev main_v242 : Ref sig .tc := ⟨.hbm, 510, rfl⟩
abbrev main_v243 : Ref sig .tc := ⟨.hbm, 511, rfl⟩
abbrev main_v244 : Ref sig .tc := ⟨.hbm, 512, rfl⟩
abbrev main_v245 : Ref sig .tc := ⟨.hbm, 513, rfl⟩
abbrev main_v246 : Ref sig .tc := ⟨.hbm, 514, rfl⟩
abbrev main_v247 : Ref sig .tc := ⟨.hbm, 515, rfl⟩
abbrev main_v248 : Ref sig .tc := ⟨.hbm, 516, rfl⟩
abbrev main_v249 : Ref sig .tc := ⟨.hbm, 517, rfl⟩
abbrev main_v250 : Ref sig .tc := ⟨.hbm, 518, rfl⟩
abbrev main_v251 : Ref sig .tc := ⟨.hbm, 519, rfl⟩
abbrev main_v252 : Ref sig .tc := ⟨.hbm, 520, rfl⟩
abbrev main_v253 : Ref sig .tc := ⟨.hbm, 521, rfl⟩
abbrev main_v254 : Ref sig .tc := ⟨.hbm, 522, rfl⟩
abbrev main_v255 : Ref sig .tc := ⟨.hbm, 523, rfl⟩
abbrev main_v256 : Ref sig .tc := ⟨.hbm, 524, rfl⟩
abbrev main_cst_68 : Ref sig .tc := ⟨.hbm, 525, rfl⟩
abbrev main_v257 : Ref sig .tc := ⟨.hbm, 526, rfl⟩
abbrev main_v258 : Ref sig .tc := ⟨.hbm, 527, rfl⟩
abbrev main_cst_69 : Ref sig .tc := ⟨.hbm, 528, rfl⟩
abbrev main_v259 : Ref sig .tc := ⟨.hbm, 529, rfl⟩
abbrev main_v260 : Ref sig .tc := ⟨.hbm, 530, rfl⟩
abbrev main_v261 : Ref sig .tc := ⟨.hbm, 531, rfl⟩
abbrev main_v262 : Ref sig .tc := ⟨.hbm, 532, rfl⟩
abbrev main_v263 : Ref sig .tc := ⟨.hbm, 533, rfl⟩
abbrev main_v264 : Ref sig .tc := ⟨.hbm, 534, rfl⟩
abbrev main_v265 : Ref sig .tc := ⟨.hbm, 535, rfl⟩
abbrev main_v266 : Ref sig .tc := ⟨.hbm, 536, rfl⟩
abbrev main_v267 : Ref sig .tc := ⟨.hbm, 537, rfl⟩
abbrev main_c_70 : Ref sig .tc := ⟨.hbm, 538, rfl⟩
abbrev main_v268 : Ref sig .tc := ⟨.hbm, 539, rfl⟩
abbrev main_v269 : Ref sig .tc := ⟨.hbm, 540, rfl⟩
abbrev main_c_71 : Ref sig .tc := ⟨.hbm, 541, rfl⟩
abbrev main_v270 : Ref sig .tc := ⟨.hbm, 542, rfl⟩
abbrev main_v271 : Ref sig .tc := ⟨.hbm, 543, rfl⟩
abbrev main_v272 : Ref sig .tc := ⟨.hbm, 544, rfl⟩
abbrev main_c_72 : Ref sig .tc := ⟨.hbm, 545, rfl⟩
abbrev main_v273 : Ref sig .tc := ⟨.hbm, 546, rfl⟩
abbrev main_v274 : Ref sig .tc := ⟨.hbm, 547, rfl⟩
abbrev main_c_73 : Ref sig .tc := ⟨.hbm, 548, rfl⟩
abbrev main_v275 : Ref sig .tc := ⟨.hbm, 549, rfl⟩
abbrev main_v276 : Ref sig .tc := ⟨.hbm, 550, rfl⟩
abbrev main_v277 : Ref sig .tc := ⟨.hbm, 551, rfl⟩
abbrev main_c_74 : Ref sig .tc := ⟨.hbm, 552, rfl⟩
abbrev main_v278 : Ref sig .tc := ⟨.hbm, 553, rfl⟩
abbrev main_v279 : Ref sig .tc := ⟨.hbm, 554, rfl⟩
abbrev main_c_75 : Ref sig .tc := ⟨.hbm, 555, rfl⟩
abbrev main_v280 : Ref sig .tc := ⟨.hbm, 556, rfl⟩
abbrev main_v281 : Ref sig .tc := ⟨.hbm, 557, rfl⟩
abbrev main_v282 : Ref sig .tc := ⟨.hbm, 558, rfl⟩
abbrev main_v283 : Ref sig .tc := ⟨.hbm, 559, rfl⟩
abbrev main_v284 : Ref sig .tc := ⟨.hbm, 560, rfl⟩
abbrev main_v285 : Ref sig .tc := ⟨.hbm, 561, rfl⟩
abbrev main_v286 : Ref sig .tc := ⟨.hbm, 562, rfl⟩
abbrev main_v287 : Ref sig .tc := ⟨.hbm, 563, rfl⟩
abbrev main_v288 : Ref sig .tc := ⟨.hbm, 564, rfl⟩
abbrev main_v289 : Ref sig .tc := ⟨.hbm, 565, rfl⟩
abbrev main_v290 : Ref sig .tc := ⟨.hbm, 566, rfl⟩
abbrev main_cst_76 : Ref sig .tc := ⟨.hbm, 567, rfl⟩
abbrev main_cst_77 : Ref sig .tc := ⟨.hbm, 568, rfl⟩
abbrev main_call13_v0 : Ref sig .tc := ⟨.hbm, 569, rfl⟩
abbrev main_call13_v1 : Ref sig .tc := ⟨.hbm, 570, rfl⟩
abbrev main_call13_v2 : Ref sig .tc := ⟨.hbm, 571, rfl⟩
abbrev main_call13_cst : Ref sig .tc := ⟨.hbm, 572, rfl⟩
abbrev main_call13_v3 : Ref sig .tc := ⟨.hbm, 573, rfl⟩
abbrev main_call13_v4 : Ref sig .tc := ⟨.hbm, 574, rfl⟩
abbrev main_call13_cst_0 : Ref sig .tc := ⟨.hbm, 575, rfl⟩
abbrev main_call13_v5 : Ref sig .tc := ⟨.hbm, 576, rfl⟩
abbrev main_call13_v6 : Ref sig .tc := ⟨.hbm, 577, rfl⟩
abbrev main_call13_v7 : Ref sig .tc := ⟨.hbm, 578, rfl⟩
abbrev main_call13_cst_1 : Ref sig .tc := ⟨.hbm, 579, rfl⟩
abbrev main_call13_v8 : Ref sig .tc := ⟨.hbm, 580, rfl⟩
abbrev main_call13_v9 : Ref sig .tc := ⟨.hbm, 581, rfl⟩
abbrev main_call13_v10 : Ref sig .tc := ⟨.hbm, 582, rfl⟩
abbrev main_call13_v11 : Ref sig .tc := ⟨.hbm, 583, rfl⟩
abbrev main_call13_v12 : Ref sig .tc := ⟨.hbm, 584, rfl⟩
abbrev main_call13_v13 : Ref sig .tc := ⟨.hbm, 585, rfl⟩
abbrev main_call13_v14 : Ref sig .tc := ⟨.hbm, 586, rfl⟩
abbrev main_call13_v15 : Ref sig .tc := ⟨.hbm, 587, rfl⟩
abbrev main_call13_v16 : Ref sig .tc := ⟨.hbm, 588, rfl⟩
abbrev main_v291 : Ref sig .tc := ⟨.hbm, 589, rfl⟩
abbrev main_cst_78 : Ref sig .tc := ⟨.hbm, 590, rfl⟩
abbrev main_cst_79 : Ref sig .tc := ⟨.hbm, 591, rfl⟩
abbrev main_call14_v0 : Ref sig .tc := ⟨.hbm, 592, rfl⟩
abbrev main_call14_v1 : Ref sig .tc := ⟨.hbm, 593, rfl⟩
abbrev main_call14_v2 : Ref sig .tc := ⟨.hbm, 594, rfl⟩
abbrev main_call14_cst : Ref sig .tc := ⟨.hbm, 595, rfl⟩
abbrev main_call14_v3 : Ref sig .tc := ⟨.hbm, 596, rfl⟩
abbrev main_call14_v4 : Ref sig .tc := ⟨.hbm, 597, rfl⟩
abbrev main_call14_cst_0 : Ref sig .tc := ⟨.hbm, 598, rfl⟩
abbrev main_call14_v5 : Ref sig .tc := ⟨.hbm, 599, rfl⟩
abbrev main_call14_v6 : Ref sig .tc := ⟨.hbm, 600, rfl⟩
abbrev main_call14_v7 : Ref sig .tc := ⟨.hbm, 601, rfl⟩
abbrev main_call14_cst_1 : Ref sig .tc := ⟨.hbm, 602, rfl⟩
abbrev main_call14_v8 : Ref sig .tc := ⟨.hbm, 603, rfl⟩
abbrev main_call14_v9 : Ref sig .tc := ⟨.hbm, 604, rfl⟩
abbrev main_call14_v10 : Ref sig .tc := ⟨.hbm, 605, rfl⟩
abbrev main_call14_v11 : Ref sig .tc := ⟨.hbm, 606, rfl⟩
abbrev main_call14_v12 : Ref sig .tc := ⟨.hbm, 607, rfl⟩
abbrev main_call14_v13 : Ref sig .tc := ⟨.hbm, 608, rfl⟩
abbrev main_call14_v14 : Ref sig .tc := ⟨.hbm, 609, rfl⟩
abbrev main_call14_v15 : Ref sig .tc := ⟨.hbm, 610, rfl⟩
abbrev main_call14_v16 : Ref sig .tc := ⟨.hbm, 611, rfl⟩
abbrev main_v292 : Ref sig .tc := ⟨.hbm, 612, rfl⟩
abbrev main_v293 : Ref sig .tc := ⟨.hbm, 613, rfl⟩
abbrev main_v294 : Ref sig .tc := ⟨.hbm, 614, rfl⟩
abbrev main_v295 : Ref sig .tc := ⟨.hbm, 615, rfl⟩
abbrev main_v296 : Ref sig .tc := ⟨.hbm, 616, rfl⟩
abbrev main_c_80 : Ref sig .tc := ⟨.hbm, 617, rfl⟩
abbrev main_v297 : Ref sig .tc := ⟨.hbm, 618, rfl⟩
abbrev main_v298 : Ref sig .tc := ⟨.hbm, 619, rfl⟩
abbrev main_c_81 : Ref sig .tc := ⟨.hbm, 620, rfl⟩
abbrev main_c_82 : Ref sig .tc := ⟨.hbm, 621, rfl⟩
abbrev main_call15_v0 : Ref sig .tc := ⟨.hbm, 622, rfl⟩
abbrev main_call15_v1 : Ref sig .tc := ⟨.hbm, 623, rfl⟩
abbrev main_call15_v2 : Ref sig .tc := ⟨.hbm, 624, rfl⟩
abbrev main_call15_v3 : Ref sig .tc := ⟨.hbm, 625, rfl⟩
abbrev main_call15_v4 : Ref sig .tc := ⟨.hbm, 626, rfl⟩
abbrev main_v299 : Ref sig .tc := ⟨.hbm, 627, rfl⟩
abbrev main_c_83 : Ref sig .tc := ⟨.hbm, 628, rfl⟩
abbrev main_v300 : Ref sig .tc := ⟨.hbm, 629, rfl⟩
abbrev main_v301 : Ref sig .tc := ⟨.hbm, 630, rfl⟩
abbrev main_c_84 : Ref sig .tc := ⟨.hbm, 631, rfl⟩
abbrev main_c_85 : Ref sig .tc := ⟨.hbm, 632, rfl⟩
abbrev main_call16_v0 : Ref sig .tc := ⟨.hbm, 633, rfl⟩
abbrev main_call16_v1 : Ref sig .tc := ⟨.hbm, 634, rfl⟩
abbrev main_call16_v2 : Ref sig .tc := ⟨.hbm, 635, rfl⟩
abbrev main_call16_v3 : Ref sig .tc := ⟨.hbm, 636, rfl⟩
abbrev main_call16_v4 : Ref sig .tc := ⟨.hbm, 637, rfl⟩
abbrev main_v302 : Ref sig .tc := ⟨.hbm, 638, rfl⟩
abbrev main_v303 : Ref sig .tc := ⟨.hbm, 639, rfl⟩
abbrev main_v304 : Ref sig .tc := ⟨.hbm, 640, rfl⟩
abbrev main_v305 : Ref sig .tc := ⟨.hbm, 641, rfl⟩
abbrev main_v306 : Ref sig .tc := ⟨.hbm, 642, rfl⟩
abbrev main_v307 : Ref sig .tc := ⟨.hbm, 643, rfl⟩
abbrev main_v308 : Ref sig .tc := ⟨.hbm, 644, rfl⟩
abbrev main_c_86 : Ref sig .tc := ⟨.hbm, 645, rfl⟩
abbrev main_v309 : Ref sig .tc := ⟨.hbm, 646, rfl⟩
abbrev main_v310 : Ref sig .tc := ⟨.hbm, 647, rfl⟩
abbrev main_c_87 : Ref sig .tc := ⟨.hbm, 648, rfl⟩
abbrev main_v311 : Ref sig .tc := ⟨.hbm, 649, rfl⟩
abbrev main_v312 : Ref sig .tc := ⟨.hbm, 650, rfl⟩
abbrev main_v313 : Ref sig .tc := ⟨.hbm, 651, rfl⟩
abbrev main_v314 : Ref sig .tc := ⟨.hbm, 652, rfl⟩
abbrev main_v315 : Ref sig .tc := ⟨.hbm, 653, rfl⟩
abbrev main_c_88 : Ref sig .tc := ⟨.hbm, 654, rfl⟩
abbrev main_v316 : Ref sig .tc := ⟨.hbm, 655, rfl⟩
abbrev main_v317 : Ref sig .tc := ⟨.hbm, 656, rfl⟩
abbrev main_c_89 : Ref sig .tc := ⟨.hbm, 657, rfl⟩
abbrev main_v318 : Ref sig .tc := ⟨.hbm, 658, rfl⟩
abbrev main_v319 : Ref sig .tc := ⟨.hbm, 659, rfl⟩
abbrev main_v320 : Ref sig .tc := ⟨.hbm, 660, rfl⟩
abbrev main_v321 : Ref sig .tc := ⟨.hbm, 661, rfl⟩
abbrev main_v322 : Ref sig .tc := ⟨.hbm, 662, rfl⟩
abbrev main_cst_90 : Ref sig .tc := ⟨.hbm, 663, rfl⟩
abbrev main_v323 : Ref sig .tc := ⟨.hbm, 664, rfl⟩
abbrev main_v324 : Ref sig .tc := ⟨.hbm, 665, rfl⟩
abbrev main_v325 : Ref sig .tc := ⟨.hbm, 666, rfl⟩
abbrev main_v326 : Ref sig .tc := ⟨.hbm, 667, rfl⟩
abbrev main_v327 : Ref sig .tc := ⟨.hbm, 668, rfl⟩
abbrev main_v328 : Ref sig .tc := ⟨.hbm, 669, rfl⟩
abbrev main_v329 : Ref sig .tc := ⟨.hbm, 670, rfl⟩
abbrev main_c_91 : Ref sig .tc := ⟨.hbm, 671, rfl⟩
abbrev main_v330 : Ref sig .tc := ⟨.hbm, 672, rfl⟩
abbrev main_v331 : Ref sig .tc := ⟨.hbm, 673, rfl⟩
abbrev main_c_92 : Ref sig .tc := ⟨.hbm, 674, rfl⟩
abbrev main_v332 : Ref sig .tc := ⟨.hbm, 675, rfl⟩
abbrev main_v333 : Ref sig .tc := ⟨.hbm, 676, rfl⟩
abbrev main_v334 : Ref sig .tc := ⟨.hbm, 677, rfl⟩
abbrev main_v335 : Ref sig .tc := ⟨.hbm, 678, rfl⟩
abbrev main_v336 : Ref sig .tc := ⟨.hbm, 679, rfl⟩
abbrev main_c_93 : Ref sig .tc := ⟨.hbm, 680, rfl⟩
abbrev main_v337 : Ref sig .tc := ⟨.hbm, 681, rfl⟩
abbrev main_v338 : Ref sig .tc := ⟨.hbm, 682, rfl⟩
abbrev main_c_94 : Ref sig .tc := ⟨.hbm, 683, rfl⟩
abbrev main_v339 : Ref sig .tc := ⟨.hbm, 684, rfl⟩
abbrev main_v340 : Ref sig .tc := ⟨.hbm, 685, rfl⟩
abbrev main_v341 : Ref sig .tc := ⟨.hbm, 686, rfl⟩
abbrev main_v342 : Ref sig .tc := ⟨.hbm, 687, rfl⟩
abbrev main_v343 : Ref sig .tc := ⟨.hbm, 688, rfl⟩
abbrev main_cst_95 : Ref sig .tc := ⟨.hbm, 689, rfl⟩
abbrev main_v344 : Ref sig .tc := ⟨.hbm, 690, rfl⟩
abbrev main_v345 : Ref sig .tc := ⟨.hbm, 691, rfl⟩
abbrev main_v346 : Ref sig .tc := ⟨.hbm, 692, rfl⟩
abbrev main_v347 : Ref sig .tc := ⟨.hbm, 693, rfl⟩
abbrev main_v348 : Ref sig .tc := ⟨.hbm, 694, rfl⟩
abbrev main_v349 : Ref sig .tc := ⟨.hbm, 695, rfl⟩
abbrev main_v350 : Ref sig .tc := ⟨.hbm, 696, rfl⟩
abbrev main_cst_96 : Ref sig .tc := ⟨.hbm, 697, rfl⟩
abbrev main_v351 : Ref sig .tc := ⟨.hbm, 698, rfl⟩
abbrev main_v352 : Ref sig .tc := ⟨.hbm, 699, rfl⟩
abbrev main_v353 : Ref sig .tc := ⟨.hbm, 700, rfl⟩
abbrev main_v354 : Ref sig .tc := ⟨.hbm, 701, rfl⟩
abbrev main_v355 : Ref sig .tc := ⟨.hbm, 702, rfl⟩
abbrev main_values_97 : Ref sig .tc := ⟨.hbm, 703, rfl⟩
abbrev main_indices_98 : Ref sig .tc := ⟨.hbm, 704, rfl⟩
abbrev main_c_99 : Ref sig .tc := ⟨.hbm, 705, rfl⟩
abbrev main_call17_v0 : Ref sig .tc := ⟨.hbm, 706, rfl⟩
abbrev main_call17_c : Ref sig .tc := ⟨.hbm, 707, rfl⟩
abbrev main_call17_v1 : Ref sig .tc := ⟨.hbm, 708, rfl⟩
abbrev main_call17_c_0 : Ref sig .tc := ⟨.hbm, 709, rfl⟩
abbrev main_call17_v2 : Ref sig .tc := ⟨.hbm, 710, rfl⟩
abbrev main_call17_v3 : Ref sig .tc := ⟨.hbm, 711, rfl⟩
abbrev main_call17_v4 : Ref sig .tc := ⟨.hbm, 712, rfl⟩
abbrev main_call17_c_1 : Ref sig .tc := ⟨.hbm, 713, rfl⟩
abbrev main_call17_v5 : Ref sig .tc := ⟨.hbm, 714, rfl⟩
abbrev main_call17_v6 : Ref sig .tc := ⟨.hbm, 715, rfl⟩
abbrev main_call17_c_2 : Ref sig .tc := ⟨.hbm, 716, rfl⟩
abbrev main_call17_v7 : Ref sig .tc := ⟨.hbm, 717, rfl⟩
abbrev main_call17_v8 : Ref sig .tc := ⟨.hbm, 718, rfl⟩
abbrev main_call17_c_3 : Ref sig .tc := ⟨.hbm, 719, rfl⟩
abbrev main_call17_v9 : Ref sig .tc := ⟨.hbm, 720, rfl⟩
abbrev main_call17_v10 : Ref sig .tc := ⟨.hbm, 721, rfl⟩
abbrev main_call17_v11 : Ref sig .tc := ⟨.hbm, 722, rfl⟩
abbrev main_call17_v12 : Ref sig .tc := ⟨.hbm, 723, rfl⟩
abbrev main_call17_v13 : Ref sig .tc := ⟨.hbm, 724, rfl⟩
abbrev main_call17_v14 : Ref sig .tc := ⟨.hbm, 725, rfl⟩
abbrev main_v356 : Ref sig .tc := ⟨.hbm, 726, rfl⟩
abbrev main_c_100 : Ref sig .tc := ⟨.hbm, 727, rfl⟩
abbrev main_call18_v0 : Ref sig .tc := ⟨.hbm, 728, rfl⟩
abbrev main_call18_v1 : Ref sig .tc := ⟨.hbm, 729, rfl⟩
abbrev main_call18_v2 : Ref sig .tc := ⟨.hbm, 730, rfl⟩
abbrev main_call18_v3 : Ref sig .tc := ⟨.hbm, 731, rfl⟩
abbrev main_call18_v4 : Ref sig .tc := ⟨.hbm, 732, rfl⟩
abbrev main_call18_v5 : Ref sig .tc := ⟨.hbm, 733, rfl⟩
abbrev main_call18_v6 : Ref sig .tc := ⟨.hbm, 734, rfl⟩
abbrev main_call18_v7 : Ref sig .tc := ⟨.hbm, 735, rfl⟩
abbrev main_call18_v8 : Ref sig .tc := ⟨.hbm, 736, rfl⟩
abbrev main_call18_c : Ref sig .tc := ⟨.hbm, 737, rfl⟩
abbrev main_call18_v9 : Ref sig .tc := ⟨.hbm, 738, rfl⟩
abbrev main_call18_v10 : Ref sig .tc := ⟨.hbm, 739, rfl⟩
abbrev main_call18_v11 : Ref sig .tc := ⟨.hbm, 740, rfl⟩
abbrev main_call18_c_0 : Ref sig .tc := ⟨.hbm, 741, rfl⟩
abbrev main_call18_v12 : Ref sig .tc := ⟨.hbm, 742, rfl⟩
abbrev main_call18_v13 : Ref sig .tc := ⟨.hbm, 743, rfl⟩
abbrev main_v357 : Ref sig .tc := ⟨.hbm, 744, rfl⟩
abbrev main_v358 : Ref sig .tc := ⟨.hbm, 745, rfl⟩
abbrev main_v359 : Ref sig .tc := ⟨.hbm, 746, rfl⟩
abbrev main_v360 : Ref sig .tc := ⟨.hbm, 747, rfl⟩
abbrev main_v361 : Ref sig .tc := ⟨.hbm, 748, rfl⟩
abbrev main_cst_101 : Ref sig .tc := ⟨.hbm, 749, rfl⟩
abbrev main_v362 : Ref sig .tc := ⟨.hbm, 750, rfl⟩
abbrev main_v363 : Ref sig .tc := ⟨.hbm, 751, rfl⟩
abbrev main_cst_102 : Ref sig .tc := ⟨.hbm, 752, rfl⟩
abbrev main_v364 : Ref sig .tc := ⟨.hbm, 753, rfl⟩
abbrev main_v365 : Ref sig .tc := ⟨.hbm, 754, rfl⟩
abbrev main_cst_103 : Ref sig .tc := ⟨.hbm, 755, rfl⟩
abbrev main_v366 : Ref sig .tc := ⟨.hbm, 756, rfl⟩
abbrev main_v367 : Ref sig .tc := ⟨.hbm, 757, rfl⟩
abbrev main_v368 : Ref sig .tc := ⟨.hbm, 758, rfl⟩
abbrev main_v369 : Ref sig .tc := ⟨.hbm, 759, rfl⟩
abbrev main_v370 : Ref sig .tc := ⟨.hbm, 760, rfl⟩
abbrev main_v371 : Ref sig .tc := ⟨.hbm, 761, rfl⟩
abbrev main_v372 : Ref sig .tc := ⟨.hbm, 762, rfl⟩
abbrev main_v373 : Ref sig .tc := ⟨.hbm, 763, rfl⟩
abbrev main_v374 : Ref sig .tc := ⟨.hbm, 764, rfl⟩
abbrev main_v375 : Ref sig .tc := ⟨.hbm, 765, rfl⟩
abbrev main_v376 : Ref sig .tc := ⟨.hbm, 766, rfl⟩
abbrev main_v377 : Ref sig .tc := ⟨.hbm, 767, rfl⟩
abbrev main_v378 : Ref sig .tc := ⟨.hbm, 768, rfl⟩
abbrev main_v379 : Ref sig .tc := ⟨.hbm, 769, rfl⟩
abbrev main_v380 : Ref sig .tc := ⟨.hbm, 770, rfl⟩
abbrev main_v381 : Ref sig .tc := ⟨.hbm, 771, rfl⟩
abbrev main_v382 : Ref sig .tc := ⟨.hbm, 772, rfl⟩
abbrev main_v383 : Ref sig .tc := ⟨.hbm, 773, rfl⟩
abbrev main_cst_104 : Ref sig .tc := ⟨.hbm, 774, rfl⟩
abbrev main_v384 : Ref sig .tc := ⟨.hbm, 775, rfl⟩
abbrev main_v385 : Ref sig .tc := ⟨.hbm, 776, rfl⟩
abbrev main_cst_105 : Ref sig .tc := ⟨.hbm, 777, rfl⟩
abbrev main_v386 : Ref sig .tc := ⟨.hbm, 778, rfl⟩
abbrev main_v387 : Ref sig .tc := ⟨.hbm, 779, rfl⟩
abbrev main_v388 : Ref sig .tc := ⟨.hbm, 780, rfl⟩
abbrev main_v389 : Ref sig .tc := ⟨.hbm, 781, rfl⟩
abbrev main_v390 : Ref sig .tc := ⟨.hbm, 782, rfl⟩
abbrev main_v391 : Ref sig .tc := ⟨.hbm, 783, rfl⟩
abbrev main_v392 : Ref sig .tc := ⟨.hbm, 784, rfl⟩
abbrev main_v393 : Ref sig .tc := ⟨.hbm, 785, rfl⟩
abbrev main_v394 : Ref sig .tc := ⟨.hbm, 786, rfl⟩
abbrev main_c_106 : Ref sig .tc := ⟨.hbm, 787, rfl⟩
abbrev main_v395 : Ref sig .tc := ⟨.hbm, 788, rfl⟩
abbrev main_v396 : Ref sig .tc := ⟨.hbm, 789, rfl⟩
abbrev main_c_107 : Ref sig .tc := ⟨.hbm, 790, rfl⟩
abbrev main_v397 : Ref sig .tc := ⟨.hbm, 791, rfl⟩
abbrev main_v398 : Ref sig .tc := ⟨.hbm, 792, rfl⟩
abbrev main_v399 : Ref sig .tc := ⟨.hbm, 793, rfl⟩
abbrev main_c_108 : Ref sig .tc := ⟨.hbm, 794, rfl⟩
abbrev main_v400 : Ref sig .tc := ⟨.hbm, 795, rfl⟩
abbrev main_v401 : Ref sig .tc := ⟨.hbm, 796, rfl⟩
abbrev main_c_109 : Ref sig .tc := ⟨.hbm, 797, rfl⟩
abbrev main_v402 : Ref sig .tc := ⟨.hbm, 798, rfl⟩
abbrev main_v403 : Ref sig .tc := ⟨.hbm, 799, rfl⟩
abbrev main_v404 : Ref sig .tc := ⟨.hbm, 800, rfl⟩
abbrev main_c_110 : Ref sig .tc := ⟨.hbm, 801, rfl⟩
abbrev main_v405 : Ref sig .tc := ⟨.hbm, 802, rfl⟩
abbrev main_v406 : Ref sig .tc := ⟨.hbm, 803, rfl⟩
abbrev main_c_111 : Ref sig .tc := ⟨.hbm, 804, rfl⟩
abbrev main_v407 : Ref sig .tc := ⟨.hbm, 805, rfl⟩
abbrev main_v408 : Ref sig .tc := ⟨.hbm, 806, rfl⟩
abbrev main_v409 : Ref sig .tc := ⟨.hbm, 807, rfl⟩
abbrev main_v410 : Ref sig .tc := ⟨.hbm, 808, rfl⟩
abbrev main_v411 : Ref sig .tc := ⟨.hbm, 809, rfl⟩
abbrev main_v412 : Ref sig .tc := ⟨.hbm, 810, rfl⟩
abbrev main_v413 : Ref sig .tc := ⟨.hbm, 811, rfl⟩
abbrev main_v414 : Ref sig .tc := ⟨.hbm, 812, rfl⟩
abbrev main_v415 : Ref sig .tc := ⟨.hbm, 813, rfl⟩
abbrev main_v416 : Ref sig .tc := ⟨.hbm, 814, rfl⟩
abbrev main_v417 : Ref sig .tc := ⟨.hbm, 815, rfl⟩
abbrev main_cst_112 : Ref sig .tc := ⟨.hbm, 816, rfl⟩
abbrev main_cst_113 : Ref sig .tc := ⟨.hbm, 817, rfl⟩
abbrev main_call19_v0 : Ref sig .tc := ⟨.hbm, 818, rfl⟩
abbrev main_call19_v1 : Ref sig .tc := ⟨.hbm, 819, rfl⟩
abbrev main_call19_v2 : Ref sig .tc := ⟨.hbm, 820, rfl⟩
abbrev main_call19_cst : Ref sig .tc := ⟨.hbm, 821, rfl⟩
abbrev main_call19_v3 : Ref sig .tc := ⟨.hbm, 822, rfl⟩
abbrev main_call19_v4 : Ref sig .tc := ⟨.hbm, 823, rfl⟩
abbrev main_call19_cst_0 : Ref sig .tc := ⟨.hbm, 824, rfl⟩
abbrev main_call19_v5 : Ref sig .tc := ⟨.hbm, 825, rfl⟩
abbrev main_call19_v6 : Ref sig .tc := ⟨.hbm, 826, rfl⟩
abbrev main_call19_v7 : Ref sig .tc := ⟨.hbm, 827, rfl⟩
abbrev main_call19_cst_1 : Ref sig .tc := ⟨.hbm, 828, rfl⟩
abbrev main_call19_v8 : Ref sig .tc := ⟨.hbm, 829, rfl⟩
abbrev main_call19_v9 : Ref sig .tc := ⟨.hbm, 830, rfl⟩
abbrev main_call19_v10 : Ref sig .tc := ⟨.hbm, 831, rfl⟩
abbrev main_call19_v11 : Ref sig .tc := ⟨.hbm, 832, rfl⟩
abbrev main_call19_v12 : Ref sig .tc := ⟨.hbm, 833, rfl⟩
abbrev main_call19_v13 : Ref sig .tc := ⟨.hbm, 834, rfl⟩
abbrev main_call19_v14 : Ref sig .tc := ⟨.hbm, 835, rfl⟩
abbrev main_call19_v15 : Ref sig .tc := ⟨.hbm, 836, rfl⟩
abbrev main_call19_v16 : Ref sig .tc := ⟨.hbm, 837, rfl⟩
abbrev main_v418 : Ref sig .tc := ⟨.hbm, 838, rfl⟩
abbrev main_cst_114 : Ref sig .tc := ⟨.hbm, 839, rfl⟩
abbrev main_cst_115 : Ref sig .tc := ⟨.hbm, 840, rfl⟩
abbrev main_call20_v0 : Ref sig .tc := ⟨.hbm, 841, rfl⟩
abbrev main_call20_v1 : Ref sig .tc := ⟨.hbm, 842, rfl⟩
abbrev main_call20_v2 : Ref sig .tc := ⟨.hbm, 843, rfl⟩
abbrev main_call20_cst : Ref sig .tc := ⟨.hbm, 844, rfl⟩
abbrev main_call20_v3 : Ref sig .tc := ⟨.hbm, 845, rfl⟩
abbrev main_call20_v4 : Ref sig .tc := ⟨.hbm, 846, rfl⟩
abbrev main_call20_cst_0 : Ref sig .tc := ⟨.hbm, 847, rfl⟩
abbrev main_call20_v5 : Ref sig .tc := ⟨.hbm, 848, rfl⟩
abbrev main_call20_v6 : Ref sig .tc := ⟨.hbm, 849, rfl⟩
abbrev main_call20_v7 : Ref sig .tc := ⟨.hbm, 850, rfl⟩
abbrev main_call20_cst_1 : Ref sig .tc := ⟨.hbm, 851, rfl⟩
abbrev main_call20_v8 : Ref sig .tc := ⟨.hbm, 852, rfl⟩
abbrev main_call20_v9 : Ref sig .tc := ⟨.hbm, 853, rfl⟩
abbrev main_call20_v10 : Ref sig .tc := ⟨.hbm, 854, rfl⟩
abbrev main_call20_v11 : Ref sig .tc := ⟨.hbm, 855, rfl⟩
abbrev main_call20_v12 : Ref sig .tc := ⟨.hbm, 856, rfl⟩
abbrev main_call20_v13 : Ref sig .tc := ⟨.hbm, 857, rfl⟩
abbrev main_call20_v14 : Ref sig .tc := ⟨.hbm, 858, rfl⟩
abbrev main_call20_v15 : Ref sig .tc := ⟨.hbm, 859, rfl⟩
abbrev main_call20_v16 : Ref sig .tc := ⟨.hbm, 860, rfl⟩
abbrev main_v419 : Ref sig .tc := ⟨.hbm, 861, rfl⟩
abbrev main_v420 : Ref sig .tc := ⟨.hbm, 862, rfl⟩
abbrev main_v421 : Ref sig .tc := ⟨.hbm, 863, rfl⟩
abbrev main_v422 : Ref sig .tc := ⟨.hbm, 864, rfl⟩
abbrev main_v423 : Ref sig .tc := ⟨.hbm, 865, rfl⟩
abbrev main_c_116 : Ref sig .tc := ⟨.hbm, 866, rfl⟩
abbrev main_v424 : Ref sig .tc := ⟨.hbm, 867, rfl⟩
abbrev main_v425 : Ref sig .tc := ⟨.hbm, 868, rfl⟩
abbrev main_c_117 : Ref sig .tc := ⟨.hbm, 869, rfl⟩
abbrev main_c_118 : Ref sig .tc := ⟨.hbm, 870, rfl⟩
abbrev main_call21_v0 : Ref sig .tc := ⟨.hbm, 871, rfl⟩
abbrev main_call21_v1 : Ref sig .tc := ⟨.hbm, 872, rfl⟩
abbrev main_call21_v2 : Ref sig .tc := ⟨.hbm, 873, rfl⟩
abbrev main_call21_v3 : Ref sig .tc := ⟨.hbm, 874, rfl⟩
abbrev main_call21_v4 : Ref sig .tc := ⟨.hbm, 875, rfl⟩
abbrev main_v426 : Ref sig .tc := ⟨.hbm, 876, rfl⟩
abbrev main_c_119 : Ref sig .tc := ⟨.hbm, 877, rfl⟩
abbrev main_v427 : Ref sig .tc := ⟨.hbm, 878, rfl⟩
abbrev main_v428 : Ref sig .tc := ⟨.hbm, 879, rfl⟩
abbrev main_c_120 : Ref sig .tc := ⟨.hbm, 880, rfl⟩
abbrev main_c_121 : Ref sig .tc := ⟨.hbm, 881, rfl⟩
abbrev main_call22_v0 : Ref sig .tc := ⟨.hbm, 882, rfl⟩
abbrev main_call22_v1 : Ref sig .tc := ⟨.hbm, 883, rfl⟩
abbrev main_call22_v2 : Ref sig .tc := ⟨.hbm, 884, rfl⟩
abbrev main_call22_v3 : Ref sig .tc := ⟨.hbm, 885, rfl⟩
abbrev main_call22_v4 : Ref sig .tc := ⟨.hbm, 886, rfl⟩
abbrev main_v429 : Ref sig .tc := ⟨.hbm, 887, rfl⟩
abbrev main_v430 : Ref sig .tc := ⟨.hbm, 888, rfl⟩
abbrev main_v431 : Ref sig .tc := ⟨.hbm, 889, rfl⟩
abbrev main_v432 : Ref sig .tc := ⟨.hbm, 890, rfl⟩
abbrev main_v433 : Ref sig .tc := ⟨.hbm, 891, rfl⟩
abbrev main_v434 : Ref sig .tc := ⟨.hbm, 892, rfl⟩
abbrev main_v435 : Ref sig .tc := ⟨.hbm, 893, rfl⟩
abbrev main_c_122 : Ref sig .tc := ⟨.hbm, 894, rfl⟩
abbrev main_v436 : Ref sig .tc := ⟨.hbm, 895, rfl⟩
abbrev main_v437 : Ref sig .tc := ⟨.hbm, 896, rfl⟩
abbrev main_c_123 : Ref sig .tc := ⟨.hbm, 897, rfl⟩
abbrev main_v438 : Ref sig .tc := ⟨.hbm, 898, rfl⟩
abbrev main_v439 : Ref sig .tc := ⟨.hbm, 899, rfl⟩
abbrev main_v440 : Ref sig .tc := ⟨.hbm, 900, rfl⟩
abbrev main_v441 : Ref sig .tc := ⟨.hbm, 901, rfl⟩
abbrev main_v442 : Ref sig .tc := ⟨.hbm, 902, rfl⟩
abbrev main_c_124 : Ref sig .tc := ⟨.hbm, 903, rfl⟩
abbrev main_v443 : Ref sig .tc := ⟨.hbm, 904, rfl⟩
abbrev main_v444 : Ref sig .tc := ⟨.hbm, 905, rfl⟩
abbrev main_c_125 : Ref sig .tc := ⟨.hbm, 906, rfl⟩
abbrev main_v445 : Ref sig .tc := ⟨.hbm, 907, rfl⟩
abbrev main_v446 : Ref sig .tc := ⟨.hbm, 908, rfl⟩
abbrev main_v447 : Ref sig .tc := ⟨.hbm, 909, rfl⟩
abbrev main_v448 : Ref sig .tc := ⟨.hbm, 910, rfl⟩
abbrev main_v449 : Ref sig .tc := ⟨.hbm, 911, rfl⟩
abbrev main_cst_126 : Ref sig .tc := ⟨.hbm, 912, rfl⟩
abbrev main_v450 : Ref sig .tc := ⟨.hbm, 913, rfl⟩
abbrev main_v451 : Ref sig .tc := ⟨.hbm, 914, rfl⟩
abbrev main_v452 : Ref sig .tc := ⟨.hbm, 915, rfl⟩
abbrev main_v453 : Ref sig .tc := ⟨.hbm, 916, rfl⟩
abbrev main_v454 : Ref sig .tc := ⟨.hbm, 917, rfl⟩
abbrev main_v455 : Ref sig .tc := ⟨.hbm, 918, rfl⟩
abbrev main_v456 : Ref sig .tc := ⟨.hbm, 919, rfl⟩
abbrev main_c_127 : Ref sig .tc := ⟨.hbm, 920, rfl⟩
abbrev main_v457 : Ref sig .tc := ⟨.hbm, 921, rfl⟩
abbrev main_v458 : Ref sig .tc := ⟨.hbm, 922, rfl⟩
abbrev main_c_128 : Ref sig .tc := ⟨.hbm, 923, rfl⟩
abbrev main_v459 : Ref sig .tc := ⟨.hbm, 924, rfl⟩
abbrev main_v460 : Ref sig .tc := ⟨.hbm, 925, rfl⟩
abbrev main_v461 : Ref sig .tc := ⟨.hbm, 926, rfl⟩
abbrev main_v462 : Ref sig .tc := ⟨.hbm, 927, rfl⟩
abbrev main_v463 : Ref sig .tc := ⟨.hbm, 928, rfl⟩
abbrev main_c_129 : Ref sig .tc := ⟨.hbm, 929, rfl⟩
abbrev main_v464 : Ref sig .tc := ⟨.hbm, 930, rfl⟩
abbrev main_v465 : Ref sig .tc := ⟨.hbm, 931, rfl⟩
abbrev main_c_130 : Ref sig .tc := ⟨.hbm, 932, rfl⟩
abbrev main_v466 : Ref sig .tc := ⟨.hbm, 933, rfl⟩
abbrev main_v467 : Ref sig .tc := ⟨.hbm, 934, rfl⟩
abbrev main_v468 : Ref sig .tc := ⟨.hbm, 935, rfl⟩
abbrev main_v469 : Ref sig .tc := ⟨.hbm, 936, rfl⟩
abbrev main_v470 : Ref sig .tc := ⟨.hbm, 937, rfl⟩
abbrev main_cst_131 : Ref sig .tc := ⟨.hbm, 938, rfl⟩
abbrev main_v471 : Ref sig .tc := ⟨.hbm, 939, rfl⟩
abbrev main_v472 : Ref sig .tc := ⟨.hbm, 940, rfl⟩
abbrev main_v473 : Ref sig .tc := ⟨.hbm, 941, rfl⟩
abbrev main_v474 : Ref sig .tc := ⟨.hbm, 942, rfl⟩
abbrev main_v475 : Ref sig .tc := ⟨.hbm, 943, rfl⟩
abbrev main_v476 : Ref sig .tc := ⟨.hbm, 944, rfl⟩
abbrev main_v477 : Ref sig .tc := ⟨.hbm, 945, rfl⟩
abbrev main_cst_132 : Ref sig .tc := ⟨.hbm, 946, rfl⟩
abbrev main_v478 : Ref sig .tc := ⟨.hbm, 947, rfl⟩
abbrev main_v479 : Ref sig .tc := ⟨.hbm, 948, rfl⟩
abbrev main_v480 : Ref sig .tc := ⟨.hbm, 949, rfl⟩
abbrev main_v481 : Ref sig .tc := ⟨.hbm, 950, rfl⟩
abbrev main_v482 : Ref sig .tc := ⟨.hbm, 951, rfl⟩
abbrev main_values_133 : Ref sig .tc := ⟨.hbm, 952, rfl⟩
abbrev main_indices_134 : Ref sig .tc := ⟨.hbm, 953, rfl⟩
abbrev main_c_135 : Ref sig .tc := ⟨.hbm, 954, rfl⟩
abbrev main_call23_v0 : Ref sig .tc := ⟨.hbm, 955, rfl⟩
abbrev main_call23_c : Ref sig .tc := ⟨.hbm, 956, rfl⟩
abbrev main_call23_v1 : Ref sig .tc := ⟨.hbm, 957, rfl⟩
abbrev main_call23_c_0 : Ref sig .tc := ⟨.hbm, 958, rfl⟩
abbrev main_call23_v2 : Ref sig .tc := ⟨.hbm, 959, rfl⟩
abbrev main_call23_v3 : Ref sig .tc := ⟨.hbm, 960, rfl⟩
abbrev main_call23_v4 : Ref sig .tc := ⟨.hbm, 961, rfl⟩
abbrev main_call23_c_1 : Ref sig .tc := ⟨.hbm, 962, rfl⟩
abbrev main_call23_v5 : Ref sig .tc := ⟨.hbm, 963, rfl⟩
abbrev main_call23_v6 : Ref sig .tc := ⟨.hbm, 964, rfl⟩
abbrev main_call23_c_2 : Ref sig .tc := ⟨.hbm, 965, rfl⟩
abbrev main_call23_v7 : Ref sig .tc := ⟨.hbm, 966, rfl⟩
abbrev main_call23_v8 : Ref sig .tc := ⟨.hbm, 967, rfl⟩
abbrev main_call23_c_3 : Ref sig .tc := ⟨.hbm, 968, rfl⟩
abbrev main_call23_v9 : Ref sig .tc := ⟨.hbm, 969, rfl⟩
abbrev main_call23_v10 : Ref sig .tc := ⟨.hbm, 970, rfl⟩
abbrev main_call23_v11 : Ref sig .tc := ⟨.hbm, 971, rfl⟩
abbrev main_call23_v12 : Ref sig .tc := ⟨.hbm, 972, rfl⟩
abbrev main_call23_v13 : Ref sig .tc := ⟨.hbm, 973, rfl⟩
abbrev main_call23_v14 : Ref sig .tc := ⟨.hbm, 974, rfl⟩
abbrev main_v483 : Ref sig .tc := ⟨.hbm, 975, rfl⟩
abbrev main_c_136 : Ref sig .tc := ⟨.hbm, 976, rfl⟩
abbrev main_call24_v0 : Ref sig .tc := ⟨.hbm, 977, rfl⟩
abbrev main_call24_v1 : Ref sig .tc := ⟨.hbm, 978, rfl⟩
abbrev main_call24_v2 : Ref sig .tc := ⟨.hbm, 979, rfl⟩
abbrev main_call24_v3 : Ref sig .tc := ⟨.hbm, 980, rfl⟩
abbrev main_call24_v4 : Ref sig .tc := ⟨.hbm, 981, rfl⟩
abbrev main_call24_v5 : Ref sig .tc := ⟨.hbm, 982, rfl⟩
abbrev main_call24_v6 : Ref sig .tc := ⟨.hbm, 983, rfl⟩
abbrev main_call24_v7 : Ref sig .tc := ⟨.hbm, 984, rfl⟩
abbrev main_call24_v8 : Ref sig .tc := ⟨.hbm, 985, rfl⟩
abbrev main_call24_c : Ref sig .tc := ⟨.hbm, 986, rfl⟩
abbrev main_call24_v9 : Ref sig .tc := ⟨.hbm, 987, rfl⟩
abbrev main_call24_v10 : Ref sig .tc := ⟨.hbm, 988, rfl⟩
abbrev main_call24_v11 : Ref sig .tc := ⟨.hbm, 989, rfl⟩
abbrev main_call24_c_0 : Ref sig .tc := ⟨.hbm, 990, rfl⟩
abbrev main_call24_v12 : Ref sig .tc := ⟨.hbm, 991, rfl⟩
abbrev main_call24_v13 : Ref sig .tc := ⟨.hbm, 992, rfl⟩
abbrev main_v484 : Ref sig .tc := ⟨.hbm, 993, rfl⟩
abbrev main_v485 : Ref sig .tc := ⟨.hbm, 994, rfl⟩
abbrev main_v486 : Ref sig .tc := ⟨.hbm, 995, rfl⟩
abbrev main_v487 : Ref sig .tc := ⟨.hbm, 996, rfl⟩
abbrev main_v488 : Ref sig .tc := ⟨.hbm, 997, rfl⟩
abbrev main_cst_137 : Ref sig .tc := ⟨.hbm, 998, rfl⟩
abbrev main_v489 : Ref sig .tc := ⟨.hbm, 999, rfl⟩
abbrev main_v490 : Ref sig .tc := ⟨.hbm, 1000, rfl⟩
abbrev main_cst_138 : Ref sig .tc := ⟨.hbm, 1001, rfl⟩
abbrev main_v491 : Ref sig .tc := ⟨.hbm, 1002, rfl⟩
abbrev main_v492 : Ref sig .tc := ⟨.hbm, 1003, rfl⟩
abbrev main_cst_139 : Ref sig .tc := ⟨.hbm, 1004, rfl⟩
abbrev main_v493 : Ref sig .tc := ⟨.hbm, 1005, rfl⟩
abbrev main_v494 : Ref sig .tc := ⟨.hbm, 1006, rfl⟩
abbrev main_v495 : Ref sig .tc := ⟨.hbm, 1007, rfl⟩
abbrev main_v496 : Ref sig .tc := ⟨.hbm, 1008, rfl⟩
abbrev main_v497 : Ref sig .tc := ⟨.hbm, 1009, rfl⟩
abbrev main_v498 : Ref sig .tc := ⟨.hbm, 1010, rfl⟩
abbrev main_v499 : Ref sig .tc := ⟨.hbm, 1011, rfl⟩
abbrev main_v500 : Ref sig .tc := ⟨.hbm, 1012, rfl⟩
abbrev main_v501 : Ref sig .tc := ⟨.hbm, 1013, rfl⟩
abbrev main_v502 : Ref sig .tc := ⟨.hbm, 1014, rfl⟩
abbrev main_v503 : Ref sig .tc := ⟨.hbm, 1015, rfl⟩
abbrev main_v504 : Ref sig .tc := ⟨.hbm, 1016, rfl⟩
abbrev main_v505 : Ref sig .tc := ⟨.hbm, 1017, rfl⟩
abbrev main_v506 : Ref sig .tc := ⟨.hbm, 1018, rfl⟩
abbrev main_v507 : Ref sig .tc := ⟨.hbm, 1019, rfl⟩
abbrev main_v508 : Ref sig .tc := ⟨.hbm, 1020, rfl⟩
abbrev main_v509 : Ref sig .tc := ⟨.hbm, 1021, rfl⟩
abbrev main_v510 : Ref sig .tc := ⟨.hbm, 1022, rfl⟩
abbrev main_cst_140 : Ref sig .tc := ⟨.hbm, 1023, rfl⟩
abbrev main_v511 : Ref sig .tc := ⟨.hbm, 1024, rfl⟩
abbrev main_v512 : Ref sig .tc := ⟨.hbm, 1025, rfl⟩
abbrev main_cst_141 : Ref sig .tc := ⟨.hbm, 1026, rfl⟩
abbrev main_v513 : Ref sig .tc := ⟨.hbm, 1027, rfl⟩
abbrev main_v514 : Ref sig .tc := ⟨.hbm, 1028, rfl⟩
abbrev main_v515 : Ref sig .tc := ⟨.hbm, 1029, rfl⟩
abbrev main_v516 : Ref sig .tc := ⟨.hbm, 1030, rfl⟩
abbrev main_v517 : Ref sig .tc := ⟨.hbm, 1031, rfl⟩
abbrev main_v518 : Ref sig .tc := ⟨.hbm, 1032, rfl⟩
abbrev main_v519 : Ref sig .tc := ⟨.hbm, 1033, rfl⟩
abbrev main_v520 : Ref sig .tc := ⟨.hbm, 1034, rfl⟩
abbrev main_v521 : Ref sig .tc := ⟨.hbm, 1035, rfl⟩
abbrev main_c_142 : Ref sig .tc := ⟨.hbm, 1036, rfl⟩
abbrev main_v522 : Ref sig .tc := ⟨.hbm, 1037, rfl⟩
abbrev main_v523 : Ref sig .tc := ⟨.hbm, 1038, rfl⟩
abbrev main_c_143 : Ref sig .tc := ⟨.hbm, 1039, rfl⟩
abbrev main_v524 : Ref sig .tc := ⟨.hbm, 1040, rfl⟩
abbrev main_v525 : Ref sig .tc := ⟨.hbm, 1041, rfl⟩
abbrev main_v526 : Ref sig .tc := ⟨.hbm, 1042, rfl⟩
abbrev main_c_144 : Ref sig .tc := ⟨.hbm, 1043, rfl⟩
abbrev main_v527 : Ref sig .tc := ⟨.hbm, 1044, rfl⟩
abbrev main_v528 : Ref sig .tc := ⟨.hbm, 1045, rfl⟩
abbrev main_c_145 : Ref sig .tc := ⟨.hbm, 1046, rfl⟩
abbrev main_v529 : Ref sig .tc := ⟨.hbm, 1047, rfl⟩
abbrev main_v530 : Ref sig .tc := ⟨.hbm, 1048, rfl⟩
abbrev main_v531 : Ref sig .tc := ⟨.hbm, 1049, rfl⟩
abbrev main_c_146 : Ref sig .tc := ⟨.hbm, 1050, rfl⟩
abbrev main_v532 : Ref sig .tc := ⟨.hbm, 1051, rfl⟩
abbrev main_v533 : Ref sig .tc := ⟨.hbm, 1052, rfl⟩
abbrev main_c_147 : Ref sig .tc := ⟨.hbm, 1053, rfl⟩
abbrev main_v534 : Ref sig .tc := ⟨.hbm, 1054, rfl⟩
abbrev main_v535 : Ref sig .tc := ⟨.hbm, 1055, rfl⟩
abbrev main_v536 : Ref sig .tc := ⟨.hbm, 1056, rfl⟩
abbrev main_v537 : Ref sig .tc := ⟨.hbm, 1057, rfl⟩
abbrev main_v538 : Ref sig .tc := ⟨.hbm, 1058, rfl⟩
abbrev main_v539 : Ref sig .tc := ⟨.hbm, 1059, rfl⟩
abbrev main_v540 : Ref sig .tc := ⟨.hbm, 1060, rfl⟩
abbrev main_v541 : Ref sig .tc := ⟨.hbm, 1061, rfl⟩
abbrev main_v542 : Ref sig .tc := ⟨.hbm, 1062, rfl⟩
abbrev main_v543 : Ref sig .tc := ⟨.hbm, 1063, rfl⟩
abbrev main_v544 : Ref sig .tc := ⟨.hbm, 1064, rfl⟩

abbrev nD : Nat := 1
abbrev τ : Topo := Topo.v7x

variable {F : FTy → Type} [FloatOps F]
-- ==== Proof.KernelRun.lean ====
module

public import proofs.«01_k».proof.Proof.Gen.KernelIdeal.Frame

/-
  The kernel's run, with what its result array holds at the end.
-/

@[expose] public section

set_option maxRecDepth 16384

noncomputable section

namespace Refine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every execution ends with the result array as the last stretch of host operations leaves it, the arguments unchanged. -/
theorem kernel_run : θ_run defs (onTc (τ := τ) (main (F := F))) ⟨m, fun _ => 0, ρ⟩ (fun r => ∀ c : Dev nD,
      r.2.mem ((c.tc : Thread nD τ).loc main_v374) = W69 m ρ c (Proc.devRef .tc main_v374)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W69 m ρ c b)
    (hfin := fun c s' => by
      iintro ⟨⟨Hh, -⟩, HSI⟩
      unfold StableHlo.held
      imodintro
      iapply (pointsTo_read_all (Pipeline.ucRefs τ sig) (fun b => (((c : Thread nD τ)).1, b)) (W69 m ρ c) s')
      isplitl [Hh] <;> iassumption)
    (hQ := fun s h _ c =>
      ⟨h c _ (mem_uc main_v374 (by decide)),
       (h c _ (mem_uc main_arg0 (by decide))).trans (W69_main_arg0 m ρ c),
       (h c _ (mem_uc main_arg1 (by decide))).trans (W69_main_arg1 m ρ c),
       (h c _ (mem_uc main_arg2 (by decide))).trans (W69_main_arg2 m ρ c),
       (h c _ (mem_uc main_arg3 (by decide))).trans (W69_main_arg3 m ρ c)⟩)

end Refine
-- ==== Proof.Gathers.lean ====
module

public import Idealize.ShloMosaic.PureOps
public import Idealize.ShloMosaic.Lib.ValueIdxCore
public import Idealize.ShloMosaic.Lib.Pipeline.Value

/-
  The four gathers of a refinement level read at an index: rows and columns of a matrix, taken at a
  column of row (column) numbers, in the kernel's layout (rank 2) and in the reference's (rank 4, two
  leading unit axes).
-/

@[expose] public section

noncomputable section

namespace Refine

open Idealize.ShloMosaic Idealize.ShloMosaic.ValueIdx

/-- A rank-1 shape. -/
abbrev s1 (a : Nat) : Shape := ⟨1, ![a]⟩
/-- A rank-2 shape. -/
abbrev s2 (a b : Nat) : Shape := ⟨2, ![a, b]⟩
/-- A rank-3 shape. -/
abbrev s3 (a b c : Nat) : Shape := ⟨3, ![a, b, c]⟩
/-- A rank-4 shape. -/
abbrev s4 (a b c d : Nat) : Shape := ⟨4, ![a, b, c, d]⟩

variable {α : Type}

/-- Dimension numbers of taking `r` rows of an `h × w` matrix. -/
abbrev rows2 (h w r : Nat) (wf : GatherDims.WF (s2 h w) (s2 r 1) (s2 r w) [1] [0] [] [0] [] 1 ![1, w]) :
    GatherDims (s2 h w) (s2 r 1) (s2 r w) where
  offsetDims := [1]
  collapsedSliceDims := [0]
  operandBatchingDims := []
  startIndicesBatchingDims := []
  startIndexMap := [0]
  indexVectorDim := 1
  sliceSizes := ![1, w]
  wf := wf

/-- Taking rows, read at an entry. -/
theorem rows2_apply {h w r : Nat} (hh : 0 < h) (wf) (x : (s2 h w).Idx → α) (idx : IVec (s2 r 1) 32) (i : Fin r) (j : Fin w) :
    Host.gather (rows2 h w r wf) x idx (ix2 i j)
      = x (ix2 ⟨min (idx (ix2 i 0)).toInt.toNat (h - 1), by omega⟩ j) := by
  unfold Host.gather
  congr 1
  funext a
  refine Fin.ext ?_
  show (rows2 h w r wf).start (ix2 i j) idx a + (rows2 h w r wf).batchCoord (ix2 i j) a + (rows2 h w r wf).offCoord (ix2 i j) a = _
  rw [GatherDims.batchCoord_eq_zero _ _ _ List.not_mem_nil, Nat.add_zero]
  rcases (by decide : ∀ a : Fin 2, a = 0 ∨ a = 1) a with rfl | rfl
  · rw [GatherDims.offCoord_eq_zero _ _ _ (fun h => ((GatherDims.mem_sKept _ _).mp h).1 (List.mem_singleton.mpr rfl))]
    unfold GatherDims.start
    rw [dif_pos (show (0 : Fin 2) ∈ (rows2 h w r wf).startIndexMap from List.mem_singleton.mpr rfl)]
    have hsi : (rows2 h w r wf).siIdx (ix2 i j) ⟨List.idxOf (0 : Fin 2) (rows2 h w r wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    rw [dif_neg (show ¬ (1 : Fin 2) ∈ (rows2 h w r wf).startIndexMap from (by decide : ¬ (1 : Fin 2) ∈ [(0 : Fin 2)]))]
    rw [Nat.zero_add]
    rfl

/-- Dimension numbers of taking `w'` columns of an `r × w` matrix. -/
abbrev cols2 (r w w' : Nat) (wf : GatherDims.WF (s2 r w) (s2 w' 1) (s2 r w') [0] [1] [] [1] [] 1 ![r, 1]) :
    GatherDims (s2 r w) (s2 w' 1) (s2 r w') where
  offsetDims := [0]
  collapsedSliceDims := [1]
  operandBatchingDims := []
  startIndicesBatchingDims := []
  startIndexMap := [1]
  indexVectorDim := 1
  sliceSizes := ![r, 1]
  wf := wf

/-- Taking columns, read at an entry. -/
theorem cols2_apply {r w w' : Nat} (hw : 0 < w) (wf) (x : (s2 r w).Idx → α) (idx : IVec (s2 w' 1) 32) (i : Fin r) (j : Fin w') :
    Host.gather (cols2 r w w' wf) x idx (ix2 i j)
      = x (ix2 i ⟨min (idx (ix2 j 0)).toInt.toNat (w - 1), by omega⟩) := by
  unfold Host.gather
  congr 1
  funext a
  refine Fin.ext ?_
  show (cols2 r w w' wf).start (ix2 i j) idx a + (cols2 r w w' wf).batchCoord (ix2 i j) a + (cols2 r w w' wf).offCoord (ix2 i j) a = _
  rw [GatherDims.batchCoord_eq_zero _ _ _ List.not_mem_nil, Nat.add_zero]
  rcases (by decide : ∀ a : Fin 2, a = 0 ∨ a = 1) a with rfl | rfl
  · unfold GatherDims.start
    rw [dif_neg (show ¬ (0 : Fin 2) ∈ (cols2 r w w' wf).startIndexMap from (by decide : ¬ (0 : Fin 2) ∈ [(1 : Fin 2)]))]
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (cols2 r w w' wf).startIndexMap from List.mem_singleton.mpr rfl)]
    have hsi : (cols2 r w w' wf).siIdx (ix2 i j) ⟨List.idxOf (1 : Fin 2) (cols2 r w w' wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- Dimension numbers of taking `r` rows of an `h × w` matrix under two leading unit axes. -/
abbrev rows4 (h w r : Nat) (wf : GatherDims.WF (s4 1 1 h w) (s2 r 1) (s4 1 1 r w) [0, 1, 3] [2] [] [2] [] 1 ![1, 1, 1, w]) :
    GatherDims (s4 1 1 h w) (s2 r 1) (s4 1 1 r w) where
  offsetDims := [0, 1, 3]
  collapsedSliceDims := [2]
  operandBatchingDims := []
  startIndicesBatchingDims := []
  startIndexMap := [2]
  indexVectorDim := 1
  sliceSizes := ![1, 1, 1, w]
  wf := wf

/-- Taking rows under two leading unit axes, read at an entry. -/
theorem rows4_apply {h w r : Nat} (hh : 0 < h) (wf) (x : (s4 1 1 h w).Idx → α) (idx : IVec (s2 r 1) 32) (i : Fin r) (j : Fin w) :
    Host.gather (rows4 h w r wf) x idx (ix4 0 0 i j)
      = x (ix4 0 0 ⟨min (idx (ix2 i 0)).toInt.toNat (h - 1), by omega⟩ j) := by
  unfold Host.gather
  congr 1
  funext a
  refine Fin.ext ?_
  show (rows4 h w r wf).start (ix4 0 0 i j) idx a + (rows4 h w r wf).batchCoord (ix4 0 0 i j) a + (rows4 h w r wf).offCoord (ix4 0 0 i j) a = _
  rw [GatherDims.batchCoord_eq_zero _ _ _ List.not_mem_nil, Nat.add_zero]
  rcases (by decide : ∀ a : Fin 4, a = 0 ∨ a = 1 ∨ a = 2 ∨ a = 3) a with rfl | rfl | rfl | rfl
  · unfold GatherDims.start
    rw [dif_neg (show ¬ (0 : Fin 4) ∈ (rows4 h w r wf).startIndexMap from (by decide : ¬ (0 : Fin 4) ∈ [(2 : Fin 4)]))]
    rw [Nat.zero_add]
    rfl
  · unfold GatherDims.start
    rw [dif_neg (show ¬ (1 : Fin 4) ∈ (rows4 h w r wf).startIndexMap from (by decide : ¬ (1 : Fin 4) ∈ [(2 : Fin 4)]))]
    rw [Nat.zero_add]
    rfl
  · rw [GatherDims.offCoord_eq_zero _ _ _ (fun h => ((GatherDims.mem_sKept _ _).mp h).1 (List.mem_singleton.mpr rfl))]
    unfold GatherDims.start
    rw [dif_pos (show (2 : Fin 4) ∈ (rows4 h w r wf).startIndexMap from List.mem_singleton.mpr rfl)]
    have hsi : (rows4 h w r wf).siIdx (ix4 0 0 i j) ⟨List.idxOf (2 : Fin 4) (rows4 h w r wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    rw [dif_neg (show ¬ (3 : Fin 4) ∈ (rows4 h w r wf).startIndexMap from (by decide : ¬ (3 : Fin 4) ∈ [(2 : Fin 4)]))]
    rw [Nat.zero_add]
    rfl

/-- Dimension numbers of taking `w'` columns of an `r × w` matrix under two leading unit axes. -/
abbrev cols4 (r w w' : Nat) (wf : GatherDims.WF (s4 1 1 r w) (s2 w' 1) (s4 1 1 r w') [0, 1, 2] [3] [] [3] [] 1 ![1, 1, r, 1]) :
    GatherDims (s4 1 1 r w) (s2 w' 1) (s4 1 1 r w') where
  offsetDims := [0, 1, 2]
  collapsedSliceDims := [3]
  operandBatchingDims := []
  startIndicesBatchingDims := []
  startIndexMap := [3]
  indexVectorDim := 1
  sliceSizes := ![1, 1, r, 1]
  wf := wf

/-- Taking columns under two leading unit axes, read at an entry. -/
theorem cols4_apply {r w w' : Nat} (hw : 0 < w) (wf) (x : (s4 1 1 r w).Idx → α) (idx : IVec (s2 w' 1) 32) (i : Fin r) (j : Fin w') :
    Host.gather (cols4 r w w' wf) x idx (ix4 0 0 i j)
      = x (ix4 0 0 i ⟨min (idx (ix2 j 0)).toInt.toNat (w - 1), by omega⟩) := by
  unfold Host.gather
  congr 1
  funext a
  refine Fin.ext ?_
  show (cols4 r w w' wf).start (ix4 0 0 i j) idx a + (cols4 r w w' wf).batchCoord (ix4 0 0 i j) a + (cols4 r w w' wf).offCoord (ix4 0 0 i j) a = _
  rw [GatherDims.batchCoord_eq_zero _ _ _ List.not_mem_nil, Nat.add_zero]
  rcases (by decide : ∀ a : Fin 4, a = 0 ∨ a = 1 ∨ a = 2 ∨ a = 3) a with rfl | rfl | rfl | rfl
  · unfold GatherDims.start
    rw [dif_neg (show ¬ (0 : Fin 4) ∈ (cols4 r w w' wf).startIndexMap from (by decide : ¬ (0 : Fin 4) ∈ [(3 : Fin 4)]))]
    rw [Nat.zero_add]
    rfl
  · unfold GatherDims.start
    rw [dif_neg (show ¬ (1 : Fin 4) ∈ (cols4 r w w' wf).startIndexMap from (by decide : ¬ (1 : Fin 4) ∈ [(3 : Fin 4)]))]
    rw [Nat.zero_add]
    rfl
  · unfold GatherDims.start
    rw [dif_neg (show ¬ (2 : Fin 4) ∈ (cols4 r w w' wf).startIndexMap from (by decide : ¬ (2 : Fin 4) ∈ [(3 : Fin 4)]))]
    rw [Nat.zero_add]
    rfl
  · rw [GatherDims.offCoord_eq_zero _ _ _ (fun h => ((GatherDims.mem_sKept _ _).mp h).1 (List.mem_singleton.mpr rfl))]
    unfold GatherDims.start
    rw [dif_pos (show (3 : Fin 4) ∈ (cols4 r w w' wf).startIndexMap from List.mem_singleton.mpr rfl)]
    have hsi : (cols4 r w w' wf).siIdx (ix4 0 0 i j) ⟨List.idxOf (3 : Fin 4) (cols4 r w w' wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

end Refine
-- ==== Proof.TopScatter.lean ====
module

public import proofs.«01_k».proof.Proof.Gathers

/-
  The two operations of a refinement level that pick and write points: the top-k along a vector and
  the scatter into it. The reference carries both under leading unit axes; the lemmas here say that
  the unit axes change nothing.
-/

@[expose] public section

noncomputable section

namespace Refine

open Idealize.ShloMosaic Idealize.ShloMosaic.ValueIdx

variable {α : Type}

/-- The positions a stable sort of a vector and its iota puts in each place. -/
theorem sort2_pos1 {N : Nat} (gt : α → α → BitVec 1) (x : (s1 N).Idx → α) (n : Fin N) :
    (Host.sort2 (s1 N) 0 (fun l r : α × BitVec 32 => gt l.1 r.1) x
        (fun i => if hd : 0 < (s1 N).rank then iotaInDim (s1 N) 32 ⟨0, hd⟩ i else 0#32)).2 (ix1 n)
      = BitVec.ofNat 32 (sortedFrom (fun k k' : Fin N => gt (x (ix1 k)) (x (ix1 k')) == 1#1) n).val := by
  have hal : ∀ k : Fin N, Shape.Idx.along (s := s1 N) (ix1 n) 0 k = ix1 k := by
    intro k; funext b
    obtain rfl : b = 0 := Subsingleton.elim _ _
    rfl
  unfold Host.sort2
  rw [dif_pos (show 0 < (s1 N).rank from Nat.one_pos)]
  show BitVec.ofNat 32 (Shape.Idx.along (s := s1 N) (ix1 n) 0 (sortedFrom (fun k k' : Fin N =>
    gt (x (Shape.Idx.along (s := s1 N) (ix1 n) 0 k)) (x (Shape.Idx.along (s := s1 N) (ix1 n) 0 k')) == 1#1) n) 0).val = _
  simp only [hal]
  rfl

/-- The same along the second axis of a one-row matrix. -/
theorem sort2_pos2 {N : Nat} (gt : α → α → BitVec 1) (x : (s2 1 N).Idx → α) (n : Fin N) :
    (Host.sort2 (s2 1 N) 1 (fun l r : α × BitVec 32 => gt l.1 r.1) x
        (fun i => if hd : 1 < (s2 1 N).rank then iotaInDim (s2 1 N) 32 ⟨1, hd⟩ i else 0#32)).2 (ix2 0 n)
      = BitVec.ofNat 32 (sortedFrom (fun k k' : Fin N => gt (x (ix2 0 k)) (x (ix2 0 k')) == 1#1) n).val := by
  have hal : ∀ k : Fin N, Shape.Idx.along (s := s2 1 N) (ix2 0 n) 1 k = ix2 0 k := by
    intro k; funext b
    rcases (by decide : ∀ a : Fin 2, a = 0 ∨ a = 1) b with rfl | rfl
    · rfl
    · rfl
  unfold Host.sort2
  rw [dif_pos (show 1 < (s2 1 N).rank from Nat.one_lt_two)]
  show BitVec.ofNat 32 (Shape.Idx.along (s := s2 1 N) (ix2 0 n) 1 (sortedFrom (fun k k' : Fin N =>
    gt (x (Shape.Idx.along (s := s2 1 N) (ix2 0 n) 1 k)) (x (Shape.Idx.along (s := s2 1 N) (ix2 0 n) 1 k')) == 1#1) n) 1).val = _
  simp only [hal]
  rfl

/-- The top-k of a vector and of the same vector as a one-row matrix name the same positions. -/
theorem topK_row {N P : Nat} (hP : P ≤ N) (gt : α → α → BitVec 1) (x1 : (s1 N).Idx → α) (x2 : (s2 1 N).Idx → α)
    (hx : ∀ n, x2 (ix2 0 n) = x1 (ix1 n)) (h1 : (s1 N).Slices (fun _ => 0) (s1 P)) (h2 : (s2 1 N).Slices (fun _ => 0) (s2 1 P))
    (k : Fin P) :
    (Host.topK (s2 1 P) 1 gt x2 h2).2 (ix2 0 k) = (Host.topK (s1 P) 0 gt x1 h1).2 (ix1 k) := by
  have e1 : (Host.topK (s1 P) 0 gt x1 h1).2 (ix1 k) = (Host.sort2 (s1 N) 0 (fun l r : α × BitVec 32 => gt l.1 r.1) x1
        (fun i => if hd : 0 < (s1 N).rank then iotaInDim (s1 N) 32 ⟨0, hd⟩ i else 0#32)).2 (ix1 (k.castLE hP)) := by
    unfold Host.topK extractStridedSlice
    dsimp only
    refine congrArg (Host.sort2 (s1 N) 0 (fun l r => gt l.1 r.1) x1 _).2 ?_
    funext b
    obtain rfl : b = 0 := Subsingleton.elim _ _
    exact Fin.ext (Nat.zero_add _)
  have e2 : (Host.topK (s2 1 P) 1 gt x2 h2).2 (ix2 0 k) = (Host.sort2 (s2 1 N) 1 (fun l r : α × BitVec 32 => gt l.1 r.1) x2
        (fun i => if hd : 1 < (s2 1 N).rank then iotaInDim (s2 1 N) 32 ⟨1, hd⟩ i else 0#32)).2 (ix2 0 (k.castLE hP)) := by
    unfold Host.topK extractStridedSlice
    dsimp only
    refine congrArg (Host.sort2 (s2 1 N) 1 (fun l r => gt l.1 r.1) x2 _).2 ?_
    funext b
    rcases (by decide : ∀ a : Fin 2, a = 0 ∨ a = 1) b with rfl | rfl
    · exact Fin.ext (Nat.zero_add _)
    · exact Fin.ext (Nat.zero_add _)
  rw [e1, e2, sort2_pos1, sort2_pos2]
  simp only [hx]

/-- Dimension numbers of writing `P` entries of a vector of `N`. -/
abbrev put1 (N P : Nat) (wf : ScatterDims.WF (s1 N) (s2 P 1) (s1 P) [] [0] [0] 1) : ScatterDims (s1 N) (s2 P 1) (s1 P) where
  updateWindowDims := []
  insertedWindowDims := [0]
  scatterDimsToOperandDims := [0]
  indexVectorDim := 1
  wf := wf

/-- Dimension numbers of the same under two leading unit axes. -/
abbrev put3 (N P : Nat) (wf : ScatterDims.WF (s3 1 1 N) (s4 1 1 P 3) (s3 1 1 P) [] [0, 1, 2] [0, 1, 2] 3) :
    ScatterDims (s3 1 1 N) (s4 1 1 P 3) (s3 1 1 P) where
  updateWindowDims := []
  insertedWindowDims := [0, 1, 2]
  scatterDimsToOperandDims := [0, 1, 2]
  indexVectorDim := 3
  wf := wf

/-- Where update `k` of the vector scatter lands. -/
theorem put1_at {N P : Nat} (wf) (idx : IVec (s2 P 1) 32) (k : Fin P) :
    (put1 N P wf).resultIdx? (ix1 k) idx
      = if h : 0 ≤ (idx (ix2 k 0)).toInt ∧ (idx (ix2 k 0)).toInt < N
        then some (ix1 ⟨(idx (ix2 k 0)).toInt.toNat, by omega⟩) else none := by
  have hw : ∀ a, (put1 N P wf).window (ix1 k) a = 0 := by
    intro a
    unfold ScatterDims.window
    rw [dif_neg]
    obtain rfl : a = 0 := Subsingleton.elim _ _
    exact (by decide : ¬ (0 : Fin 1) ∈ (⟨1, ![0]⟩ : Shape).kept [0])
  have hsi : ∀ c, (put1 N P wf).siIdx (ix1 k) c = ix2 k 0 := by
    intro c; funext b; refine Fin.ext ?_
    have hc : c.val = 0 := by have := c.isLt; exact Nat.lt_one_iff.mp this
    rcases (by decide : ∀ a : Fin 2, a = 0 ∨ a = 1) b with rfl | rfl
    · rfl
    · exact hc
  have hs : (put1 N P wf).start (ix1 k) idx 0 = (idx (ix2 k 0)).toInt := by
    unfold ScatterDims.start
    rw [dif_pos (show (0 : Fin 1) ∈ (put1 N P wf).scatterDimsToOperandDims from List.mem_singleton.mpr rfl), hsi]
  have hall : (∀ a, 0 ≤ (put1 N P wf).start (ix1 k) idx a + (put1 N P wf).window (ix1 k) a
      ∧ (put1 N P wf).start (ix1 k) idx a + (put1 N P wf).window (ix1 k) a < (s1 N).size a)
      ↔ (0 ≤ (idx (ix2 k 0)).toInt ∧ (idx (ix2 k 0)).toInt < N) := by
    constructor
    · intro h
      have := h 0
      rw [hw, hs] at this
      simpa using this
    · intro h a
      obtain rfl : a = 0 := Subsingleton.elim _ _
      rw [hw, hs]
      simpa using h
  unfold ScatterDims.resultIdx?
  by_cases h : 0 ≤ (idx (ix2 k 0)).toInt ∧ (idx (ix2 k 0)).toInt < N
  · rw [dif_pos (hall.mpr h), dif_pos h]
    congr 1
    funext a
    obtain rfl : a = 0 := Subsingleton.elim _ _
    refine Fin.ext ?_
    show ((put1 N P wf).start (ix1 k) idx 0 + (put1 N P wf).window (ix1 k) 0).toNat = (idx (ix2 k 0)).toInt.toNat
    rw [hw, hs]; simp
  · rw [dif_neg (fun h' => h (hall.mp h')), dif_neg h]

/-- Where update `k` of the scatter under unit axes lands, when its index vector's first two components are `0`. -/
theorem put3_at {N P : Nat} (wf) (idx : IVec (s4 1 1 P 3) 32) (k : Fin P) (h0 : idx (ix4 0 0 k 0) = 0#32) (h1 : idx (ix4 0 0 k 1) = 0#32) :
    (put3 N P wf).resultIdx? (ix3 0 0 k) idx
      = if h : 0 ≤ (idx (ix4 0 0 k 2)).toInt ∧ (idx (ix4 0 0 k 2)).toInt < N
        then some (ix3 0 0 ⟨(idx (ix4 0 0 k 2)).toInt.toNat, by omega⟩) else none := by
  have c3 : ∀ a : Fin 3, a = 0 ∨ a = 1 ∨ a = 2 := by decide
  have hw : ∀ a, (put3 N P wf).window (ix3 0 0 k) a = 0 := by
    intro a
    unfold ScatterDims.window
    rw [dif_neg]
    intro h
    have := List.mem_filter.1 h
    rcases c3 a with rfl | rfl | rfl <;> simp at this
  have hm : ∀ a : Fin 3, a ∈ (put3 N P wf).scatterDimsToOperandDims := by
    intro a; rcases c3 a with rfl | rfl | rfl <;> simp
  have hsi : ∀ a : Fin 3, (put3 N P wf).siIdx (ix3 0 0 k) ⟨(put3 N P wf).scatterDimsToOperandDims.idxOf a,
      List.idxOf_lt_length_iff.2 (hm a)⟩ = ix4 0 0 k a := by
    intro a; funext b; refine Fin.ext ?_
    rcases (by decide : ∀ a : Fin 4, a = 0 ∨ a = 1 ∨ a = 2 ∨ a = 3) b with rfl | rfl | rfl | rfl
    · rfl
    · rfl
    · rfl
    · show ([0, 1, 2] : List (Fin 3)).idxOf a = a.val
      rcases c3 a with rfl | rfl | rfl <;> rfl
  have hs : ∀ a : Fin 3, (put3 N P wf).start (ix3 0 0 k) idx a = (idx (ix4 0 0 k a)).toInt := by
    intro a
    unfold ScatterDims.start
    rw [dif_pos (hm a), hsi]
  have hall : (∀ a, 0 ≤ (put3 N P wf).start (ix3 0 0 k) idx a + (put3 N P wf).window (ix3 0 0 k) a
      ∧ (put3 N P wf).start (ix3 0 0 k) idx a + (put3 N P wf).window (ix3 0 0 k) a < (s3 1 1 N).size a)
      ↔ (0 ≤ (idx (ix4 0 0 k 2)).toInt ∧ (idx (ix4 0 0 k 2)).toInt < N) := by
    constructor
    · intro h
      have := h 2
      rw [hw, hs] at this
      simpa using this
    · intro h a
      rw [hw, hs]
      rcases c3 a with rfl | rfl | rfl
      · rw [h0]; exact (by decide : (0 : Int) ≤ (0#32).toInt + ((0 : Nat) : Int) ∧ (0#32).toInt + ((0 : Nat) : Int) < ((1 : Nat) : Int))
      · rw [h1]; exact (by decide : (0 : Int) ≤ (0#32).toInt + ((0 : Nat) : Int) ∧ (0#32).toInt + ((0 : Nat) : Int) < ((1 : Nat) : Int))
      · simpa using h
  unfold ScatterDims.resultIdx?
  by_cases h : 0 ≤ (idx (ix4 0 0 k 2)).toInt ∧ (idx (ix4 0 0 k 2)).toInt < N
  · rw [dif_pos (hall.mpr h), dif_pos h]
    congr 1
    funext a
    refine Fin.ext ?_
    show ((put3 N P wf).start (ix3 0 0 k) idx a + (put3 N P wf).window (ix3 0 0 k) a).toNat = _
    rw [hw, hs]
    rcases c3 a with rfl | rfl | rfl
    · rw [h0]; rfl
    · rw [h1]; rfl
    · simp
  · rw [dif_neg (fun h' => h (hall.mp h')), dif_neg h]

/-- A fold over `0 … m − 1` is the fold over `0 … n − 1` when `m = n`. -/
theorem foldl_cast {β : Type} {m n : Nat} (h : m = n) (g : β → Fin m → β) (b : β) :
    (List.finRange m).foldl g b = (List.finRange n).foldl (fun r k => g r (k.cast h.symm)) b := by
  subst h; rfl

/-- A vector's index by its row-major number. -/
theorem rowMajor1_symm {P : Nat} (hn : (s1 P).numel = P) (k : Fin P) : (s1 P).rowMajor.symm (k.cast hn.symm) = ix1 k := by
  rw [Equiv.symm_apply_eq]
  exact Fin.ext (by rw [Shape.rowMajor_val_one]; rfl)

/-- The index under two leading unit axes by its row-major number. -/
theorem rowMajor3_symm {P : Nat} (hn : (s3 1 1 P).numel = P) (k : Fin P) : (s3 1 1 P).rowMajor.symm (k.cast hn.symm) = ix3 0 0 k := by
  rw [Equiv.symm_apply_eq]
  refine Fin.ext ?_
  rw [Shape.rowMajor_val_three]
  show k.val = (0 * _ + 0) * _ + k.val
  simp

/-- The scatter under unit axes is the vector's scatter, at operands, indices and updates that agree. -/
theorem put_agree {N P : Nat} (wf1) (wf3) (x1 : (s1 N).Idx → α) (x3 : (s3 1 1 N).Idx → α) (i1 : IVec (s2 P 1) 32) (i3 : IVec (s4 1 1 P 3) 32)
    (u1 : (s1 P).Idx → α) (u3 : (s3 1 1 P).Idx → α) (hx : ∀ n, x3 (ix3 0 0 n) = x1 (ix1 n))
    (h0 : ∀ k, i3 (ix4 0 0 k 0) = 0#32) (h1 : ∀ k, i3 (ix4 0 0 k 1) = 0#32) (h2 : ∀ k, i3 (ix4 0 0 k 2) = i1 (ix2 k 0))
    (hu : ∀ k, u3 (ix3 0 0 k) = u1 (ix1 k)) (n : Fin N) :
    Host.scatter (put3 N P wf3) (fun _ b => b) x3 i3 u3 (ix3 0 0 n) = Host.scatter (put1 N P wf1) (fun _ b => b) x1 i1 u1 (ix1 n) := by
  have hn1 : (s1 P).numel = P := by simp [Shape.numel]
  have hn3 : (s3 1 1 P).numel = P := by simp [Shape.numel, Fin.prod_univ_three]
  unfold Host.scatter
  rw [foldl_cast hn1, foldl_cast hn3]
  generalize List.finRange P = l
  induction l generalizing x1 x3 with
  | nil => exact hx n
  | cons k l ih =>
    rw [List.foldl_cons, List.foldl_cons]
    refine ih _ _ fun m => ?_
    rw [rowMajor1_symm hn1, rowMajor3_symm hn3, put1_at, put3_at _ _ _ (h0 k) (h1 k)]
    simp only [h2]
    by_cases h : 0 ≤ (i1 (ix2 k 0)).toInt ∧ (i1 (ix2 k 0)).toInt < N
    · simp only [dif_pos h]
      have hiff : (ix3 (0 : Fin 1) (0 : Fin 1) m = ix3 0 0 ⟨(i1 (ix2 k 0)).toInt.toNat, by omega⟩)
          ↔ (ix1 m = ix1 (⟨(i1 (ix2 k 0)).toInt.toNat, by omega⟩ : Fin N)) :=
        ⟨fun e => congrArg ix1 (congrFun e 2), fun e => congrArg (ix3 0 0) (congrFun e 0)⟩
      by_cases he : ix1 m = ix1 (⟨(i1 (ix2 k 0)).toInt.toNat, by omega⟩ : Fin N)
      · rw [if_pos (hiff.mpr he), if_pos he, hu]
      · rw [if_neg (fun h' => he (hiff.mp h')), if_neg he, hx]
    · simp only [dif_neg h]
      exact hx m

end Refine
-- ==== Proof.Upsample.lean ====
module

public import proofs.«01_k».proof.Proof.TopScatter
public import Idealize.ShloMosaic.PureOps

/-
  One level's upsampling, for any grid sizes: from an `h × h` grid to an `r × r` grid by two rounds of
  linear interpolation (rows, then columns), written once in the kernel's layout and once in the
  reference's. The two agree entry by entry, and so do the lists of uncertain points read off them.
-/

@[expose] public section

noncomputable section

namespace Refine

open Idealize.ShloMosaic Idealize.ShloMosaic.ValueIdx

variable {F : FTy → Type} [FloatOps F] {α : Type}

/-- The shape of a scalar. -/
abbrev s0 : Shape := ⟨0, ![]⟩

/-! ## Broadcasts and reshapes read at an entry -/

/-- A vector as a column. -/
theorem col_apply {r : Nat} (e : (s1 r).BroadcastsInDim (s2 r 1) ![0]) (v : (s1 r).Idx → α) (i : Fin r) (z : Fin 1) :
    broadcastInDim (s2 r 1) ![0] e v (ix2 i z) = v (ix1 i) :=
  broadcastInDim_apply _ e v _ _ fun a => by
    obtain rfl : a = 0 := Subsingleton.elim _ _
    show i.val = if r = 1 then 0 else i.val
    split <;> omega

/-- A vector as a row. -/
theorem row_apply {r : Nat} (e : (s1 r).BroadcastsInDim (s2 1 r) ![1]) (v : (s1 r).Idx → α) (z : Fin 1) (j : Fin r) :
    broadcastInDim (s2 1 r) ![1] e v (ix2 z j) = v (ix1 j) :=
  broadcastInDim_apply _ e v _ _ fun a => by
    obtain rfl : a = 0 := Subsingleton.elim _ _
    show j.val = if r = 1 then 0 else j.val
    split <;> omega

/-- A column copied along the rows. -/
theorem wide_apply {r w : Nat} (e : (s2 r 1).BroadcastsInDim (s2 r w) ![0, 1]) (v : (s2 r 1).Idx → α) (i : Fin r) (j : Fin w) :
    broadcastInDim (s2 r w) ![0, 1] e v (ix2 i j) = v (ix2 i 0) :=
  broadcastInDim_apply _ e v _ _ fun a => by
    rcases (by decide : ∀ a : Fin 2, a = 0 ∨ a = 1) a with rfl | rfl
    · show i.val = if r = 1 then 0 else i.val
      split <;> omega
    · rfl

/-- A row copied down the columns. -/
theorem tall_apply {h r : Nat} (e : (s2 1 r).BroadcastsInDim (s2 h r) ![0, 1]) (v : (s2 1 r).Idx → α) (i : Fin h) (j : Fin r) :
    broadcastInDim (s2 h r) ![0, 1] e v (ix2 i j) = v (ix2 0 j) :=
  broadcastInDim_apply _ e v _ _ fun a => by
    rcases (by decide : ∀ a : Fin 2, a = 0 ∨ a = 1) a with rfl | rfl
    · rfl
    · show j.val = if r = 1 then 0 else j.val
      split <;> omega

/-- A vector as a column under two unit axes. -/
theorem col4_apply {r : Nat} (e : (s1 r).BroadcastsInDim (s4 1 1 r 1) ![2]) (v : (s1 r).Idx → α) (i : Fin r) (z : Fin 1) :
    broadcastInDim (s4 1 1 r 1) ![2] e v (ix4 0 0 i z) = v (ix1 i) :=
  broadcastInDim_apply _ e v _ _ fun a => by
    obtain rfl : a = 0 := Subsingleton.elim _ _
    show i.val = if r = 1 then 0 else i.val
    split <;> omega

/-- A vector as a row under two unit axes. -/
theorem row4_apply {r : Nat} (e : (s1 r).BroadcastsInDim (s4 1 1 1 r) ![3]) (v : (s1 r).Idx → α) (z : Fin 1) (j : Fin r) :
    broadcastInDim (s4 1 1 1 r) ![3] e v (ix4 0 0 z j) = v (ix1 j) :=
  broadcastInDim_apply _ e v _ _ fun a => by
    obtain rfl : a = 0 := Subsingleton.elim _ _
    show j.val = if r = 1 then 0 else j.val
    split <;> omega

/-- A column copied along the rows, under two unit axes. -/
theorem wide4_apply {r w : Nat} (e : (s4 1 1 r 1).BroadcastsInDim (s4 1 1 r w) ![0, 1, 2, 3]) (v : (s4 1 1 r 1).Idx → α) (i : Fin r) (j : Fin w) :
    broadcastInDim (s4 1 1 r w) ![0, 1, 2, 3] e v (ix4 0 0 i j) = v (ix4 0 0 i 0) :=
  broadcastInDim_apply _ e v _ _ fun a => by
    rcases (by decide : ∀ a : Fin 4, a = 0 ∨ a = 1 ∨ a = 2 ∨ a = 3) a with rfl | rfl | rfl | rfl
    · rfl
    · rfl
    · show i.val = if r = 1 then 0 else i.val
      split <;> omega
    · rfl

/-- A row copied down the columns, under two unit axes. -/
theorem tall4_apply {h r : Nat} (e : (s4 1 1 1 r).BroadcastsInDim (s4 1 1 h r) ![0, 1, 2, 3]) (v : (s4 1 1 1 r).Idx → α) (i : Fin h) (j : Fin r) :
    broadcastInDim (s4 1 1 h r) ![0, 1, 2, 3] e v (ix4 0 0 i j) = v (ix4 0 0 0 j) :=
  broadcastInDim_apply _ e v _ _ fun a => by
    rcases (by decide : ∀ a : Fin 4, a = 0 ∨ a = 1 ∨ a = 2 ∨ a = 3) a with rfl | rfl | rfl | rfl
    · rfl
    · rfl
    · rfl
    · show j.val = if r = 1 then 0 else j.val
      split <;> omega

/-- The flat list of a grid's entries does not depend on leading unit axes (one-row matrix against vector). -/
theorem flat2_agree {a b N : Nat} (e1 : (s2 a b).ShapeCasts (s1 N)) (e2 : (s4 1 1 a b).ShapeCasts (s2 1 N))
    (x : (s2 a b).Idx → α) (x4 : (s4 1 1 a b).Idx → α) (hx : ∀ i j, x4 (ix4 0 0 i j) = x (ix2 i j)) (n : Fin N) :
    shapeCast (s2 1 N) x4 e2 (ix2 0 n) = shapeCast (s1 N) x e1 (ix1 n) := by
  obtain ⟨i, j, hp⟩ : ∃ (i : Fin a) (j : Fin b), Shape.reshapeEquiv e1 (ix1 n) = ix2 i j := ⟨_, _, eq_ix2 _⟩
  have hr := Shape.rowMajor_reshapeEquiv e1 (ix1 n)
  rw [hp, Shape.rowMajor_val_two, Shape.rowMajor_val_one] at hr
  rw [show shapeCast (s1 N) x e1 (ix1 n) = x (ix2 i j) from congrArg x hp, ← hx]
  refine shapeCast_apply _ _ _ _ ?_
  rw [Shape.rowMajor_val_four, Shape.rowMajor_val_two]
  show (((0 : Nat) * _ + 0) * _ + i.val) * b + j.val = 0 * _ + n.val
  have hr' : i.val * b + j.val = n.val := hr
  simpa using hr'

/-- The same against a vector under two unit axes. -/
theorem flat3_agree {a b N : Nat} (e1 : (s2 a b).ShapeCasts (s1 N)) (e2 : (s4 1 1 a b).ShapeCasts (s3 1 1 N))
    (x : (s2 a b).Idx → α) (x4 : (s4 1 1 a b).Idx → α) (hx : ∀ i j, x4 (ix4 0 0 i j) = x (ix2 i j)) (n : Fin N) :
    shapeCast (s3 1 1 N) x4 e2 (ix3 0 0 n) = shapeCast (s1 N) x e1 (ix1 n) := by
  obtain ⟨i, j, hp⟩ : ∃ (i : Fin a) (j : Fin b), Shape.reshapeEquiv e1 (ix1 n) = ix2 i j := ⟨_, _, eq_ix2 _⟩
  have hr := Shape.rowMajor_reshapeEquiv e1 (ix1 n)
  rw [hp, Shape.rowMajor_val_two, Shape.rowMajor_val_one] at hr
  rw [show shapeCast (s1 N) x e1 (ix1 n) = x (ix2 i j) from congrArg x hp, ← hx]
  refine shapeCast_apply _ _ _ _ ?_
  rw [Shape.rowMajor_val_four, Shape.rowMajor_val_three]
  show (((0 : Nat) * _ + 0) * _ + i.val) * b + j.val = (0 * _ + 0) * _ + n.val
  have hr' : i.val * b + j.val = n.val := hr
  simpa using hr'

/-- The grid of a flat list does not depend on leading unit axes. -/
theorem grid_agree {a b N : Nat} (e1 : (s1 N).ShapeCasts (s2 a b)) (e2 : (s3 1 1 N).ShapeCasts (s4 1 1 a b))
    (x : (s1 N).Idx → α) (x3 : (s3 1 1 N).Idx → α) (hx : ∀ n, x3 (ix3 0 0 n) = x (ix1 n)) (i : Fin a) (j : Fin b) :
    shapeCast (s4 1 1 a b) x3 e2 (ix4 0 0 i j) = shapeCast (s2 a b) x e1 (ix2 i j) := by
  obtain ⟨n, hp⟩ : ∃ n : Fin N, Shape.reshapeEquiv e1 (ix2 i j) = ix1 n := ⟨_, eq_ix1 _⟩
  have hr := Shape.rowMajor_reshapeEquiv e1 (ix2 i j)
  rw [hp, Shape.rowMajor_val_one, Shape.rowMajor_val_two] at hr
  rw [show shapeCast (s2 a b) x e1 (ix2 i j) = x (ix1 n) from congrArg x hp, ← hx]
  refine shapeCast_apply _ _ _ _ ?_
  rw [Shape.rowMajor_val_four, Shape.rowMajor_val_three]
  show ((0 : Nat) * _ + 0) * _ + n.val = ((0 * _ + 0) * _ + i.val) * b + j.val
  have hr' : n.val = i.val * b + j.val := hr
  simpa using hr'

/-! ## Integer helpers, for any shape -/

/-- A negative index counted from the end. -/
def wrap (s : Shape) (e : s0.BroadcastsInDim s ![]) (n : Nat) (y : IVec s 32) : IVec s 32 :=
  select (cmpi .slt y (broadcastInDim s ![] e (constantI s0 32 0#32))) (addi y (broadcastInDim s ![] e (constantI s0 32 (BitVec.ofNat 32 n)))) y

/-- The next index, clipped to the last one. -/
def next (s : Shape) (e : s0.BroadcastsInDim s ![]) (n : Nat) (y : IVec s 32) : IVec s 32 :=
  minsi (broadcastInDim s ![] e (id (constantI s0 32 (BitVec.ofNat 32 n))))
    (maxsi (broadcastInDim s ![] e (id (constantI s0 32 0#32))) (addi y (broadcastInDim s ![] e (constantI s0 32 1#32))))

/-- The divisor a remainder uses: `n`, or `1` in place of `0`. -/
def dvsr (n : Nat) : IVec s0 32 :=
  select (cmpi .eq (id (constantI s0 32 (BitVec.ofNat 32 n))) (constantI s0 32 0#32)) (constantI s0 32 1#32) (id (constantI s0 32 (BitVec.ofNat 32 n)))

/-- The remainder with the divisor's sign. -/
def modn (s : Shape) (e : s0.BroadcastsInDim s ![]) (n : Nat) (k : IVec s 32) : IVec s 32 :=
  select (andi (cmpi .ne (cmpi .slt (Host.remsi k (broadcastInDim s ![] e (dvsr n))) (broadcastInDim s ![] e (constantI s0 32 0#32)))
        (broadcastInDim s ![] e (cmpi .slt (dvsr n) (constantI s0 32 0#32))))
      (cmpi .ne (Host.remsi k (broadcastInDim s ![] e (dvsr n))) (broadcastInDim s ![] e (constantI s0 32 0#32))))
    (addi (Host.remsi k (broadcastInDim s ![] e (dvsr n))) (broadcastInDim s ![] e (dvsr n)))
    (Host.remsi k (broadcastInDim s ![] e (dvsr n)))

/-- The quotient rounded down. -/
def divn (s : Shape) (e : s0.BroadcastsInDim s ![]) (n : Nat) (k : IVec s 32) : IVec s 32 :=
  select (andi (cmpi .ne (signi k) (broadcastInDim s ![] e (signi (id (constantI s0 32 (BitVec.ofNat 32 n))))))
      (cmpi .ne (Host.remsi k (broadcastInDim s ![] e (id (constantI s0 32 (BitVec.ofNat 32 n))))) (broadcastInDim s ![] e (constantI s0 32 0#32))))
    (subi (Host.divsi k (broadcastInDim s ![] e (id (constantI s0 32 (BitVec.ofNat 32 n))))) (broadcastInDim s ![] e (constantI s0 32 1#32)))
    (Host.divsi k (broadcastInDim s ![] e (id (constantI s0 32 (BitVec.ofNat 32 n)))))

/-- `wrap` at an entry depends on that entry alone. -/
theorem wrap_congr {s t : Shape} (e) (e') (n : Nat) (y : IVec s 32) (z : IVec t 32) (i : s.Idx) (j : t.Idx) (h : y i = z j) :
    wrap s e n y i = wrap t e' n z j := by
  show Scalar.select (IntOp.cmpi .slt (y i) 0#32) (y i + BitVec.ofNat 32 n) (y i) = Scalar.select (IntOp.cmpi .slt (z j) 0#32) (z j + BitVec.ofNat 32 n) (z j)
  rw [h]

/-- `modn` at an entry depends on that entry alone. -/
theorem modn_congr {s t : Shape} (e) (e') (n : Nat) (y : IVec s 32) (z : IVec t 32) (i : s.Idx) (j : t.Idx) (h : y i = z j) :
    modn s e n y i = modn t e' n z j := by
  have e0 : s0.BroadcastsInDim s0 ![] := by decide
  have h1 : modn s e n y i = modn s0 e0 n (fun _ => y i) ix0 := rfl
  have h2 : modn t e' n z j = modn s0 e0 n (fun _ => z j) ix0 := rfl
  rw [h1, h2, h]

/-- `divn` at an entry depends on that entry alone. -/
theorem divn_congr {s t : Shape} (e) (e') (n : Nat) (y : IVec s 32) (z : IVec t 32) (i : s.Idx) (j : t.Idx) (h : y i = z j) :
    divn s e n y i = divn t e' n z j := by
  have e0 : s0.BroadcastsInDim s0 ![] := by decide
  have h1 : divn s e n y i = divn s0 e0 n (fun _ => y i) ix0 := rfl
  have h2 : divn t e' n z j = divn s0 e0 n (fun _ => z j) ix0 := rfl
  rw [h1, h2, h]

end Refine
-- ==== Proof.Lin.lean ====
module

public import proofs.«01_k».proof.Proof.Upsample

/-
  Evenly spaced positions, as both programs print them: `n` steps from `lo` to `hi` and then `hi` itself.
-/

@[expose] public section

noncomputable section

namespace Refine

open Idealize.ShloMosaic Idealize.ShloMosaic.ValueIdx

variable {F : FTy → Type} [FloatOps F]

/-- The side conditions of evenly spaced positions. -/
structure LEv (n r : Nat) : Prop where
  b0 : s0.BroadcastsInDim (s1 n) ![]
  one : s0.ShapeCasts (s1 1)
  b1 : (s1 1).BroadcastsInDim (s1 n) ![0]
  b : s0.BroadcastsInDim (s1 1) ![]
  cat : Shape.Concatenates [s1 n, s1 1] (s1 r) 0

/-- `r` positions: `n` steps of length `1 / steps` of the way from `lo` to `hi`, then `hi`. -/
def lin {n r : Nat} (e : LEv n r) (steps : BitVec 32) (lo hi : FVec F s0 .f32) : FVec F (s1 r) .f32 :=
  concatenate (s1 r) 0
    [⟨s1 n, addf
      (mulf (broadcastInDim (s1 n) ![0] e.b1 (shapeCast (s1 1) lo e.one))
        (subf (broadcastInDim (s1 n) ![] e.b0 (constant s0 .f32 0x3F800000#32))
          (Host.divf (sitofp .f32 (iotaInDim (s1 n) 32 0)) (broadcastInDim (s1 n) ![] e.b0 (constant s0 .f32 steps)))))
      (mulf (broadcastInDim (s1 n) ![0] e.b1 (shapeCast (s1 1) hi e.one))
        (Host.divf (sitofp .f32 (iotaInDim (s1 n) 32 0)) (broadcastInDim (s1 n) ![] e.b0 (constant s0 .f32 steps))))⟩,
     ⟨s1 1, broadcastInDim (s1 1) ![] e.b hi⟩]
    e.cat

/-- Two arrays joined along an axis: each may be rewritten. -/
theorem cat_congr {α : Type} {t a b : Shape} (d : Fin t.rank) {x x' : a.Idx → α} {y y' : b.Idx → α}
    (h : Shape.Concatenates [a, b] t d) (hx : x = x') (hy : y = y') :
    concatenate t d [⟨a, x⟩, ⟨b, y⟩] h = concatenate t d [⟨a, x'⟩, ⟨b, y'⟩] h := by
  subst hx hy; rfl

end Refine
-- ==== Proof.Coarse.lean ====
module

public import proofs.«01_k».proof.Proof.Lin
public import Idealize.ShloMosaic.Lib.IdealHost

/-
  The coarse grid's coordinates: the reference takes evenly spaced positions and rounds them to words, the kernel multiplies a
  counter by the stride. Over the reals both are sixteen times the entry's number.
-/

@[expose] public section

noncomputable section

namespace Refine

open Idealize.ShloMosaic
open Idealize.ShloMosaic.ValueIdx

/-- The word of 16. -/
theorem word16 : Ideal.ofBits .f32 0x41800000#32 = ((16 : ℝ) : EReal) := by
  simp [Ideal.ofBits, Ideal.ieee, -EReal.coe_mul]
  norm_num

/-- The word of 128. -/
theorem word128 : Ideal.ofBits .f32 0x43000000#32 = ((128 : ℝ) : EReal) := by
  simp [Ideal.ofBits, Ideal.ieee, -EReal.coe_mul]
  norm_num

/-- A small number, read back from its word. -/
theorem toInt_small {n : Nat} (h : n ≤ 4096) : (BitVec.ofNat 32 n).toInt = (n : Int) := by
  rw [BitVec.toInt_eq_toNat_cond, BitVec.toNat_ofNat, Nat.mod_eq_of_lt (by omega)]
  omega

/-- A small number rounded to a word, read back. -/
theorem fptosi_small {n : Nat} (h : n ≤ 4096) : (Ideal.fptosi 32 ((n : ℝ) : EReal)).toInt = (n : Int) := by
  unfold Ideal.fptosi
  rw [Ideal.toIntClamped_coe, if_pos (Nat.cast_nonneg n), Int.floor_natCast, BitVec.toInt_ofInt]
  have : max (-((2 ^ (32 - 1) : Nat) : Int)) (min (((2 ^ (32 - 1) : Nat) : Int) - 1) (n : Int)) = n := by
    norm_num
    omega
  rw [this]
  exact Int.bmod_eq_of_le (by norm_num) (by norm_num; omega)

/-- The reference's coarse coordinates, rounded to words. -/
def coarse (e : LEv 128 129) : IVec (s1 129) 32 :=
  fptosi (F := Ideal) 32 (lin e 0x43000000#32 (sitofp .f32 (constantI s0 32 0#32)) (sitofp .f32 (constantI s0 32 2048#32)))

/-- The reference's `i`-th coarse coordinate is `16 i`. -/
theorem coarse_apply (e : LEv 128 129) (i : Fin 129) : (coarse e (ix1 i)).toInt = ((16 * i.val : Nat) : Int) := by
  show (Ideal.fptosi 32 _).toInt = _
  have key : lin (F := Ideal) e 0x43000000#32 (sitofp .f32 (constantI s0 32 0#32)) (sitofp .f32 (constantI s0 32 2048#32)) (ix1 i)
      = (((16 * i.val : Nat) : ℝ) : EReal) := by
    unfold lin
    by_cases h : i.val < 128
    · rw [concatenate_pair_apply_left (t := s1 129) (s₁ := s1 128) (s₂ := s1 1) 0 _ _ _ _ rfl (ix1 ⟨i.val, h⟩) (fun b => by
        rcases (by decide : ∀ a : Fin 1, a = 0) b with rfl; rfl)]
      show (((0#32).toInt : ℝ) : EReal) * (Ideal.ofBits .f32 0x3F800000#32 - Ideal.div (((BitVec.ofNat 32 i.val).toInt : ℝ) : EReal) (Ideal.ofBits .f32 0x43000000#32))
        + (((2048#32).toInt : ℝ) : EReal) * Ideal.div (((BitVec.ofNat 32 i.val).toInt : ℝ) : EReal) (Ideal.ofBits .f32 0x43000000#32) = _
      rw [word128, Ideal.div_coe (by norm_num), toInt_small (n := i.val) (by omega), show (0#32).toInt = 0 from rfl, show (2048#32).toInt = 2048 from rfl]
      rw [Int.cast_zero, EReal.coe_zero, zero_mul, zero_add, ← EReal.coe_mul, ← EReal.coe_mul]
      congr 1
      push_cast
      ring
    · have hi : i.val = 128 := by omega
      rw [concatenate_pair_apply_right (t := s1 129) (s₁ := s1 128) (s₂ := s1 1) 0 _ _ _ (ix1 i) rfl rfl (ix1 0) (fun b => by
        rcases (by decide : ∀ a : Fin 1, a = 0) b with rfl; intro hb; exact absurd rfl hb) (show 0 + 128 = i.val by omega)]
      show (((2048#32).toInt : ℝ) : EReal) = _
      rw [hi, show (2048#32).toInt = 2048 from rfl]
      norm_num
  rw [key]
  exact fptosi_small (by omega)

/-- So, read back as floats, they are the kernel's: the counter times the stride. -/
theorem coarse_eq (e : LEv 128 129) (i : Fin 129) : FloatOps.sitofp (F := Ideal) .f32 (coarse e (ix1 i))
    = FloatOps.mulf (F := Ideal) (φ := .f32) (FloatOps.sitofp (F := Ideal) .f32 (BitVec.ofNat 32 i.val)) (FloatOps.ofBits .f32 0x41800000#32) := by
  show (((coarse e (ix1 i)).toInt : ℝ) : EReal) = (((BitVec.ofNat 32 i.val).toInt : ℝ) : EReal) * Ideal.ofBits .f32 0x41800000#32
  rw [coarse_apply, word16, toInt_small (by omega), ← EReal.coe_mul]
  congr 1
  push_cast
  ring

end Refine
-- ==== Proof.Level.lean ====
module

public import proofs.«01_k».proof.Proof.Upsample
public import Idealize.ShloMosaic.Lib.Pointwise.SelectCore

/-
  One refinement level, for any grid sizes: the kernel's operations (names starting with `k`) and the
  reference's (names starting with `r`), and that they agree entry by entry: the upsampled grid, the
  chosen points, the points' coordinates, and the grid with the points' new values written in.
-/

@[expose] public section

noncomputable section

namespace Refine

open Idealize.ShloMosaic hiding ix0 ix1 ix2 ix3 ix4
open Idealize.ShloMosaic.ValueIdx

variable {F : FTy → Type} [FloatOps F] {h r N P : Nat}

/-- The side conditions of the kernel's operations in a level from `h × h` to `r × r`, `P` of the `N` entries refined. -/
structure KEv (h r N P : Nat) : Prop where
  b0 : s0.BroadcastsInDim (s1 r) ![]
  col : (s1 r).BroadcastsInDim (s2 r 1) ![0]
  row : (s1 r).BroadcastsInDim (s2 1 r) ![1]
  b0c : s0.BroadcastsInDim (s2 r 1) ![]
  b0r : s0.BroadcastsInDim (s2 1 r) ![]
  wide : (s2 r 1).BroadcastsInDim (s2 r h) ![0, 1]
  tall : (s2 1 r).BroadcastsInDim (s2 r r) ![0, 1]
  grow : GatherDims.WF (s2 h h) (s2 r 1) (s2 r h) [1] [0] [] [0] [] 1 ![1, h]
  gcol : GatherDims.WF (s2 r h) (s2 r 1) (s2 r r) [0] [1] [] [1] [] 1 ![r, 1]
  flat : (s2 r r).ShapeCasts (s1 N)
  b0N : s0.BroadcastsInDim (s1 N) ![]
  top : (s1 N).Slices (fun _ => 0) (s1 P)
  b0P : s0.BroadcastsInDim (s1 P) ![]
  colP : (s1 P).BroadcastsInDim (s2 P 1) ![0]
  cat : Shape.Concatenates [s2 P 1, s2 P 1] (s2 P 2) 1
  pad : (s2 P 2).Pads (![0, 0] : Fin 2 → Nat) ![0, 0] ![0, 0] (s2 P 2)
  one : 0 < s0.numel
  put : ScatterDims.WF (s1 N) (s2 P 1) (s1 P) [] [0] [0] 1
  grid : (s1 N).ShapeCasts (s2 r r)

/-- The side conditions of the reference's operations in that level. -/
structure REv (h r N P : Nat) : Prop where
  b0 : s0.BroadcastsInDim (s1 r) ![]
  col : (s1 r).BroadcastsInDim (s2 r 1) ![0]
  col4 : (s1 r).BroadcastsInDim (s4 1 1 r 1) ![2]
  row4 : (s1 r).BroadcastsInDim (s4 1 1 1 r) ![3]
  b0c : s0.BroadcastsInDim (s4 1 1 r 1) ![]
  b0r : s0.BroadcastsInDim (s4 1 1 1 r) ![]
  wide : (s4 1 1 r 1).BroadcastsInDim (s4 1 1 r h) ![0, 1, 2, 3]
  tall : (s4 1 1 1 r).BroadcastsInDim (s4 1 1 r r) ![0, 1, 2, 3]
  grow : GatherDims.WF (s4 1 1 h h) (s2 r 1) (s4 1 1 r h) [0, 1, 3] [2] [] [2] [] 1 ![1, 1, 1, h]
  gcol : GatherDims.WF (s4 1 1 r h) (s2 r 1) (s4 1 1 r r) [0, 1, 2] [3] [] [3] [] 1 ![1, 1, r, 1]
  flat : (s4 1 1 r r).ShapeCasts (s2 1 N)
  b0g : s0.BroadcastsInDim (s4 1 1 r r) ![]
  top : (s2 1 N).Slices (fun _ => 0) (s2 1 P)
  b0P : s0.BroadcastsInDim (s2 1 P) ![]
  colP : (s2 1 P).BroadcastsInDim (s3 1 P 1) ![0, 1]
  cat : Shape.Concatenates [s3 1 P 1, s3 1 P 1] (s3 1 P 2) 2
  b0P2 : s0.BroadcastsInDim (s3 1 P 2) ![]
  flat3 : (s4 1 1 r r).ShapeCasts (s3 1 1 N)
  i0 : (s1 1).BroadcastsInDim (s3 1 1 1) ![0]
  i1 : (s1 1).BroadcastsInDim (s3 1 1 1) ![1]
  i2 : (s2 1 P).BroadcastsInDim (s3 1 1 P) ![0, 2]
  b0i : s0.BroadcastsInDim (s3 1 1 1) ![]
  b0k : s0.BroadcastsInDim (s3 1 1 P) ![]
  spread : (s3 1 1 1).BroadcastsInDim (s3 1 1 P) ![0, 1, 2]
  last : (s3 1 1 P).BroadcastsInDim (s4 1 1 P 1) ![0, 1, 2]
  cat3 : Shape.Concatenates [s4 1 1 P 1, s4 1 1 P 1, s4 1 1 P 1] (s4 1 1 P 3) 3
  put : ScatterDims.WF (s3 1 1 N) (s4 1 1 P 3) (s3 1 1 P) [] [0, 1, 2] [0, 1, 2] 3
  grid : (s3 1 1 N).ShapeCasts (s4 1 1 r r)

/-- The lower neighbour of each sample position. -/
def lowr (p : FVec F (s1 r) .f32) : IVec (s1 r) 32 := fptosi 32 (Host.floor p)

/-- The kernel's upsampled grid. -/
def kUp (e : KEv h r N P) (x : FVec F (s2 h h) .f32) (ys xs : FVec F (s1 r) .f32) : FVec F (s2 r r) .f32 :=
  let wy := broadcastInDim (s2 r 1) ![0] e.col (subf ys (sitofp .f32 (lowr ys)))
  let wx := broadcastInDim (s2 1 r) ![1] e.row (subf xs (sitofp .f32 (lowr xs)))
  let v := addf
    (mulf (Host.gather (rows2 h h r e.grow) x (broadcastInDim (s2 r 1) ![0] e.col (wrap (s1 r) e.b0 h (lowr ys))))
      (broadcastInDim (s2 r h) ![0, 1] e.wide (subf (broadcastInDim (s2 r 1) ![] e.b0c (constant s0 .f32 0x3F800000#32)) wy)))
    (mulf (Host.gather (rows2 h h r e.grow) x (broadcastInDim (s2 r 1) ![0] e.col (wrap (s1 r) e.b0 h (next (s1 r) e.b0 (h - 1) (lowr ys)))))
      (broadcastInDim (s2 r h) ![0, 1] e.wide wy))
  addf
    (mulf (Host.gather (cols2 r h r e.gcol) v (broadcastInDim (s2 r 1) ![0] e.col (wrap (s1 r) e.b0 h (lowr xs))))
      (broadcastInDim (s2 r r) ![0, 1] e.tall (subf (broadcastInDim (s2 1 r) ![] e.b0r (constant s0 .f32 0x3F800000#32)) wx)))
    (mulf (Host.gather (cols2 r h r e.gcol) v (broadcastInDim (s2 r 1) ![0] e.col (wrap (s1 r) e.b0 h (next (s1 r) e.b0 (h - 1) (lowr xs)))))
      (broadcastInDim (s2 r r) ![0, 1] e.tall wx))

/-- The reference's upsampled grid. -/
def rUp (e : REv h r N P) (x : FVec F (s4 1 1 h h) .f32) (ys xs : FVec F (s1 r) .f32) : FVec F (s4 1 1 r r) .f32 :=
  let wy := broadcastInDim (s4 1 1 r 1) ![2] e.col4 (subf ys (sitofp .f32 (lowr ys)))
  let wx := broadcastInDim (s4 1 1 1 r) ![3] e.row4 (subf xs (sitofp .f32 (lowr xs)))
  let v := addf
    (mulf (Host.gather (rows4 h h r e.grow) x (broadcastInDim (s2 r 1) ![0] e.col (wrap (s1 r) e.b0 h (lowr ys))))
      (broadcastInDim (s4 1 1 r h) ![0, 1, 2, 3] e.wide (subf (broadcastInDim (s4 1 1 r 1) ![] e.b0c (constant s0 .f32 0x3F800000#32)) wy)))
    (mulf (Host.gather (rows4 h h r e.grow) x (broadcastInDim (s2 r 1) ![0] e.col (wrap (s1 r) e.b0 h (next (s1 r) e.b0 (h - 1) (lowr ys)))))
      (broadcastInDim (s4 1 1 r h) ![0, 1, 2, 3] e.wide wy))
  addf
    (mulf (Host.gather (cols4 r h r e.gcol) v (broadcastInDim (s2 r 1) ![0] e.col (wrap (s1 r) e.b0 h (lowr xs))))
      (broadcastInDim (s4 1 1 r r) ![0, 1, 2, 3] e.tall (subf (broadcastInDim (s4 1 1 1 r) ![] e.b0r (constant s0 .f32 0x3F800000#32)) wx)))
    (mulf (Host.gather (cols4 r h r e.gcol) v (broadcastInDim (s2 r 1) ![0] e.col (wrap (s1 r) e.b0 h (next (s1 r) e.b0 (h - 1) (lowr xs)))))
      (broadcastInDim (s4 1 1 r r) ![0, 1, 2, 3] e.tall wx))

/-- Two sums of two products agree when the factors do. -/
theorem mix_congr {s t : Shape} (a b c d : FVec F s .f32) (a' b' c' d' : FVec F t .f32) (i : s.Idx) (j : t.Idx)
    (ha : a i = a' j) (hb : b i = b' j) (hc : c i = c' j) (hd : d i = d' j) :
    addf (mulf a b) (mulf c d) i = addf (mulf a' b') (mulf c' d') j := by
  show FloatOps.addf (FloatOps.mulf (a i) (b i)) (FloatOps.mulf (c i) (d i)) = FloatOps.addf (FloatOps.mulf (a' j) (b' j)) (FloatOps.mulf (c' j) (d' j))
  rw [ha, hb, hc, hd]

/-- Two differences agree when their terms do. -/
theorem sub_congr {s t : Shape} (a b : FVec F s .f32) (a' b' : FVec F t .f32) (i : s.Idx) (j : t.Idx)
    (ha : a i = a' j) (hb : b i = b' j) : subf a b i = subf a' b' j := by
  show FloatOps.subf (a i) (b i) = FloatOps.subf (a' j) (b' j)
  rw [ha, hb]

/-- The two upsampled grids agree. -/
theorem up_agree (hh : 0 < h) (e : KEv h r N P) (e' : REv h r N P) (x : FVec F (s2 h h) .f32) (x4 : FVec F (s4 1 1 h h) .f32)
    (ys xs : FVec F (s1 r) .f32) (hx : ∀ i j, x4 (ix4 0 0 i j) = x (ix2 i j)) (i j : Fin r) :
    rUp e' x4 ys xs (ix4 0 0 i j) = kUp e x ys xs (ix2 i j) := by
  have hw : ∀ (i : Fin r) (j : Fin h), broadcastInDim (s4 1 1 r h) ![0, 1, 2, 3] e'.wide (broadcastInDim (s4 1 1 r 1) ![2] e'.col4 (subf ys (sitofp .f32 (lowr ys)))) (ix4 0 0 i j)
      = broadcastInDim (s2 r h) ![0, 1] e.wide (broadcastInDim (s2 r 1) ![0] e.col (subf ys (sitofp .f32 (lowr ys)))) (ix2 i j) := fun i j => by
    rw [wide4_apply, wide_apply, col4_apply, col_apply]
  have hw' : ∀ (i : Fin r) (j : Fin h), broadcastInDim (s4 1 1 r h) ![0, 1, 2, 3] e'.wide (subf (broadcastInDim (s4 1 1 r 1) ![] e'.b0c (constant s0 .f32 0x3F800000#32)) (broadcastInDim (s4 1 1 r 1) ![2] e'.col4 (subf ys (sitofp .f32 (lowr ys))))) (ix4 0 0 i j)
      = broadcastInDim (s2 r h) ![0, 1] e.wide (subf (broadcastInDim (s2 r 1) ![] e.b0c (constant s0 .f32 0x3F800000#32)) (broadcastInDim (s2 r 1) ![0] e.col (subf ys (sitofp .f32 (lowr ys))))) (ix2 i j) := fun i j => by
    rw [wide4_apply, wide_apply]
    exact sub_congr _ _ _ _ _ _ rfl ((col4_apply _ _ _ _).trans (col_apply _ _ _ _).symm)
  have ht : ∀ (i : Fin r) (j : Fin r), broadcastInDim (s4 1 1 r r) ![0, 1, 2, 3] e'.tall (broadcastInDim (s4 1 1 1 r) ![3] e'.row4 (subf xs (sitofp .f32 (lowr xs)))) (ix4 0 0 i j)
      = broadcastInDim (s2 r r) ![0, 1] e.tall (broadcastInDim (s2 1 r) ![1] e.row (subf xs (sitofp .f32 (lowr xs)))) (ix2 i j) := fun i j => by
    rw [tall4_apply, tall_apply, row4_apply, row_apply]
  have ht' : ∀ (i : Fin r) (j : Fin r), broadcastInDim (s4 1 1 r r) ![0, 1, 2, 3] e'.tall (subf (broadcastInDim (s4 1 1 1 r) ![] e'.b0r (constant s0 .f32 0x3F800000#32)) (broadcastInDim (s4 1 1 1 r) ![3] e'.row4 (subf xs (sitofp .f32 (lowr xs))))) (ix4 0 0 i j)
      = broadcastInDim (s2 r r) ![0, 1] e.tall (subf (broadcastInDim (s2 1 r) ![] e.b0r (constant s0 .f32 0x3F800000#32)) (broadcastInDim (s2 1 r) ![1] e.row (subf xs (sitofp .f32 (lowr xs))))) (ix2 i j) := fun i j => by
    rw [tall4_apply, tall_apply]
    exact sub_congr _ _ _ _ _ _ rfl ((row4_apply _ _ _ _).trans (row_apply _ _ _ _).symm)
  have hv : ∀ (i : Fin r) (j : Fin h), _ = _ := fun i j =>
    mix_congr
      (Host.gather (rows4 h h r e'.grow) x4 (broadcastInDim (s2 r 1) ![0] e'.col (wrap (s1 r) e'.b0 h (lowr ys)))) _
      (Host.gather (rows4 h h r e'.grow) x4 (broadcastInDim (s2 r 1) ![0] e'.col (wrap (s1 r) e'.b0 h (next (s1 r) e'.b0 (h - 1) (lowr ys))))) _
      (Host.gather (rows2 h h r e.grow) x (broadcastInDim (s2 r 1) ![0] e.col (wrap (s1 r) e.b0 h (lowr ys)))) _
      (Host.gather (rows2 h h r e.grow) x (broadcastInDim (s2 r 1) ![0] e.col (wrap (s1 r) e.b0 h (next (s1 r) e.b0 (h - 1) (lowr ys))))) _
      (ix4 0 0 i j) (ix2 i j)
      (by rw [rows4_apply hh, rows2_apply hh, hx]) (hw' i j) (by rw [rows4_apply hh, rows2_apply hh, hx]) (hw i j)
  unfold rUp kUp
  refine mix_congr _ _ _ _ _ _ _ _ _ _ ?_ (ht' i j) ?_ (ht i j)
  · rw [cols4_apply hh, cols2_apply hh]
    exact hv _ _
  · rw [cols4_apply hh, cols2_apply hh]
    exact hv _ _

/-- The kernel's chosen points: the `P` entries closest to one half. -/
def kIdx (e : KEv h r N P) (u : FVec F (s2 r r) .f32) : IVec (s1 P) 32 :=
  (Host.topK (s1 P) 0 (FloatOps.cmpfTotal .gt)
    (Host.negf (Host.absf (subf (shapeCast (s1 N) u e.flat) (broadcastInDim (s1 N) ![] e.b0N (constant s0 .f32 0x3F000000#32))))) e.top).2

/-- The reference's chosen points. -/
def rIdx (e : REv h r N P) (u : FVec F (s4 1 1 r r) .f32) : IVec (s2 1 P) 32 :=
  (Host.topK (s2 1 P) 1 (FloatOps.cmpfTotal .gt)
    (shapeCast (s2 1 N) (Host.negf (Host.absf (subf u (broadcastInDim (s4 1 1 r r) ![] e.b0g (constant s0 .f32 0x3F000000#32))))) e.flat) e.top).2

/-- The chosen points agree. -/
theorem idx_agree (hP : P ≤ N) (e : KEv h r N P) (e' : REv h r N P) (u : FVec F (s2 r r) .f32) (u4 : FVec F (s4 1 1 r r) .f32)
    (hu : ∀ i j, u4 (ix4 0 0 i j) = u (ix2 i j)) (k : Fin P) : rIdx e' u4 (ix2 0 k) = kIdx e u (ix1 k) := by
  refine topK_row hP _ _ _ (fun n => ?_) _ _ k
  refine (flat2_agree e.flat e'.flat
    (Host.negf (Host.absf (subf u fun _ => FloatOps.ofBits .f32 0x3F000000#32))) _ (fun i j => ?_) n).trans rfl
  show FloatOps.hostNegf (FloatOps.hostAbsf (FloatOps.subf (u4 (ix4 0 0 i j)) _)) = FloatOps.hostNegf (FloatOps.hostAbsf (FloatOps.subf (u (ix2 i j)) _))
  rw [hu]
  rfl

/-- The kernel's point coordinates, as floats. -/
def kPts (e : KEv h r N P) (sc : BitVec 32) (k : IVec (s1 P) 32) : FVec F (s2 P 2) .f32 :=
  Idealize.ShloMosaic.pad (s2 P 2) ![0, 0] ![0, 0] ![0, 0]
    (concatenate (s2 P 2) 1
      [⟨s2 P 1, broadcastInDim (s2 P 1) ![0] e.colP (mulf (sitofp .f32 (modn (s1 P) e.b0P r k)) (broadcastInDim (s1 P) ![] e.b0P (constant s0 .f32 sc)))⟩,
       ⟨s2 P 1, broadcastInDim (s2 P 1) ![0] e.colP (mulf (sitofp .f32 (divn (s1 P) e.b0P r k)) (broadcastInDim (s1 P) ![] e.b0P (constant s0 .f32 sc)))⟩]
      e.cat)
    (sitofp .f32 (constantI s0 32 0#32)) e.pad e.one

/-- The reference's point coordinates, as floats. -/
def rPts (e : REv h r N P) (sc : BitVec 32) (k : IVec (s2 1 P) 32) : FVec F (s3 1 P 2) .f32 :=
  mulf (sitofp .f32 (concatenate (s3 1 P 2) 2
      [⟨s3 1 P 1, broadcastInDim (s3 1 P 1) ![0, 1] e.colP (modn (s2 1 P) e.b0P r k)⟩,
       ⟨s3 1 P 1, broadcastInDim (s3 1 P 1) ![0, 1] e.colP (divn (s2 1 P) e.b0P r k)⟩]
      e.cat))
    (broadcastInDim (s3 1 P 2) ![] e.b0P2 (constant s0 .f32 sc))

/-- Padding by nothing leaves an entry where it is. -/
theorem pad_none {α : Type} {a b : Nat} (x : (s2 a b).Idx → α) (v : s0.Idx → α) (hp) (hv) (i : Fin a) (j : Fin b) :
    Idealize.ShloMosaic.pad (s2 a b) ![0, 0] ![0, 0] ![0, 0] x v hp hv (ix2 i j) = x (ix2 i j) := by
  unfold Idealize.ShloMosaic.pad
  rw [dif_pos (fun c => ?_)]
  · exact congrArg x (funext fun c => Fin.ext (by
      rcases (by decide : ∀ a : Fin 2, a = 0 ∨ a = 1) c with rfl | rfl <;> exact Nat.div_one _))
  · rcases (by decide : ∀ a : Fin 2, a = 0 ∨ a = 1) c with rfl | rfl
    · exact ⟨Nat.zero_le _, Nat.mod_one _, (Nat.div_one _).symm ▸ i.isLt⟩
    · exact ⟨Nat.zero_le _, Nat.mod_one _, (Nat.div_one _).symm ▸ j.isLt⟩

/-- A one-row matrix as a stack of one column. -/
theorem colP_apply {α : Type} (e : (s2 1 P).BroadcastsInDim (s3 1 P 1) ![0, 1]) (v : (s2 1 P).Idx → α) (k : Fin P) :
    broadcastInDim (s3 1 P 1) ![0, 1] e v (ix3 0 k 0) = v (ix2 0 k) :=
  broadcastInDim_apply _ e v _ _ fun a => by
    rcases (by decide : ∀ a : Fin 2, a = 0 ∨ a = 1) a with rfl | rfl
    · rfl
    · show k.val = if P = 1 then 0 else k.val
      split <;> omega

/-- The first coordinates agree. -/
theorem pts_agree0 (e : KEv h r N P) (e' : REv h r N P) (sc : BitVec 32) (k : IVec (s1 P) 32) (k' : IVec (s2 1 P) 32)
    (hk : ∀ p, k' (ix2 0 p) = k (ix1 p)) (p : Fin P) :
    rPts (F := F) e' sc k' (ix3 0 p 0) = kPts e sc k (ix2 p 0) := by
  unfold rPts kPts
  rw [pad_none, concatenate_pair_apply_left (t := s2 P 2) (s₁ := s2 P 1) (s₂ := s2 P 1) 1 _ _ _ _ rfl (ix2 p 0) (fun b => by
    rcases (by decide : ∀ a : Fin 2, a = 0 ∨ a = 1) b with rfl | rfl <;> rfl), col_apply]
  refine congrArg₂ FloatOps.mulf (congrArg (FloatOps.sitofp .f32) ?_) rfl
  rw [concatenate_pair_apply_left (t := s3 1 P 2) (s₁ := s3 1 P 1) (s₂ := s3 1 P 1) 2 _ _ _ _ rfl (ix3 0 p 0) (fun b => by
    rcases (by decide : ∀ a : Fin 3, a = 0 ∨ a = 1 ∨ a = 2) b with rfl | rfl | rfl <;> rfl), colP_apply,
    modn_congr e'.b0P e.b0P r k' k _ _ (hk p)]

/-- The second coordinates agree. -/
theorem pts_agree1 (e : KEv h r N P) (e' : REv h r N P) (sc : BitVec 32) (k : IVec (s1 P) 32) (k' : IVec (s2 1 P) 32)
    (hk : ∀ p, k' (ix2 0 p) = k (ix1 p)) (p : Fin P) :
    rPts (F := F) e' sc k' (ix3 0 p 1) = kPts e sc k (ix2 p 1) := by
  unfold rPts kPts
  rw [pad_none, concatenate_pair_apply_right (t := s2 P 2) (s₁ := s2 P 1) (s₂ := s2 P 1) 1 _ _ _ _ rfl rfl (ix2 p 0) (fun b => by
    rcases (by decide : ∀ a : Fin 2, a = 0 ∨ a = 1) b with rfl | rfl
    · intro _; rfl
    · intro h; exact absurd rfl h) rfl, col_apply]
  refine congrArg₂ FloatOps.mulf (congrArg (FloatOps.sitofp .f32) ?_) rfl
  rw [concatenate_pair_apply_right (t := s3 1 P 2) (s₁ := s3 1 P 1) (s₂ := s3 1 P 1) 2 _ _ _ _ rfl rfl (ix3 0 p 0) (fun b => by
    rcases (by decide : ∀ a : Fin 3, a = 0 ∨ a = 1 ∨ a = 2) b with rfl | rfl | rfl
    · intro _; rfl
    · intro _; rfl
    · intro h; exact absurd rfl h) rfl, colP_apply,
    divn_congr e'.b0P e.b0P r k' k _ _ (hk p)]

/-- The kernel's refined grid: the upsampled one with the chosen points' new values written in. -/
def kPut (e : KEv h r N P) (u : FVec F (s2 r r) .f32) (k : IVec (s1 P) 32) (v : FVec F (s1 P) .f32) : FVec F (s2 r r) .f32 :=
  shapeCast (s2 r r) (Host.scatter (put1 N P e.put) (fun _ b => b) (shapeCast (s1 N) u e.flat)
    (broadcastInDim (s2 P 1) ![0] e.colP (wrap (s1 P) e.b0P N k)) v) e.grid

/-- The reference's index vectors: two zeros, then the point's number. -/
def rVec (e : REv h r N P) (k : IVec (s2 1 P) 32) : IVec (s4 1 1 P 3) 32 :=
  concatenate (s4 1 1 P 3) 3
    [⟨s4 1 1 P 1, broadcastInDim (s4 1 1 P 1) ![0, 1, 2] e.last (broadcastInDim (s3 1 1 P) ![0, 1, 2] e.spread
        (wrap (s3 1 1 1) e.b0i 1 (broadcastInDim (s3 1 1 1) ![0] e.i0 (iotaInDim (s1 1) 32 0))))⟩,
     ⟨s4 1 1 P 1, broadcastInDim (s4 1 1 P 1) ![0, 1, 2] e.last (broadcastInDim (s3 1 1 P) ![0, 1, 2] e.spread
        (wrap (s3 1 1 1) e.b0i 1 (broadcastInDim (s3 1 1 1) ![1] e.i1 (iotaInDim (s1 1) 32 0))))⟩,
     ⟨s4 1 1 P 1, broadcastInDim (s4 1 1 P 1) ![0, 1, 2] e.last (wrap (s3 1 1 P) e.b0k N (broadcastInDim (s3 1 1 P) ![0, 2] e.i2 k))⟩]
    e.cat3

/-- The reference's refined grid. -/
def rPut (e : REv h r N P) (u : FVec F (s4 1 1 r r) .f32) (k : IVec (s2 1 P) 32) (v : FVec F (s3 1 1 P) .f32) : FVec F (s4 1 1 r r) .f32 :=
  shapeCast (s4 1 1 r r) (Host.scatter (put3 N P e.put) (fun _ b => b) (shapeCast (s3 1 1 N) u e.flat3) (rVec e k) v) e.grid

/-- An index column of the reference reads its stack. -/
theorem last_apply {α : Type} (e : (s3 1 1 P).BroadcastsInDim (s4 1 1 P 1) ![0, 1, 2]) (v : (s3 1 1 P).Idx → α) (k : Fin P) :
    broadcastInDim (s4 1 1 P 1) ![0, 1, 2] e v (ix4 0 0 k 0) = v (ix3 0 0 k) :=
  broadcastInDim_apply _ e v _ _ fun a => by
    rcases (by decide : ∀ a : Fin 3, a = 0 ∨ a = 1 ∨ a = 2) a with rfl | rfl | rfl
    · rfl
    · rfl
    · show k.val = if P = 1 then 0 else k.val
      split <;> omega

/-- One word spread over all points. -/
theorem spread_apply {α : Type} (e : (s3 1 1 1).BroadcastsInDim (s3 1 1 P) ![0, 1, 2]) (v : (s3 1 1 1).Idx → α) (k : Fin P) :
    broadcastInDim (s3 1 1 P) ![0, 1, 2] e v (ix3 0 0 k) = v (ix3 0 0 0) :=
  broadcastInDim_apply _ e v _ _ fun a => by
    rcases (by decide : ∀ a : Fin 3, a = 0 ∨ a = 1 ∨ a = 2) a with rfl | rfl | rfl <;> rfl

/-- A one-row matrix as a stack of one row. -/
theorem i2_apply {α : Type} (e : (s2 1 P).BroadcastsInDim (s3 1 1 P) ![0, 2]) (v : (s2 1 P).Idx → α) (k : Fin P) :
    broadcastInDim (s3 1 1 P) ![0, 2] e v (ix3 0 0 k) = v (ix2 0 k) :=
  broadcastInDim_apply _ e v _ _ fun a => by
    rcases (by decide : ∀ a : Fin 2, a = 0 ∨ a = 1) a with rfl | rfl
    · rfl
    · show k.val = if P = 1 then 0 else k.val
      split <;> omega

/-- The `n`-th of three columns, side by side. -/
theorem three_apply {α : Type} (x0 x1 x2 : (s4 1 1 P 1).Idx → α)
    (hc : Shape.Concatenates [s4 1 1 P 1, s4 1 1 P 1, s4 1 1 P 1] (s4 1 1 P 3) 3) (k : Fin P) :
    concatenate (s4 1 1 P 3) 3 [⟨s4 1 1 P 1, x0⟩, ⟨s4 1 1 P 1, x1⟩, ⟨s4 1 1 P 1, x2⟩] hc (ix4 0 0 k 0) = x0 (ix4 0 0 k 0)
    ∧ concatenate (s4 1 1 P 3) 3 [⟨s4 1 1 P 1, x0⟩, ⟨s4 1 1 P 1, x1⟩, ⟨s4 1 1 P 1, x2⟩] hc (ix4 0 0 k 1) = x1 (ix4 0 0 k 0)
    ∧ concatenate (s4 1 1 P 3) 3 [⟨s4 1 1 P 1, x0⟩, ⟨s4 1 1 P 1, x1⟩, ⟨s4 1 1 P 1, x2⟩] hc (ix4 0 0 k 2) = x2 (ix4 0 0 k 0) := by
  refine ⟨?_, ?_, ?_⟩ <;>
  · rw [Idealize.ShloMosaic.concatenate_apply]
    refine congrArg _ (funext fun c => Fin.ext ?_)
    rcases (by decide : ∀ a : Fin 4, a = 0 ∨ a = 1 ∨ a = 2 ∨ a = 3) c with rfl | rfl | rfl | rfl <;> rfl

/-- The refined grids agree when the upsampled grids, the chosen points and the new values do. -/
theorem put_level_agree (e : KEv h r N P) (e' : REv h r N P) (u : FVec F (s2 r r) .f32) (u4 : FVec F (s4 1 1 r r) .f32)
    (k : IVec (s1 P) 32) (k' : IVec (s2 1 P) 32) (v : FVec F (s1 P) .f32) (v3 : FVec F (s3 1 1 P) .f32)
    (hu : ∀ i j, u4 (ix4 0 0 i j) = u (ix2 i j)) (hk : ∀ p, k' (ix2 0 p) = k (ix1 p)) (hv : ∀ p, v3 (ix3 0 0 p) = v (ix1 p)) (i j : Fin r) :
    rPut e' u4 k' v3 (ix4 0 0 i j) = kPut e u k v (ix2 i j) := by
  refine grid_agree e.grid e'.grid _ _ (fun n => ?_) i j
  refine put_agree e.put e'.put _ _ _ _ _ _ (fun n => flat3_agree e.flat e'.flat3 u u4 hu n) (fun p => ?_) (fun p => ?_) (fun p => ?_) hv n
  · unfold rVec
    rw [(three_apply _ _ _ e'.cat3 p).1, last_apply, spread_apply]
    rfl
  · unfold rVec
    rw [(three_apply _ _ _ e'.cat3 p).2.1, last_apply, spread_apply]
    rfl
  · unfold rVec
    rw [(three_apply _ _ _ e'.cat3 p).2.2, last_apply, col_apply]
    exact wrap_congr _ _ _ _ _ _ _ ((i2_apply _ _ _).trans (hk p))

end Refine
-- ==== Proof.Mlp.lean ====
module

public import proofs.«01_k».proof.Proof.Level
public import Idealize.ShloMosaic.Lib.KernelVsHost
public import Idealize.ShloMosaic.Lib.IdealHost

/-
  The network's value at one point, and the reference's network over any number of points read as that
  value point by point. Everything here is at the ideal values.
-/

@[expose] public section

noncomputable section

namespace Refine

open Idealize.ShloMosaic hiding ix0 ix1 ix2 ix3 ix4
open Idealize.ShloMosaic.ValueIdx

/-- A coordinate on the finest grid, scaled into [-1, 1]. -/
def scaled (c : EReal) : EReal :=
  (Ideal.div c (Ideal.ofBits .f32 0x45001000#32) + Ideal.ofBits .f32 0x397FE004#32) * Ideal.ofBits .f32 0x40000000#32 - Ideal.ofBits .f32 0x3F800000#32

/-- The network at the point `(x, y)`: 64 hidden units, then a logistic. -/
def mlp (x y : EReal) (w1 : FVec Ideal (s2 2 64) .f32) (b1 w2 : Fin 64 → EReal) (b2 : EReal) : EReal :=
  Ideal.logistic ((∑ c : Fin 64, Ideal.tanh (scaled x * w1 (ix2 0 c) + scaled y * w1 (ix2 1 c) + b1 c) * w2 c) + b2)

/-- The pattern `0x40000000` is two. -/
theorem two_f32 : Ideal.ofBits .f32 0x40000000#32 = ((2 : ℝ) : EReal) := by
  simp [Ideal.ofBits, Ideal.ieee, -EReal.coe_mul]; norm_num

/-- The pattern `0xBF800000` is minus one. -/
theorem neg_one_f32 : Ideal.ofBits .f32 0xBF800000#32 = ((-1 : ℝ) : EReal) := by
  simp [Ideal.ofBits, Ideal.ieee, -EReal.coe_mul, -EReal.coe_neg]; norm_num

/-- The reference scales by `hi - lo` and adds `lo`, where the kernel scales by two and takes off one. -/
theorem scaled_eq (c : EReal) :
    (Ideal.div c (Ideal.ofBits .f32 0x45001000#32) + Ideal.ofBits .f32 0x397FE004#32)
        * (Ideal.ofBits .f32 0x3F800000#32 - Ideal.ofBits .f32 0xBF800000#32) + Ideal.ofBits .f32 0xBF800000#32 = scaled c := by
  unfold scaled
  have h2 : Ideal.ofBits .f32 0x3F800000#32 - Ideal.ofBits .f32 0xBF800000#32 = Ideal.ofBits .f32 0x40000000#32 := by
    rw [Ideal.ofBits_one_f32, neg_one_f32, two_f32, show (1 : EReal) = ((1 : ℝ) : EReal) by norm_cast, ← EReal.coe_sub]
    norm_num
  have h1 : Ideal.ofBits .f32 0xBF800000#32 = -Ideal.ofBits .f32 0x3F800000#32 := by
    rw [Ideal.ofBits_one_f32, neg_one_f32, show (1 : EReal) = ((1 : ℝ) : EReal) by norm_cast, ← EReal.coe_neg]
  rw [h2, h1, ← sub_eq_add_neg]

/-- The side conditions of the reference's network over `n` points. -/
structure MEv (n : Nat) : Prop where
  b2 : s0.BroadcastsInDim (s3 1 n 2) ![]
  b1 : s0.BroadcastsInDim (s3 1 n 1) ![]
  sp2 : (s3 1 1 2).BroadcastsInDim (s3 1 n 2) ![0, 1, 2]
  sp64 : (s3 1 1 64).BroadcastsInDim (s3 1 n 64) ![0, 1, 2]
  sp1 : (s3 1 1 1).BroadcastsInDim (s3 1 n 1) ![0, 1, 2]
  r64 : (s1 64).BroadcastsInDim (s3 1 1 64) ![2]
  r1 : (s1 1).BroadcastsInDim (s3 1 1 1) ![2]
  d1 : DotDims.WF (s3 1 n 2) (s2 2 64) (s3 1 n 64) [2] [0] [0, 1] [1] [] []
  d2 : DotDims.WF (s3 1 n 64) (s2 64 1) (s3 1 n 1) [2] [0] [0, 1] [1] [] []
  tr : (s3 1 n 1).Transposes [0, 2, 1] (s3 1 1 n)

/-- A stack of one matrix times a matrix. -/
abbrev stackDot (n k q : Nat) (wf : DotDims.WF (s3 1 n k) (s2 k q) (s3 1 n q) [2] [0] [0, 1] [1] [] []) : DotDims (s3 1 n k) (s2 k q) (s3 1 n q) where
  lhsContracting := [2]
  rhsContracting := [0]
  lhsNonContracting := [0, 1]
  rhsNonContracting := [1]
  lhsBatch := []
  rhsBatch := []
  wf := wf

/-- That product at an entry, as a sum over the contracted coordinate. -/
theorem stackDot_apply {n k q : Nat} (wf) (A : FVec Ideal (s3 1 n k) .f32) (B : FVec Ideal (s2 k q) .f32) (a : Fin n) (b : Fin q) :
    Host.dotGeneral (stackDot n k q wf) none A B (ix3 0 a b) = ∑ c : Fin k, A (ix3 0 a c) * B (ix2 c b) := by
  show FloatOps.dotGeneral _ none _ A B _ = _
  rw [Ideal.dotGeneral_apply, ← Equiv.sum_comp (contrEquiv1 (stackDot n k q wf) k rfl rfl).symm]
  refine Finset.sum_congr rfl fun c _ => ?_
  have c2 := contrEquiv1_symm_val (stackDot n k q wf) k rfl rfl c
  have hl : (stackDot n k q wf).lhsIdx (ix3 0 a b) ((contrEquiv1 _ k rfl rfl).symm c) = ix3 0 a c := by
    funext d
    refine Fin.ext ?_
    match d with
    | ⟨0, _⟩ => rfl
    | ⟨1, _⟩ => rfl
    | ⟨2, _⟩ => exact c2
  have hr : (stackDot n k q wf).rhsIdx (ix3 0 a b) ((contrEquiv1 _ k rfl rfl).symm c) = ix2 c b := by
    funext d
    refine Fin.ext ?_
    match d with
    | ⟨0, _⟩ => exact c2
    | ⟨1, _⟩ => rfl
  rw [hl, hr]

/-- The reference's network over `n` points. -/
def rMlp {n : Nat} (e : MEv n) (p : FVec Ideal (s3 1 n 2) .f32) (w1 : FVec Ideal (s2 2 64) .f32) (b1 : FVec Ideal (s1 64) .f32)
    (w2 : FVec Ideal (s2 64 1) .f32) (b2 : FVec Ideal (s1 1) .f32) : FVec Ideal (s3 1 n 1) .f32 :=
  Host.divf (broadcastInDim (s3 1 n 1) ![] e.b1 (constant s0 .f32 0x3F800000#32))
    (addf (broadcastInDim (s3 1 n 1) ![] e.b1 (constant s0 .f32 0x3F800000#32))
      (Host.exp (Host.negf (addf
        (Host.dotGeneral (stackDot n 64 1 e.d2) none
          (Host.tanh (addf
            (Host.dotGeneral (stackDot n 2 64 e.d1) none
              (addf
                (mulf
                  (addf (Host.divf p (broadcastInDim (s3 1 n 2) ![] e.b2 (constant s0 .f32 0x45001000#32)))
                    (broadcastInDim (s3 1 n 2) ![] e.b2 (constant s0 .f32 0x397FE004#32)))
                  (broadcastInDim (s3 1 n 2) ![0, 1, 2] e.sp2 (subf (constant (s3 1 1 2) .f32 0x3F800000#32) (constant (s3 1 1 2) .f32 0xBF800000#32))))
                (broadcastInDim (s3 1 n 2) ![0, 1, 2] e.sp2 (constant (s3 1 1 2) .f32 0xBF800000#32)))
              w1)
            (broadcastInDim (s3 1 n 64) ![0, 1, 2] e.sp64 (broadcastInDim (s3 1 1 64) ![2] e.r64 b1))))
          w2)
        (broadcastInDim (s3 1 n 1) ![0, 1, 2] e.sp1 (broadcastInDim (s3 1 1 1) ![2] e.r1 b2))))))

/-- One row spread over `n` rows. -/
theorem sp_apply {α : Type} {n q : Nat} (e : (s3 1 1 q).BroadcastsInDim (s3 1 n q) ![0, 1, 2]) (v : (s3 1 1 q).Idx → α) (k : Fin n) (c : Fin q) :
    broadcastInDim (s3 1 n q) ![0, 1, 2] e v (ix3 0 k c) = v (ix3 0 0 c) :=
  broadcastInDim_apply _ e v _ _ fun a => by
    rcases (by decide : ∀ a : Fin 3, a = 0 ∨ a = 1 ∨ a = 2) a with rfl | rfl | rfl
    · rfl
    · rfl
    · show c.val = if q = 1 then 0 else c.val
      split <;> omega

/-- A vector as a stack of one row. -/
theorem lane_apply {α : Type} {q : Nat} (e : (s1 q).BroadcastsInDim (s3 1 1 q) ![2]) (v : (s1 q).Idx → α) (c : Fin q) :
    broadcastInDim (s3 1 1 q) ![2] e v (ix3 0 0 c) = v (ix1 c) :=
  broadcastInDim_apply _ e v _ _ fun a => by
    obtain rfl : a = 0 := Subsingleton.elim _ _
    show c.val = if q = 1 then 0 else c.val
    split <;> omega

/-- The reference's network at one of its points is the network's value there. -/
theorem rMlp_apply {n : Nat} (e : MEv n) (p : FVec Ideal (s3 1 n 2) .f32) (w1 : FVec Ideal (s2 2 64) .f32) (b1 : FVec Ideal (s1 64) .f32)
    (w2 : FVec Ideal (s2 64 1) .f32) (b2 : FVec Ideal (s1 1) .f32) (k : Fin n) :
    rMlp e p w1 b1 w2 b2 (ix3 0 k 0)
      = mlp (p (ix3 0 k 0)) (p (ix3 0 k 1)) w1 (fun c => b1 (ix1 c)) (fun c => w2 (ix2 c 0)) (b2 (ix1 0)) := by
  have hs : ∀ j : Fin 2, addf
      (mulf
        (addf (Host.divf p (broadcastInDim (s3 1 n 2) ![] e.b2 (constant s0 .f32 0x45001000#32)))
          (broadcastInDim (s3 1 n 2) ![] e.b2 (constant s0 .f32 0x397FE004#32)))
        (broadcastInDim (s3 1 n 2) ![0, 1, 2] e.sp2 (subf (constant (s3 1 1 2) .f32 0x3F800000#32) (constant (s3 1 1 2) .f32 0xBF800000#32))))
      (broadcastInDim (s3 1 n 2) ![0, 1, 2] e.sp2 (constant (s3 1 1 2) .f32 0xBF800000#32)) (ix3 0 k j) = scaled (p (ix3 0 k j)) := fun j =>
    scaled_eq (p (ix3 0 k j))
  unfold rMlp mlp
  have hone : (1 : EReal) = Ideal.ofBits .f32 0x3F800000#32 := Ideal.ofBits_one_f32.symm
  unfold Ideal.logistic
  rw [hone]
  refine congrArg (fun z => Ideal.div _ (Ideal.ofBits .f32 0x3F800000#32 + Ideal.exp (-z))) ?_
  refine congrArg₂ (fun a b : EReal => a + b) ?_ ?_
  · refine (stackDot_apply e.d2 _ _ k 0).trans (Finset.sum_congr rfl fun c _ => congrArg (· * _) (congrArg Ideal.tanh ?_))
    refine congrArg₂ (fun a b : EReal => a + b) ?_ ?_
    · refine (stackDot_apply e.d1 _ _ k c).trans ?_
      rw [Fin.sum_univ_two, hs, hs]
    · rw [sp_apply, lane_apply]
  · rw [sp_apply, lane_apply]

/-- The reference's values in a row, at one of them. -/
theorem tr_apply {α : Type} {n : Nat} (e : (s3 1 n 1).Transposes [0, 2, 1] (s3 1 1 n)) (v : (s3 1 n 1).Idx → α) (k : Fin n) :
    transpose (s3 1 1 n) [0, 2, 1] v e (ix3 0 0 k) = v (ix3 0 k 0) :=
  transpose_apply _ _ e _ _ fun b => by
    rcases (by decide : ∀ a : Fin 3, a = 0 ∨ a = 1 ∨ a = 2) b with rfl | rfl | rfl <;> rfl

end Refine
-- ==== Proof.Payload.lean ====
module

public import proofs.«01_k».proof.Proof.Mlp
public import proofs.«01_k».proof.Proof.Gen.KernelIdeal.Skeleton
public import Idealize.ShloMosaic.PureOps.Ideal.Laws

/-
  What the kernel's body computes for each of a block's 2048 points: the network's value there.
-/

@[expose] public section

noncomputable section

namespace Refine

open Idealize.ShloMosaic hiding ix0 ix1 ix2 ix3 ix4
open Idealize.ShloMosaic.ValueIdx
open Cert.KernelIdeal Cert.KernelIdeal.Gen

/-- A column spread over 64 lanes. -/
theorem lanes_col (v : FVec Ideal (s2 2048 1) .f32) (h) (k : Fin 2048) (c : Fin 64) :
    broadcastTo (s2 2048 64) v h (ix2 k c) = v (ix2 k 0) :=
  broadcastTo_apply _ h _ _ fun a => by
    rcases (by decide : ∀ a : Fin 2, a = 0 ∨ a = 1) a with rfl | rfl <;> rfl

/-- A row spread over 2048 points. -/
theorem lanes_row (v : FVec Ideal (s2 1 64) .f32) (h) (k : Fin 2048) (c : Fin 64) :
    broadcastTo (s2 2048 64) v h (ix2 k c) = v (ix2 0 c) :=
  broadcastTo_apply _ h _ _ fun a => by
    rcases (by decide : ∀ a : Fin 2, a = 0 ∨ a = 1) a with rfl | rfl <;> rfl

/-- One of a block's two coordinate columns. -/
theorem pick_col (x : FVec Ideal (s2 2048 2) .f32) (o : Fin 2) (h : (s2 2048 2).Slices ![0, o.val] (s2 2048 1)) (k : Fin 2048) :
    extractStridedSlice (s2 2048 1) ![0, o.val] x h (ix2 k 0) = x (ix2 k o) := by
  unfold extractStridedSlice
  refine congrArg x (funext fun a => Fin.ext ?_)
  rcases (by decide : ∀ a : Fin 2, a = 0 ∨ a = 1) a with rfl | rfl
  · exact Nat.zero_add _
  · exact Nat.add_zero _

/-- The body's stored vector at a point. -/
theorem pay_apply (v0 : FVec Ideal (s2 2048 2) .f32) (w1 : FVec Ideal (s2 2 64) .f32) (v12 v16 v21 v26 : FVec Ideal (s2 1 64) .f32) (v31 : FVec Ideal (s2 1 1) .f32)
    (h12 : ∀ c, v12 (ix2 0 c) = w1 (ix2 0 c)) (h16 : ∀ c, v16 (ix2 0 c) = w1 (ix2 1 c)) (k : Fin 2048) :
    k0_pay1 (F := Ideal) v0 v12 v16 v21 v26 v31 (ix1 k)
      = mlp (v0 (ix2 k 0)) (v0 (ix2 k 1)) w1 (fun c => v21 (ix2 0 c)) (fun c => v26 (ix2 0 c)) (v31 (ix2 0 0)) := by
  unfold k0_pay1 mlp
  refine congrArg Ideal.logistic (congrArg₂ (fun a b : EReal => a + b) ?_ ?_)
  · refine (Ideal.multiReduction_add_single _ _ _ _ _ _).trans (Finset.sum_congr rfl fun c _ => ?_)
    have hl : reduces_S2048x64_S2048.lift (ix1 k) c = (ix2 k c : S2048x64.Idx) := by
      funext a
      refine Fin.ext ?_
      rcases (by decide : ∀ a : Fin 2, a = 0 ∨ a = 1) a with rfl | rfl <;> rfl
    rw [hl]
    refine congrArg₂ (fun a b : EReal => a * b) (congrArg Ideal.tanh (congrArg₂ (fun a b : EReal => a + b)
      (congrArg₂ (fun a b : EReal => a + b) (congrArg₂ (fun a b : EReal => a * b) ?_ ?_) (congrArg₂ (fun a b : EReal => a * b) ?_ ?_)) ?_)) ?_
    · refine (lanes_col _ _ k c).trans ((pick_col _ 0 _ k).trans ?_)
      rw [shapeCast_self]
      rfl
    · exact (lanes_row _ _ k c).trans (h12 c)
    · refine (lanes_col _ _ k c).trans ((pick_col _ 1 _ k).trans ?_)
      rw [shapeCast_self]
      rfl
    · exact (lanes_row _ _ k c).trans (h16 c)
    · exact (lanes_row _ _ k c).trans (congrFun (shapeCast_self _ _) _)
    · exact (lanes_row _ _ k c).trans (congrFun (shapeCast_self _ _) _)
  · refine congrArg v31 (funext fun a => Fin.ext ?_)
    rcases (by decide : ∀ a : Fin 2, a = 0 ∨ a = 1) a with rfl | rfl <;> rfl

end Refine
-- ==== Proof.Regions.lean ====
module

public import proofs.«01_k».proof.Proof.Payload
public import proofs.«01_k».proof.Proof.Gen.KernelIdeal.Frame
public import Idealize.ShloMosaic.Lib.Pipeline.ValueKit

/-
  What a block of a launch computes: the network's value at every point of the block.
-/

@[expose] public section

set_option maxRecDepth 16384

noncomputable section

namespace Refine

open Idealize.ShloMosaic hiding ix0 ix1 ix2 ix3 ix4
open Idealize.ShloMosaic.TcCoe Idealize.ShloMosaic.ValueIdx
open Cert.KernelIdeal Cert.KernelIdeal.Gen

/-- The network's values at `n` points, the weights in the layout the launches take. -/
def mlpAt {n : Nat} (p : FVec Ideal (s2 n 2) .f32) (w1 : FVec Ideal (s2 2 64) .f32) (b1 w2 : FVec Ideal (s2 1 64) .f32)
    (b2 : FVec Ideal (s2 1 1) .f32) : FVec Ideal (s1 n) .f32 := fun k =>
  mlp (p (ix2 (k 0) 0)) (p (ix2 (k 0) 1)) w1 (fun c => b1 (ix2 0 c)) (fun c => w2 (ix2 0 c)) (b2 (ix2 0 0))

/-- A block's payload at a point, from what the block's loads read there. -/
theorem pay_block {n : Nat} (p : FVec Ideal (s2 n 2) .f32) (w1 : FVec Ideal (s2 2 64) .f32) (b1 w2 : FVec Ideal (s2 1 64) .f32)
    (b2 : FVec Ideal (s2 1 1) .f32) (v0 : FVec Ideal (s2 2048 2) .f32) (v12 v16 v21 v26 : FVec Ideal (s2 1 64) .f32)
    (v31 : FVec Ideal (s2 1 1) .f32) (y : (s1 2048).Idx) (q : (s1 n).Idx)
    (h0 : ∀ r : Fin n, r.val = (q 0).val → ∀ o, v0 (ix2 (y 0) o) = p (ix2 r o)) (h12 : ∀ c, v12 (ix2 0 c) = w1 (ix2 0 c))
    (h16 : ∀ c, v16 (ix2 0 c) = w1 (ix2 1 c)) (h21 : ∀ c, v21 (ix2 0 c) = b1 (ix2 0 c)) (h26 : ∀ c, v26 (ix2 0 c) = w2 (ix2 0 c))
    (h31 : v31 (ix2 0 0) = b2 (ix2 0 0)) : k0_pay1 (F := Ideal) v0 v12 v16 v21 v26 v31 y = mlpAt p w1 b1 w2 b2 q := by
  obtain ⟨k, rfl⟩ : ∃ k : Fin 2048, y = ix1 k := ⟨y 0, ValueIdx.eq_ix1 y⟩
  refine (pay_apply v0 w1 v12 v16 v21 v26 v31 h12 h16 k).trans ?_
  unfold mlpAt
  rw [← h0 _ rfl, ← h0 _ rfl, ← h31, ← funext h21, ← funext h26]

/-- The first of two rows, loaded. -/
theorem ld_row0 (X : FVec Ideal (s2 2 64) .f32) (k : Fin 64) : View.ld (Val := Elt Ideal) (e' := .f32) X r1_1 (ix2 0 k) = X (ix2 0 k) :=
  congrArg X (funext fun a => Fin.ext (by
    rcases (by decide : ∀ a : Fin 2, a = 0 ∨ a = 1) a with rfl | rfl
    · rfl
    · show 0 + 1 * k.val = k.val
      omega))

/-- The second of two rows, loaded. -/
theorem ld_row1 (X : FVec Ideal (s2 2 64) .f32) (k : Fin 64) : View.ld (Val := Elt Ideal) (e' := .f32) X r1_2 (ix2 0 k) = X (ix2 1 k) :=
  congrArg X (funext fun a => Fin.ext (by
    rcases (by decide : ∀ a : Fin 2, a = 0 ∨ a = 1) a with rfl | rfl
    · rfl
    · show 0 + 1 * k.val = k.val
      omega))

end Refine
-- ==== Proof.Step.lean ====
module

public import proofs.«01_k».proof.Proof.Level
public import proofs.«01_k».proof.Proof.Lin
public import proofs.«01_k».proof.Proof.Regions

/-
  One refinement step of the kernel and one of the reference, and that they agree.
-/

@[expose] public section

noncomputable section

namespace Refine

open Idealize.ShloMosaic hiding ix0 ix1 ix2 ix3 ix4
open Idealize.ShloMosaic.ValueIdx

/-- The side conditions of the weights' rows. -/
structure WEv : Prop where
  b1 : (s1 64).ShapeCasts (s2 1 64)
  w2 : (s2 64 1).ShapeCasts (s2 1 64)
  b2 : (s1 1).ShapeCasts (s2 1 1)

/-- They hold. -/
theorem wev : WEv := ⟨by decide, by decide, by decide⟩

/-- The network's values at `n` points, the weights in the layout of the arguments. -/
def kMlp {n : Nat} (w : WEv) (p : FVec Ideal (s2 n 2) .f32) (w1 : FVec Ideal (s2 2 64) .f32) (b1 : FVec Ideal (s1 64) .f32)
    (w2 : FVec Ideal (s2 64 1) .f32) (b2 : FVec Ideal (s1 1) .f32) : FVec Ideal (s1 n) .f32 :=
  mlpAt p w1 (shapeCast (s2 1 64) b1 w.b1) (shapeCast (s2 1 64) w2 w.w2) (shapeCast (s2 1 1) b2 w.b2)

/-- The kernel's values at a point, with the weights read off the arguments. -/
theorem kMlp_apply {n : Nat} (w : WEv) (p : FVec Ideal (s2 n 2) .f32) (w1 : FVec Ideal (s2 2 64) .f32) (b1 : FVec Ideal (s1 64) .f32)
    (w2 : FVec Ideal (s2 64 1) .f32) (b2 : FVec Ideal (s1 1) .f32) (k : Fin n) :
    kMlp w p w1 b1 w2 b2 (ix1 k)
      = mlp (p (ix2 k 0)) (p (ix2 k 1)) w1 (fun c => b1 (ix1 c)) (fun c => w2 (ix2 c 0)) (b2 (ix1 0)) := by
  have h1 : (fun c : Fin 64 => shapeCast (s2 1 64) b1 w.b1 (ix2 0 c)) = fun c => b1 (ix1 c) := funext fun c =>
    shapeCast_apply _ _ _ _ (by
      rw [Shape.rowMajor_val_one, Shape.rowMajor_val_two]
      show c.val = 0 * 64 + c.val
      omega)
  have h2 : (fun c : Fin 64 => shapeCast (s2 1 64) w2 w.w2 (ix2 0 c)) = fun c => w2 (ix2 c 0) := funext fun c =>
    shapeCast_apply _ _ _ _ (by
      rw [Shape.rowMajor_val_two, Shape.rowMajor_val_two]
      show c.val * 1 + 0 = 0 * 64 + c.val
      omega)
  have h3 : shapeCast (s2 1 1) b2 w.b2 (ix2 0 0) = b2 (ix1 0) :=
    shapeCast_apply _ _ _ _ (by
      rw [Shape.rowMajor_val_one, Shape.rowMajor_val_two]
      rfl)
  unfold kMlp mlpAt
  rw [h1, h2, h3]
  rfl

/-- The two networks agree where their points do. -/
theorem mlp_agree {n n' : Nat} (w : WEv) (e : MEv n) (p : FVec Ideal (s2 n' 2) .f32) (p3 : FVec Ideal (s3 1 n 2) .f32)
    (w1 : FVec Ideal (s2 2 64) .f32) (b1 : FVec Ideal (s1 64) .f32) (w2 : FVec Ideal (s2 64 1) .f32) (b2 : FVec Ideal (s1 1) .f32)
    (k : Fin n) (k' : Fin n') (h0 : p3 (ix3 0 k 0) = p (ix2 k' 0)) (h1 : p3 (ix3 0 k 1) = p (ix2 k' 1)) :
    transpose (s3 1 1 n) [0, 2, 1] (rMlp e p3 w1 b1 w2 b2) e.tr (ix3 0 0 k) = kMlp w p w1 b1 w2 b2 (ix1 k') := by
  rw [tr_apply, rMlp_apply, kMlp_apply, h0, h1]

variable {h r N P n : Nat}

/-- One refinement step of the kernel. -/
def kStep (e : KEv h r N P) (w : WEv) (sc : BitVec 32) (ps : FVec Ideal (s1 r) .f32)
    (w1 : FVec Ideal (s2 2 64) .f32) (b1 : FVec Ideal (s1 64) .f32) (w2 : FVec Ideal (s2 64 1) .f32) (b2 : FVec Ideal (s1 1) .f32)
    (x : FVec Ideal (s2 h h) .f32) : FVec Ideal (s2 r r) .f32 :=
  kPut e (kUp e x ps ps) (kIdx e (kUp e x ps ps)) (kMlp w (kPts e sc (kIdx e (kUp e x ps ps))) w1 b1 w2 b2)

/-- The kernel's values, from a launch's result and what each of its weight arrays holds. -/
theorem kMlp_of {m : Nat} (w : WEv) {v : FVec Ideal (s1 m) .f32} {p : FVec Ideal (s2 m 2) .f32} {w1 a1 : FVec Ideal (s2 2 64) .f32}
    {b1 a2 : FVec Ideal (s1 64) .f32} {w2 a3 : FVec Ideal (s2 64 1) .f32} {b2 a4 : FVec Ideal (s1 1) .f32}
    {c1 c2 : FVec Ideal (s2 1 64) .f32} {c3 : FVec Ideal (s2 1 1) .f32} (hv : v = mlpAt p a1 c1 c2 c3)
    (hc : c1 = shapeCast (s2 1 64) a2 w.b1 ∧ c2 = shapeCast (s2 1 64) a3 w.w2 ∧ c3 = shapeCast (s2 1 1) a4 w.b2)
    (h1 : a1 = w1) (h2 : a2 = b1) (h3 : a3 = w2) (h4 : a4 = b2) : v = kMlp w p w1 b1 w2 b2 := by
  subst hv h1 h2 h3 h4
  rw [hc.1, hc.2.1, hc.2.2]
  rfl

/-- A level is a refinement step once each of its stages is: the positions, the upsampled grid, the chosen points, their
coordinates, the values there and the grid with the values put in. A primed name is what an array holds when a later stage reads it. -/
theorem kStep_of (e : KEv h r N P) (w : WEv) (sc : BitVec 32) {ps ys xs : FVec Ideal (s1 r) .f32}
    {w1 : FVec Ideal (s2 2 64) .f32} {b1 : FVec Ideal (s1 64) .f32} {w2 : FVec Ideal (s2 64 1) .f32} {b2 : FVec Ideal (s1 1) .f32}
    {x x' : FVec Ideal (s2 h h) .f32} {up up' : FVec Ideal (s1 N) .f32} {k k' : IVec (s1 P) 32} {p : FVec Ideal (s2 P 2) .f32}
    {v : FVec Ideal (s1 P) .f32} {out : FVec Ideal (s2 r r) .f32} (hx : x' = x) (hy : ys = ps) (hxs : xs = ps)
    (hu : up = shapeCast (s1 N) (kUp e x' ys xs) e.flat) (hk : k = kIdx e (kUp e x' ys xs)) (hp : p = kPts e sc k)
    (hv : v = kMlp w p w1 b1 w2 b2) (hu' : up' = up) (hk' : k' = k)
    (ho : ∀ u, up' = shapeCast (s1 N) u e.flat → out = kPut e u k' v) : out = kStep e w sc ps w1 b1 w2 b2 x := by
  subst hx hy hxs hu' hk' hk hp hv
  exact ho _ hu

/-- One refinement step of the reference. -/
def rStep (e : REv h r N P) (m : MEv P) (sc : BitVec 32) (ps : FVec Ideal (s1 r) .f32)
    (w1 : FVec Ideal (s2 2 64) .f32) (b1 : FVec Ideal (s1 64) .f32) (w2 : FVec Ideal (s2 64 1) .f32) (b2 : FVec Ideal (s1 1) .f32)
    (x : FVec Ideal (s4 1 1 h h) .f32) : FVec Ideal (s4 1 1 r r) .f32 :=
  rPut e (rUp e x ps ps) (rIdx e (rUp e x ps ps))
    (transpose (s3 1 1 P) [0, 2, 1] (rMlp m (rPts e sc (rIdx e (rUp e x ps ps))) w1 b1 w2 b2) m.tr)

/-- Steps from agreeing grids give agreeing grids. -/
theorem step_agree (hh : 0 < h) (hP : P ≤ N) (e : KEv h r N P) (e' : REv h r N P) (w : WEv) (m : MEv P) (sc : BitVec 32)
    (ps : FVec Ideal (s1 r) .f32)
    (w1 : FVec Ideal (s2 2 64) .f32) (b1 : FVec Ideal (s1 64) .f32) (w2 : FVec Ideal (s2 64 1) .f32) (b2 : FVec Ideal (s1 1) .f32)
    (x : FVec Ideal (s2 h h) .f32) (x4 : FVec Ideal (s4 1 1 h h) .f32) (hx : ∀ i j, x4 (ix4 0 0 i j) = x (ix2 i j)) (i j : Fin r) :
    rStep e' m sc ps w1 b1 w2 b2 x4 (ix4 0 0 i j) = kStep e w sc ps w1 b1 w2 b2 x (ix2 i j) := by
  have hu := up_agree hh e e' x x4 ps ps hx
  have hk := idx_agree hP e e' _ _ hu
  exact put_level_agree e e' _ _ _ _ _ _ hu hk
    (fun p => mlp_agree w m _ _ w1 b1 w2 b2 p p (pts_agree0 e e' sc _ _ hk p) (pts_agree1 e e' sc _ _ hk p)) i j

end Refine
-- ==== Proof.Grid.lean ====
module

public import proofs.«01_k».proof.Proof.Coarse
public import proofs.«01_k».proof.Proof.Step

/-
  The coarse grid: the kernel lists its points as two flat coordinate lists side by side, padded to whole blocks; the reference
  stacks two coordinate planes. Both list the points row by row, so the network's values agree.
-/

@[expose] public section

noncomputable section

namespace Refine

open Idealize.ShloMosaic hiding ix0 ix1 ix2 ix3 ix4
open Idealize.ShloMosaic.ValueIdx

/-- The side conditions of the kernel's coarse operations. -/
structure KGrid : Prop where
  b0 : s0.BroadcastsInDim (s1 129) ![]
  line : (s1 129).ShapeCasts (s2 1 129)
  down : (s2 1 129).BroadcastsInDim (s2 129 129) ![0, 1]
  flat : (s2 129 129).ShapeCasts (s1 16641)
  along : (s1 129).BroadcastsInDim (s2 129 129) ![0]
  col : (s1 16641).BroadcastsInDim (s2 16641 1) ![0]
  cat : Shape.Concatenates [s2 16641 1, s2 16641 1] (s2 16641 2) 1
  pad : (s2 16641 2).Pads (![0, 0] : Fin 2 → Nat) ![1791, 0] ![0, 0] (s2 18432 2)
  one : 0 < s0.numel
  cut : (s1 18432).Slices ![0] (s1 16641)
  grid : (s1 16641).ShapeCasts (s2 129 129)

/-- The side conditions of the reference's coarse operations. -/
structure RGrid : Prop where
  along : (s1 129).BroadcastsInDim (s2 129 129) ![1]
  down : (s1 129).BroadcastsInDim (s2 129 129) ![0]
  plane : (s2 129 129).BroadcastsInDim (s3 1 129 129) ![1, 2]
  cat : Shape.Concatenates [s3 1 129 129, s3 1 129 129] (s3 2 129 129) 0
  flat : (s3 2 129 129).ShapeCasts (s2 2 16641)
  tr : (s2 2 16641).Transposes [1, 0] (s2 16641 2)
  stack : (s2 16641 2).BroadcastsInDim (s3 1 16641 2) ![1, 2]
  grid : (s3 1 1 16641).ShapeCasts (s4 1 1 129 129)

/-- The kernel's points, padded. -/
def kCoarse {F : FTy → Type} [FloatOps F] (e : KGrid) : FVec F (s2 18432 2) .f32 :=
  let v : FVec F (s1 129) .f32 := mulf (sitofp .f32 (iotaInDim (s1 129) 32 0)) (broadcastInDim (s1 129) ![] e.b0 (constant s0 .f32 0x41800000#32))
  Idealize.ShloMosaic.pad (s2 18432 2) ![0, 0] ![1791, 0] ![0, 0]
    (concatenate (s2 16641 2) 1
      [⟨s2 16641 1, broadcastInDim (s2 16641 1) ![0] e.col (shapeCast (s1 16641) (broadcastInDim (s2 129 129) ![0, 1] e.down (shapeCast (s2 1 129) v e.line)) e.flat)⟩,
       ⟨s2 16641 1, broadcastInDim (s2 16641 1) ![0] e.col (shapeCast (s1 16641) (broadcastInDim (s2 129 129) ![0] e.along v) e.flat)⟩]
      e.cat)
    (sitofp .f32 (constantI s0 32 0#32)) e.pad e.one

/-- The kernel's coarse grid, from the values at its padded points. -/
def kGrid {F : FTy → Type} [FloatOps F] (e : KGrid) (v : FVec F (s1 18432) .f32) : FVec F (s2 129 129) .f32 :=
  shapeCast (s2 129 129) (extractStridedSlice (s1 16641) ![0] v e.cut) e.grid

/-- The reference's points. -/
def rCoarse {F : FTy → Type} [FloatOps F] (e : RGrid) (v : IVec (s1 129) 32) : FVec F (s3 1 16641 2) .f32 :=
  sitofp .f32 (broadcastInDim (s3 1 16641 2) ![1, 2] e.stack (transpose (s2 16641 2) [1, 0]
    (shapeCast (s2 2 16641) (concatenate (s3 2 129 129) 0
      [⟨s3 1 129 129, broadcastInDim (s3 1 129 129) ![1, 2] e.plane (broadcastInDim (s2 129 129) ![1] e.along v)⟩,
       ⟨s3 1 129 129, broadcastInDim (s3 1 129 129) ![1, 2] e.plane (broadcastInDim (s2 129 129) ![0] e.down v)⟩]
      e.cat) e.flat) e.tr))

/-- The number of an entry of the coarse grid, row by row. -/
def at' (i j : Fin 129) : Fin 16641 := ⟨i.val * 129 + j.val, by omega⟩

/-- The same among the padded points. -/
def atP (i j : Fin 129) : Fin 18432 := ⟨i.val * 129 + j.val, by omega⟩

/-- A flattened square at an entry's number. -/
theorem flat_at {α : Type} (e : (s2 129 129).ShapeCasts (s1 16641)) (v : (s2 129 129).Idx → α) (i j : Fin 129) :
    shapeCast (s1 16641) v e (ix1 (at' i j)) = v (ix2 i j) :=
  shapeCast_apply _ _ _ _ (by
    rw [Shape.rowMajor_val_one, Shape.rowMajor_val_two]
    rfl)

/-- A vector copied along the rows of a square. -/
theorem along_apply {α : Type} (e : (s1 129).BroadcastsInDim (s2 129 129) ![1]) (v : (s1 129).Idx → α) (i j : Fin 129) :
    broadcastInDim (s2 129 129) ![1] e v (ix2 i j) = v (ix1 j) :=
  broadcastInDim_apply _ e v _ _ fun a => by
    obtain rfl : a = 0 := Subsingleton.elim _ _
    rfl

/-- A vector copied down the columns of a square. -/
theorem down_apply {α : Type} (e : (s1 129).BroadcastsInDim (s2 129 129) ![0]) (v : (s1 129).Idx → α) (i j : Fin 129) :
    broadcastInDim (s2 129 129) ![0] e v (ix2 i j) = v (ix1 i) :=
  broadcastInDim_apply _ e v _ _ fun a => by
    obtain rfl : a = 0 := Subsingleton.elim _ _
    rfl

/-- A row below which rows are added stays where it is. -/
theorem pad_rows {α : Type} (x : (s2 16641 2).Idx → α) (v : s0.Idx → α) (hp) (hv) (i j : Fin 129) (o : Fin 2) :
    Idealize.ShloMosaic.pad (s2 18432 2) ![0, 0] ![1791, 0] ![0, 0] x v hp hv (ix2 (atP i j) o) = x (ix2 (at' i j) o) := by
  unfold Idealize.ShloMosaic.pad
  rw [dif_pos (fun c => ?_)]
  · exact congrArg x (funext fun c => Fin.ext (by
      rcases (by decide : ∀ a : Fin 2, a = 0 ∨ a = 1) c with rfl | rfl <;> exact Nat.div_one _))
  · rcases (by decide : ∀ a : Fin 2, a = 0 ∨ a = 1) c with rfl | rfl
    · exact ⟨Nat.zero_le _, Nat.mod_one _, (Nat.div_one _).symm ▸ (at' i j).isLt⟩
    · exact ⟨Nat.zero_le _, Nat.mod_one _, (Nat.div_one _).symm ▸ o.isLt⟩

/-- The kernel's point of entry `(i, j)`: its column's coordinate, then its row's. -/
theorem kCoarse_apply {F : FTy → Type} [FloatOps F] (e : KGrid) (i j : Fin 129) :
    kCoarse (F := F) e (ix2 (atP i j) 0) = FloatOps.mulf (FloatOps.sitofp .f32 (BitVec.ofNat 32 j.val)) (FloatOps.ofBits .f32 0x41800000#32)
    ∧ kCoarse (F := F) e (ix2 (atP i j) 1) = FloatOps.mulf (FloatOps.sitofp .f32 (BitVec.ofNat 32 i.val)) (FloatOps.ofBits .f32 0x41800000#32) := by
  unfold kCoarse
  constructor
  · rw [pad_rows, concatenate_pair_apply_left (t := s2 16641 2) (s₁ := s2 16641 1) (s₂ := s2 16641 1) 1 _ _ _ _ rfl (ix2 (at' i j) 0) (fun b => by
      rcases (by decide : ∀ a : Fin 2, a = 0 ∨ a = 1) b with rfl | rfl <;> rfl), col_apply, flat_at, tall_apply]
    refine (shapeCast_apply _ _ _ (ix1 j) ?_).trans rfl
    rw [Shape.rowMajor_val_one, Shape.rowMajor_val_two]
    show j.val = 0 * 129 + j.val
    omega
  · rw [pad_rows, concatenate_pair_apply_right (t := s2 16641 2) (s₁ := s2 16641 1) (s₂ := s2 16641 1) 1 _ _ _ _ rfl rfl (ix2 (at' i j) 0) (fun b => by
      rcases (by decide : ∀ a : Fin 2, a = 0 ∨ a = 1) b with rfl | rfl
      · intro _; rfl
      · intro h; exact absurd rfl h) rfl, col_apply, flat_at, down_apply]
    rfl

/-- The kernel's coarse grid at an entry: the value at that entry's point. -/
theorem kGrid_apply {F : FTy → Type} [FloatOps F] (e : KGrid) (v : FVec F (s1 18432) .f32) (i j : Fin 129) :
    kGrid e v (ix2 i j) = v (ix1 (atP i j)) := by
  unfold kGrid
  refine (shapeCast_apply _ _ _ (ix1 (at' i j)) ?_).trans ?_
  · rw [Shape.rowMajor_val_one, Shape.rowMajor_val_two]
    rfl
  · refine congrArg v (funext fun a => Fin.ext ?_)
    obtain rfl : a = 0 := Subsingleton.elim _ _
    exact Nat.zero_add _

/-- One plane of the two stacked, at an entry's number. -/
theorem plane_apply {α : Type} (e : RGrid) (x y : (s2 129 129).Idx → α) (i j : Fin 129) :
    shapeCast (s2 2 16641) (concatenate (s3 2 129 129) 0
      [⟨s3 1 129 129, broadcastInDim (s3 1 129 129) ![1, 2] e.plane x⟩, ⟨s3 1 129 129, broadcastInDim (s3 1 129 129) ![1, 2] e.plane y⟩]
      e.cat) e.flat (ix2 0 (at' i j)) = x (ix2 i j)
    ∧ shapeCast (s2 2 16641) (concatenate (s3 2 129 129) 0
      [⟨s3 1 129 129, broadcastInDim (s3 1 129 129) ![1, 2] e.plane x⟩, ⟨s3 1 129 129, broadcastInDim (s3 1 129 129) ![1, 2] e.plane y⟩]
      e.cat) e.flat (ix2 1 (at' i j)) = y (ix2 i j) := by
  have hb : ∀ z : (s2 129 129).Idx → α, broadcastInDim (s3 1 129 129) ![1, 2] e.plane z (ix3 0 i j) = z (ix2 i j) := fun z =>
    broadcastInDim_apply _ e.plane z _ _ fun a => by
      rcases (by decide : ∀ a : Fin 2, a = 0 ∨ a = 1) a with rfl | rfl <;> rfl
  constructor
  · refine (shapeCast_apply _ _ _ (ix3 0 i j) ?_).trans ?_
    · rw [Shape.rowMajor_val_three, Shape.rowMajor_val_two]
      show (0 * 129 + i.val) * 129 + j.val = 0 * 16641 + (i.val * 129 + j.val)
      omega
    · rw [concatenate_pair_apply_left (t := s3 2 129 129) (s₁ := s3 1 129 129) (s₂ := s3 1 129 129) 0 _ _ _ _ rfl (ix3 0 i j) (fun b => by
        rcases (by decide : ∀ a : Fin 3, a = 0 ∨ a = 1 ∨ a = 2) b with rfl | rfl | rfl <;> rfl), hb]
  · refine (shapeCast_apply _ _ _ (ix3 1 i j) ?_).trans ?_
    · rw [Shape.rowMajor_val_three, Shape.rowMajor_val_two]
      show (1 * 129 + i.val) * 129 + j.val = 1 * 16641 + (i.val * 129 + j.val)
      omega
    · rw [concatenate_pair_apply_right (t := s3 2 129 129) (s₁ := s3 1 129 129) (s₂ := s3 1 129 129) 0 _ _ _ _ rfl rfl (ix3 0 i j) (fun b => by
        rcases (by decide : ∀ a : Fin 3, a = 0 ∨ a = 1 ∨ a = 2) b with rfl | rfl | rfl
        · intro h; exact absurd rfl h
        · intro _; rfl
        · intro _; rfl) rfl, hb]

/-- The reference's point of entry `(i, j)`: its column's coordinate, then its row's. -/
theorem rCoarse_apply {F : FTy → Type} [FloatOps F] (e : RGrid) (v : IVec (s1 129) 32) (i j : Fin 129) :
    rCoarse (F := F) e v (ix3 0 (at' i j) 0) = FloatOps.sitofp .f32 (v (ix1 j))
    ∧ rCoarse (F := F) e v (ix3 0 (at' i j) 1) = FloatOps.sitofp .f32 (v (ix1 i)) := by
  have hs : ∀ (z : (s2 2 16641).Idx → BitVec 32) (o : Fin 2), broadcastInDim (s3 1 16641 2) ![1, 2] e.stack
      (transpose (s2 16641 2) [1, 0] z e.tr) (ix3 0 (at' i j) o) = z (ix2 o (at' i j)) := fun z o =>
    (broadcastInDim_apply _ e.stack _ _ (ix2 (at' i j) o) fun a => by
      rcases (by decide : ∀ a : Fin 2, a = 0 ∨ a = 1) a with rfl | rfl <;> rfl).trans
    (transpose_apply _ _ e.tr _ _ fun b => by
      rcases (by decide : ∀ a : Fin 2, a = 0 ∨ a = 1) b with rfl | rfl <;> rfl)
  unfold rCoarse
  constructor
  · refine congrArg (FloatOps.sitofp .f32) ((hs _ 0).trans ?_)
    rw [(plane_apply e _ _ i j).1, along_apply]
  · refine congrArg (FloatOps.sitofp .f32) ((hs _ 1).trans ?_)
    rw [(plane_apply e _ _ i j).2, down_apply]

/-- The two coarse grids agree. -/
theorem coarse_agree (k : KGrid) (r : RGrid) (l : LEv 128 129) (w : WEv) (m : MEv 16641)
    (w1 : FVec Ideal (s2 2 64) .f32) (b1 : FVec Ideal (s1 64) .f32) (w2 : FVec Ideal (s2 64 1) .f32) (b2 : FVec Ideal (s1 1) .f32) (i j : Fin 129) :
    shapeCast (s4 1 1 129 129) (transpose (s3 1 1 16641) [0, 2, 1] (rMlp m (rCoarse r (coarse l)) w1 b1 w2 b2) m.tr) r.grid (ix4 0 0 i j)
      = kGrid k (kMlp w (kCoarse k) w1 b1 w2 b2) (ix2 i j) := by
  rw [kGrid_apply]
  refine (shapeCast_apply _ _ _ (ix3 0 0 (at' i j)) ?_).trans ?_
  · rw [Shape.rowMajor_val_four, Shape.rowMajor_val_three]
    show (0 * 1 + 0) * 16641 + (i.val * 129 + j.val) = ((0 * 1 + 0) * 129 + i.val) * 129 + j.val
    omega
  · exact mlp_agree w m _ _ w1 b1 w2 b2 _ _
      (((rCoarse_apply r _ i j).1.trans (coarse_eq l j)).trans (kCoarse_apply k i j).1.symm)
      (((rCoarse_apply r _ i j).2.trans (coarse_eq l i)).trans (kCoarse_apply k i j).2.symm)

end Refine
-- ==== Proof.Region0.lean ====
module

public import proofs.«01_k».proof.Proof.Regions

/-
  Launch 0: its result array holds the network's value at every point it was given.
-/

@[expose] public section

set_option maxRecDepth 16384

noncomputable section

namespace Refine

open Idealize.ShloMosaic hiding ix0 ix1 ix2 ix3 ix4
open Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The blocks each step of the launch looks at: the step's own points and results, the weights whole. -/
theorem win0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val] := by decide +kernel

set_option maxHeartbeats 2000000 in
/-- After the last step the result array is the network's values at the launch's points. -/
theorem reg0 (c : Dev nD) : (dat0 V c).arrAt 5 cfg0.N
    = mlpAt (n := 18432) (V c main_v11) (V c main_arg0) (V c main_v12) (V c main_v13) (V c main_v14) := by
  refine (dat0 V c).arrAt_eq_of_covers 5 _ (by decide +kernel) fun t hf y => ?_
  blk_simp
  rw [after0_5]
  frame_out
  refine pay_block _ _ _ _ _ _ _ _ _ _ _ _ _ (fun r hr o => ?_) (fun k => ?_) (fun k => ?_) (fun k => ?_) (fun k => ?_) ?_
  · blk_simp [win0 t] at hr
    blk_ext [iblk0, win0 t]
    show t.val * 2048 + (y 0).val = r.val
    omega
  · refine (ld_row0 _ k).trans ?_
    blk_ext [iblk0, win0 t]
  · refine (ld_row1 _ k).trans ?_
    blk_ext [iblk0, win0 t]
  all_goals blk_ext [iblk0, win0 t]

end Refine
-- ==== Proof.Start.lean ====
module

public import proofs.«01_k».proof.Proof.Grid
public import proofs.«01_k».proof.Proof.Region0
public import Idealize.ShloMosaic.Lib.StableHlo.RunRead

/-
  The kernel's coarse grid and its final reshape, read off its operations.
-/

@[expose] public section

set_option maxRecDepth 16384

noncomputable section

namespace Refine.L0

open Idealize.ShloMosaic hiding ix0 ix1 ix2 ix3 ix4
open Idealize.ShloMosaic.TcCoe Idealize.ShloMosaic.ValueIdx Idealize.ShloMosaic.StableHlo
open Cert.KernelIdeal Cert.KernelIdeal.Gen

/-- The coarse operations' side conditions hold. -/
theorem ev : KGrid where
  b0 := bcast_S_S129
  line := shapeCasts_S129_S1x129
  down := bcast_S1x129_S129x129_0_1
  flat := shapeCasts_S129x129_S16641
  along := bcast_S129_S129x129_0
  col := bcast_S16641_S16641x1_0
  cat := concatenates_S16641x1_S16641x1_S16641x2_d1
  pad := pads_S16641x2_S18432x2_017910_000
  one := h_S_
  cut := slices_S18432_S16641_0
  grid := shapeCasts_S16641_S129x129

attribute [local congr] cat_congr

section Reads
variable {F : FTy → Type} [FloatOps F] (V : Valuation τ sig (Elt F))

/-- The padded points. -/
theorem pts_read : after hostOps0_2 (after hostOps0_1 (after hostOps0 V)) main_v11 = kCoarse ev := by
  after_reads_simp
  rfl

/-- The weights' rows. -/
theorem w_read : after hostOps0_2 V main_v12 = shapeCast (s2 1 64) (V main_arg1) wev.b1
    ∧ after hostOps0_2 V main_v13 = shapeCast (s2 1 64) (V main_arg2) wev.w2
    ∧ after hostOps0_2 V main_v14 = shapeCast (s2 1 1) (V main_arg3) wev.b2 := by
  refine ⟨?_, ?_, ?_⟩ <;>
  · after_reads_simp
    rfl

/-- The grid. -/
theorem grid_read : after hostOps1 V main_v17 = kGrid ev (V main_v15) := by
  after_reads_simp
  rfl

/-- The result: the last level's grid with two leading unit axes. -/
theorem out_read : after hostOps5 V main_v374
    = shapeCast (s4 1 1 2049 2049) (after hostOps5 V main_v373) shapeCasts_S2049x2049_S1x1x2049x2049 := by
  after_reads_simp
  rfl

end Reads

variable (m : (ℓ : Loc nD τ sig) → Buf (Elt Ideal) ℓ) (ρ : Dev nD → PrngReg) (c : Dev nD)

/-- The coarse grid: the network's values at the coarse points. -/
theorem start : W5 m ρ c main_v17 = kGrid ev (kMlp wev (kCoarse ev)
    (m ((c : Thread nD τ).loc main_arg0)) (m ((c : Thread nD τ).loc main_arg1)) (m ((c : Thread nD τ).loc main_arg2))
    (m ((c : Thread nD τ).loc main_arg3))) := by
  have hpts : W3 m ρ c main_v11 = kCoarse (F := Ideal) ev := pts_read (W0 m ρ c)
  have hw := w_read (W2 m ρ c)
  refine (grid_read (W4 m ρ c)).trans (congrArg (kGrid ev) ?_)
  refine (W4_arr m ρ c 5).trans ((reg0 (V3 m ρ) c).trans ?_)
  rw [← W3_args m ρ c main_arg0 (by decide), ← W2_args m ρ c main_arg1 (by decide),
    ← W2_args m ρ c main_arg2 (by decide), ← W2_args m ρ c main_arg3 (by decide), ← hpts]
  unfold kMlp
  exact (congrArg₂ (fun a b => mlpAt (n := 18432) _ _ a b _) hw.1 hw.2.1).trans (congrArg (mlpAt (n := 18432) _ _ _ _) hw.2.2)

end Refine.L0
-- ==== Proof.RefStart.lean ====
module

public import proofs.«01_k».proof.Proof.Grid
public import proofs.«01_k».proof.Proof.Gen.ReferenceIdeal.Run

/-
  The reference's coarse grid, read off its operations.
-/

@[expose] public section

set_option maxRecDepth 16384

noncomputable section

namespace Refine.R0

open Idealize.ShloMosaic hiding ix0 ix1 ix2 ix3 ix4
open Idealize.ShloMosaic.ValueIdx
open Cert.ReferenceIdeal Cert.ReferenceIdeal.Gen Cert.ReferenceIdeal.Value

/-- The coarse operations' side conditions hold. -/
theorem ev : RGrid where
  along := bcast_S129_S129x129_1
  down := bcast_S129_S129x129_0
  plane := bcast_S129x129_S1x129x129_1_2
  cat := concatenates_S1x129x129_S1x129x129_S2x129x129_d0
  flat := shapeCasts_S2x129x129_S2x16641
  tr := transposes_S2x16641_S16641x2_1_0
  stack := bcast_S16641x2_S1x16641x2_1_2
  grid := shapeCasts_S1x1x16641_S1x1x129x129

/-- The network's side conditions hold at the coarse number of points. -/
theorem mev : MEv 16641 where
  b2 := bcast_S_S1x16641x2
  b1 := bcast_S_S1x16641x1
  sp2 := bcast_S1x1x2_S1x16641x2_0_1_2
  sp64 := bcast_S1x1x64_S1x16641x64_0_1_2
  sp1 := bcast_S1x1x1_S1x16641x1_0_1_2
  r64 := bcast_S64_S1x1x64_2
  r1 := bcast_S1_S1x1x1_2
  d1 := dot_S1x16641x2_S2x64_S1x16641x64_2_0_01_1_n_n_wf
  d2 := dot_S1x16641x64_S64x1_S1x16641x1_2_0_01_1_n_n_wf
  tr := transposes_S1x16641x1_S1x1x16641_0_2_1

/-- The positions' side conditions. -/
theorem lev : LEv 128 129 := ⟨bcast_S_S128, shapeCasts_S_S1, bcast_S1_S128_0, bcast_S_S1, concatenates_S128_S1_S129_d0⟩

variable (V : Valuation τ sig (Elt Ideal))

/-- The coarse coordinates. -/
theorem pos_read : res_main_v1 V = coarse lev := rfl

/-- The coarse grid: the network's values at the coarse points. -/
theorem start : res_main_v36 V = shapeCast (s4 1 1 129 129) (transpose (s3 1 1 16641) [0, 2, 1]
    (rMlp mev (rCoarse ev (coarse lev)) (V (Proc.devRef .tc main_arg0)) (V (Proc.devRef .tc main_arg1))
      (V (Proc.devRef .tc main_arg2)) (V (Proc.devRef .tc main_arg3))) mev.tr) ev.grid := by
  rw [← pos_read V]
  rfl

end Refine.R0
-- ==== Proof.Region1.lean ====
module

public import proofs.«01_k».proof.Proof.Regions

/-
  Launch 1: its result array holds the network's value at every point it was given.
-/

@[expose] public section

set_option maxRecDepth 16384

noncomputable section

namespace Refine

open Idealize.ShloMosaic hiding ix0 ix1 ix2 ix3 ix4
open Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The blocks each step of the launch looks at: the step's own points and results, the weights whole. -/
theorem win1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val] := by decide +kernel

set_option maxHeartbeats 2000000 in
/-- After the last step the result array is the network's values at the launch's points. -/
theorem reg1 (c : Dev nD) : (dat1 V c).arrAt 5 cfg1.N
    = mlpAt (n := 16384) (V c main_v94) (V c main_arg0) (V c main_v95) (V c main_v96) (V c main_v97) := by
  refine (dat1 V c).arrAt_eq_of_covers 5 _ (by decide +kernel) fun t hf y => ?_
  blk_simp
  rw [after1_5]
  frame_out
  refine pay_block _ _ _ _ _ _ _ _ _ _ _ _ _ (fun r hr o => ?_) (fun k => ?_) (fun k => ?_) (fun k => ?_) (fun k => ?_) ?_
  · blk_simp [win1 t] at hr
    blk_ext [iblk1, win1 t]
    show t.val * 2048 + (y 0).val = r.val
    omega
  · refine (ld_row0 _ k).trans ?_
    blk_ext [iblk1, win1 t]
  · refine (ld_row1 _ k).trans ?_
    blk_ext [iblk1, win1 t]
  all_goals blk_ext [iblk1, win1 t]

end Refine
-- ==== Proof.Level1.lean ====
module

public import proofs.«01_k».proof.Proof.Step
public import proofs.«01_k».proof.Proof.Region1
public import Idealize.ShloMosaic.Lib.StableHlo.RunRead

/-
  Level 1 of the kernel, read off its operations: one refinement step.
-/

@[expose] public section

set_option maxRecDepth 16384

noncomputable section

namespace Refine.L1

open Idealize.ShloMosaic hiding ix0 ix1 ix2 ix3 ix4
open Idealize.ShloMosaic.TcCoe Idealize.ShloMosaic.ValueIdx Idealize.ShloMosaic.StableHlo
open Cert.KernelIdeal Cert.KernelIdeal.Gen

/-- The step's side conditions hold at this level's sizes. -/
theorem ev : KEv 129 257 66049 16384 where
  b0 := bcast_S_S257
  col := bcast_S257_S257x1_0
  row := bcast_S257_S1x257_1
  b0c := bcast_S_S257x1
  b0r := bcast_S_S1x257
  wide := bcast_S257x1_S257x129_0_1
  tall := bcast_S1x257_S257x257_0_1
  grow := gather_S129x129_S257x1_S257x129_1_0_n_n_0_1_1129_wf
  gcol := gather_S257x129_S257x1_S257x257_0_1_n_n_1_1_2571_wf
  flat := shapeCasts_S257x257_S66049
  b0N := bcast_S_S66049
  top := sliceFits_S66049_S16384
  b0P := bcast_S_S16384
  colP := bcast_S16384_S16384x1_0
  cat := concatenates_S16384x1_S16384x1_S16384x2_d1
  pad := pads_S16384x2_S16384x2_000_000
  one := h_S_
  put := scatter_S66049_S16384x1_S16384_n_0_0_1_wf
  grid := shapeCasts_S66049_S257x257

/-- The positions' side conditions. -/
theorem lev : LEv 256 257 := ⟨bcast_S_S256, shapeCasts_S_S1, bcast_S1_S256_0, bcast_S_S1, concatenates_S256_S1_S257_d0⟩

attribute [local congr] cat_congr

section Reads
variable {F : FTy → Type} [FloatOps F] (V : Valuation τ sig (Elt F))

/-- This level's sample positions. -/
def pos : FVec F (s1 257) .f32 := lin lev 0x43800000#32 (constant s0 .f32 0x00000000#32) (constant s0 .f32 0x43000000#32)

/-- The upsampled grid, flat. -/
theorem up_read : after hostOps1_8 (after hostOps1_7 (after hostOps1_6 (after hostOps1_5 (after hostOps1_4 V)))) main_v78
    = shapeCast (s1 66049) (kUp ev (V main_v17) (V main_v18) (V main_v19)) ev.flat := by
  after_reads_simp
  rfl

/-- The chosen points. -/
theorem idx_read : after hostOps1_8 (after hostOps1_7 (after hostOps1_6 (after hostOps1_5 (after hostOps1_4 V)))) main_indices = kIdx ev (kUp ev (V main_v17) (V main_v18) (V main_v19)) := by
  after_reads_simp
  rfl

/-- The number of columns, as a word. -/
theorem width_read : after hostOps1_8 V main_c_21 = constantI s0 32 257#32 := by
  after_reads_simp

/-- The row positions. -/
theorem ys_read : after hostOps1_1 (after hostOps1 V) main_v18 = pos := by
  after_reads_simp
  rfl

/-- The column positions. -/
theorem xs_read : after hostOps1_3 (after hostOps1_2 V) main_v19 = pos := by
  after_reads_simp
  rfl

/-- The chosen points' column coordinates. -/
theorem px_read (hn : V main_c_21 = constantI s0 32 257#32) : after hostOps1_10 (after hostOps1_9 V) main_v86
    = mulf (sitofp .f32 (modn (s1 16384) ev.b0P 257 (V main_indices))) (broadcastInDim (s1 16384) ![] ev.b0P (constant s0 .f32 0x41000000#32)) := by
  after_reads_simp
  rw [hn]
  rfl

/-- The chosen points' row numbers. -/
theorem py_read : after hostOps1_11 (after hostOps1_10 V) main_v87 = divn (s1 16384) ev.b0P 257 (V main_indices) := by
  after_reads_simp
  rfl

/-- The chosen points. -/
theorem pts_read (k : IVec (s1 16384) 32)
    (hx : V main_v86 = mulf (sitofp .f32 (modn (s1 16384) ev.b0P 257 k)) (broadcastInDim (s1 16384) ![] ev.b0P (constant s0 .f32 0x41000000#32)))
    (hy : V main_v87 = divn (s1 16384) ev.b0P 257 k) :
    after hostOps1_14 (after hostOps1_13 (after hostOps1_12 V)) main_v94 = kPts ev 0x41000000#32 k := by
  after_reads_simp
  rw [hx, hy]
  rfl

/-- The weights' rows. -/
theorem w_read : after hostOps1_14 V main_v95 = shapeCast (s2 1 64) (V main_arg1) wev.b1
    ∧ after hostOps1_14 V main_v96 = shapeCast (s2 1 64) (V main_arg2) wev.w2
    ∧ after hostOps1_14 V main_v97 = shapeCast (s2 1 1) (V main_arg3) wev.b2 := by
  refine ⟨?_, ?_, ?_⟩ <;>
  · after_reads_simp
    rfl

/-- The refined grid. -/
theorem put_read (u : FVec F (s2 257 257) .f32) (hu : V main_v78 = shapeCast (s1 66049) u ev.flat) :
    after hostOps2 V main_v106 = kPut ev u (V main_indices) (V main_v98) := by
  after_reads_simp
  rw [hu]
  rfl

end Reads

variable (m : (ℓ : Loc nD τ sig) → Buf (Elt Ideal) ℓ) (ρ : Dev nD → PrngReg) (c : Dev nD)

/-- The whole level: one refinement step from the grid it starts with. -/
theorem level : W21 m ρ c main_v106 = kStep ev wev 0x41000000#32 (pos (F := Ideal))
    (m ((c : Thread nD τ).loc main_arg0)) (m ((c : Thread nD τ).loc main_arg1)) (m ((c : Thread nD τ).loc main_arg2))
    (m ((c : Thread nD τ).loc main_arg3)) (W5 m ρ c main_v17) :=
  kStep_of ev wev 0x41000000#32 ((W8_of m ρ c main_v17 (by decide)).trans ((W7_of m ρ c main_v17 (by decide)).trans ((W6_of m ρ c main_v17 (by decide)))))
    (((W8_of m ρ c main_v18 (by decide)).trans ((W7_of m ρ c main_v18 (by decide)))).trans (ys_read (W4 m ρ c)))
    (xs_read (W6 m ρ c)) (up_read (W8 m ρ c)) (idx_read (W8 m ρ c))
    (pts_read (W16 m ρ c) _ (((W16_of m ρ c main_v86 (by decide))).trans (px_read (W13 m ρ c) (width_read (W12 m ρ c))))
      ((py_read (W14 m ρ c)).trans (congrArg (divn (s1 16384) ev.b0P 257) ((W14_of m ρ c main_indices (by decide))))))
    (kMlp_of wev ((W20_arr m ρ c 5).trans (reg1 (V19 m ρ) c)) (w_read (W18 m ρ c))
      (W19_args m ρ c main_arg0 (by decide)) (W18_args m ρ c main_arg1 (by decide))
      (W18_args m ρ c main_arg2 (by decide)) (W18_args m ρ c main_arg3 (by decide)))
    ((W20_of_ne m ρ c main_v78 (by decide)).trans ((W19_of m ρ c main_v78 (by decide)).trans ((W18_of m ρ c main_v78 (by decide)).trans ((W17_of m ρ c main_v78 (by decide)).trans ((W16_of m ρ c main_v78 (by decide)).trans ((W15_of m ρ c main_v78 (by decide)).trans ((W14_of m ρ c main_v78 (by decide)))))))))
    ((W20_of_ne m ρ c main_indices (by decide)).trans ((W19_of m ρ c main_indices (by decide)).trans ((W18_of m ρ c main_indices (by decide)).trans ((W17_of m ρ c main_indices (by decide)).trans ((W16_of m ρ c main_indices (by decide)).trans ((W15_of m ρ c main_indices (by decide)).trans ((W14_of m ρ c main_indices (by decide)))))))))
    (put_read (W20 m ρ c))

end Refine.L1
-- ==== Proof.Region2.lean ====
module

public import proofs.«01_k».proof.Proof.Regions

/-
  Launch 2: its result array holds the network's value at every point it was given.
-/

@[expose] public section

set_option maxRecDepth 16384

noncomputable section

namespace Refine

open Idealize.ShloMosaic hiding ix0 ix1 ix2 ix3 ix4
open Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The blocks each step of the launch looks at: the step's own points and results, the weights whole. -/
theorem win2 : ∀ t : Fin cfg2.N, win2_0.index t = ![t.val, 0] ∧ win2_1.index t = ![0, 0] ∧ win2_2.index t = ![0, 0]
    ∧ win2_3.index t = ![0, 0] ∧ win2_4.index t = ![0, 0] ∧ win2_5.index t = ![t.val] := by decide +kernel

set_option maxHeartbeats 2000000 in
/-- After the last step the result array is the network's values at the launch's points. -/
theorem reg2 (c : Dev nD) : (dat2 V c).arrAt 5 cfg2.N
    = mlpAt (n := 32768) (V c main_v183) (V c main_arg0) (V c main_v184) (V c main_v185) (V c main_v186) := by
  refine (dat2 V c).arrAt_eq_of_covers 5 _ (by decide +kernel) fun t hf y => ?_
  blk_simp
  rw [after2_5]
  frame_out
  refine pay_block _ _ _ _ _ _ _ _ _ _ _ _ _ (fun r hr o => ?_) (fun k => ?_) (fun k => ?_) (fun k => ?_) (fun k => ?_) ?_
  · blk_simp [win2 t] at hr
    blk_ext [iblk2, win2 t]
    show t.val * 2048 + (y 0).val = r.val
    omega
  · refine (ld_row0 _ k).trans ?_
    blk_ext [iblk2, win2 t]
  · refine (ld_row1 _ k).trans ?_
    blk_ext [iblk2, win2 t]
  all_goals blk_ext [iblk2, win2 t]

end Refine
-- ==== Proof.Level2.lean ====
module

public import proofs.«01_k».proof.Proof.Step
public import proofs.«01_k».proof.Proof.Region2
public import Idealize.ShloMosaic.Lib.StableHlo.RunRead

/-
  Level 2 of the kernel, read off its operations: one refinement step.
-/

@[expose] public section

set_option maxRecDepth 16384

noncomputable section

namespace Refine.L2

open Idealize.ShloMosaic hiding ix0 ix1 ix2 ix3 ix4
open Idealize.ShloMosaic.TcCoe Idealize.ShloMosaic.ValueIdx Idealize.ShloMosaic.StableHlo
open Cert.KernelIdeal Cert.KernelIdeal.Gen

/-- The step's side conditions hold at this level's sizes. -/
theorem ev : KEv 257 513 263169 32768 where
  b0 := bcast_S_S513
  col := bcast_S513_S513x1_0
  row := bcast_S513_S1x513_1
  b0c := bcast_S_S513x1
  b0r := bcast_S_S1x513
  wide := bcast_S513x1_S513x257_0_1
  tall := bcast_S1x513_S513x513_0_1
  grow := gather_S257x257_S513x1_S513x257_1_0_n_n_0_1_1257_wf
  gcol := gather_S513x257_S513x1_S513x513_0_1_n_n_1_1_5131_wf
  flat := shapeCasts_S513x513_S263169
  b0N := bcast_S_S263169
  top := sliceFits_S263169_S32768
  b0P := bcast_S_S32768
  colP := bcast_S32768_S32768x1_0
  cat := concatenates_S32768x1_S32768x1_S32768x2_d1
  pad := pads_S32768x2_S32768x2_000_000
  one := h_S_
  put := scatter_S263169_S32768x1_S32768_n_0_0_1_wf
  grid := shapeCasts_S263169_S513x513

/-- The positions' side conditions. -/
theorem lev : LEv 512 513 := ⟨bcast_S_S512, shapeCasts_S_S1, bcast_S1_S512_0, bcast_S_S1, concatenates_S512_S1_S513_d0⟩

attribute [local congr] cat_congr

section Reads
variable {F : FTy → Type} [FloatOps F] (V : Valuation τ sig (Elt F))

/-- This level's sample positions. -/
def pos : FVec F (s1 513) .f32 := lin lev 0x44000000#32 (constant s0 .f32 0x00000000#32) (constant s0 .f32 0x43800000#32)

/-- The upsampled grid, flat. -/
theorem up_read : after hostOps2_8 (after hostOps2_7 (after hostOps2_6 (after hostOps2_5 (after hostOps2_4 V)))) main_v167
    = shapeCast (s1 263169) (kUp ev (V main_v106) (V main_v107) (V main_v108)) ev.flat := by
  after_reads_simp
  rfl

/-- The chosen points. -/
theorem idx_read : after hostOps2_8 (after hostOps2_7 (after hostOps2_6 (after hostOps2_5 (after hostOps2_4 V)))) main_indices_50 = kIdx ev (kUp ev (V main_v106) (V main_v107) (V main_v108)) := by
  after_reads_simp
  rfl

/-- The number of columns, as a word. -/
theorem width_read : after hostOps2_8 V main_c_51 = constantI s0 32 513#32 := by
  after_reads_simp

/-- The row positions. -/
theorem ys_read : after hostOps2_1 (after hostOps2 V) main_v107 = pos := by
  after_reads_simp
  rfl

/-- The column positions. -/
theorem xs_read : after hostOps2_3 (after hostOps2_2 V) main_v108 = pos := by
  after_reads_simp
  rfl

/-- The chosen points' column coordinates. -/
theorem px_read (hn : V main_c_51 = constantI s0 32 513#32) : after hostOps2_10 (after hostOps2_9 V) main_v175
    = mulf (sitofp .f32 (modn (s1 32768) ev.b0P 513 (V main_indices_50))) (broadcastInDim (s1 32768) ![] ev.b0P (constant s0 .f32 0x40800000#32)) := by
  after_reads_simp
  rw [hn]
  rfl

/-- The chosen points' row numbers. -/
theorem py_read : after hostOps2_11 (after hostOps2_10 V) main_v176 = divn (s1 32768) ev.b0P 513 (V main_indices_50) := by
  after_reads_simp
  rfl

/-- The chosen points. -/
theorem pts_read (k : IVec (s1 32768) 32)
    (hx : V main_v175 = mulf (sitofp .f32 (modn (s1 32768) ev.b0P 513 k)) (broadcastInDim (s1 32768) ![] ev.b0P (constant s0 .f32 0x40800000#32)))
    (hy : V main_v176 = divn (s1 32768) ev.b0P 513 k) :
    after hostOps2_14 (after hostOps2_13 (after hostOps2_12 V)) main_v183 = kPts ev 0x40800000#32 k := by
  after_reads_simp
  rw [hx, hy]
  rfl

/-- The weights' rows. -/
theorem w_read : after hostOps2_14 V main_v184 = shapeCast (s2 1 64) (V main_arg1) wev.b1
    ∧ after hostOps2_14 V main_v185 = shapeCast (s2 1 64) (V main_arg2) wev.w2
    ∧ after hostOps2_14 V main_v186 = shapeCast (s2 1 1) (V main_arg3) wev.b2 := by
  refine ⟨?_, ?_, ?_⟩ <;>
  · after_reads_simp
    rfl

/-- The refined grid. -/
theorem put_read (u : FVec F (s2 513 513) .f32) (hu : V main_v167 = shapeCast (s1 263169) u ev.flat) :
    after hostOps3 V main_v195 = kPut ev u (V main_indices_50) (V main_v187) := by
  after_reads_simp
  rw [hu]
  rfl

end Reads

variable (m : (ℓ : Loc nD τ sig) → Buf (Elt Ideal) ℓ) (ρ : Dev nD → PrngReg) (c : Dev nD)

/-- The whole level: one refinement step from the grid it starts with. -/
theorem level : W37 m ρ c main_v195 = kStep ev wev 0x40800000#32 (pos (F := Ideal))
    (m ((c : Thread nD τ).loc main_arg0)) (m ((c : Thread nD τ).loc main_arg1)) (m ((c : Thread nD τ).loc main_arg2))
    (m ((c : Thread nD τ).loc main_arg3)) (W21 m ρ c main_v106) :=
  kStep_of ev wev 0x40800000#32 ((W24_of m ρ c main_v106 (by decide)).trans ((W23_of m ρ c main_v106 (by decide)).trans ((W22_of m ρ c main_v106 (by decide)))))
    (((W24_of m ρ c main_v107 (by decide)).trans ((W23_of m ρ c main_v107 (by decide)))).trans (ys_read (W20 m ρ c)))
    (xs_read (W22 m ρ c)) (up_read (W24 m ρ c)) (idx_read (W24 m ρ c))
    (pts_read (W32 m ρ c) _ (((W32_of m ρ c main_v175 (by decide))).trans (px_read (W29 m ρ c) (width_read (W28 m ρ c))))
      ((py_read (W30 m ρ c)).trans (congrArg (divn (s1 32768) ev.b0P 513) ((W30_of m ρ c main_indices_50 (by decide))))))
    (kMlp_of wev ((W36_arr m ρ c 5).trans (reg2 (V35 m ρ) c)) (w_read (W34 m ρ c))
      (W35_args m ρ c main_arg0 (by decide)) (W34_args m ρ c main_arg1 (by decide))
      (W34_args m ρ c main_arg2 (by decide)) (W34_args m ρ c main_arg3 (by decide)))
    ((W36_of_ne m ρ c main_v167 (by decide)).trans ((W35_of m ρ c main_v167 (by decide)).trans ((W34_of m ρ c main_v167 (by decide)).trans ((W33_of m ρ c main_v167 (by decide)).trans ((W32_of m ρ c main_v167 (by decide)).trans ((W31_of m ρ c main_v167 (by decide)).trans ((W30_of m ρ c main_v167 (by decide)))))))))
    ((W36_of_ne m ρ c main_indices_50 (by decide)).trans ((W35_of m ρ c main_indices_50 (by decide)).trans ((W34_of m ρ c main_indices_50 (by decide)).trans ((W33_of m ρ c main_indices_50 (by decide)).trans ((W32_of m ρ c main_indices_50 (by decide)).trans ((W31_of m ρ c main_indices_50 (by decide)).trans ((W30_of m ρ c main_indices_50 (by decide)))))))))
    (put_read (W36 m ρ c))

end Refine.L2
-- ==== Proof.Region3.lean ====
module

public import proofs.«01_k».proof.Proof.Regions

/-
  Launch 3: its result array holds the network's value at every point it was given.
-/

@[expose] public section

set_option maxRecDepth 16384

noncomputable section

namespace Refine

open Idealize.ShloMosaic hiding ix0 ix1 ix2 ix3 ix4
open Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The blocks each step of the launch looks at: the step's own points and results, the weights whole. -/
theorem win3 : ∀ t : Fin cfg3.N, win3_0.index t = ![t.val, 0] ∧ win3_1.index t = ![0, 0] ∧ win3_2.index t = ![0, 0]
    ∧ win3_3.index t = ![0, 0] ∧ win3_4.index t = ![0, 0] ∧ win3_5.index t = ![t.val] := by decide +kernel

set_option maxHeartbeats 2000000 in
/-- After the last step the result array is the network's values at the launch's points. -/
theorem reg3 (c : Dev nD) : (dat3 V c).arrAt 5 cfg3.N
    = mlpAt (n := 65536) (V c main_v272) (V c main_arg0) (V c main_v273) (V c main_v274) (V c main_v275) := by
  refine (dat3 V c).arrAt_eq_of_covers 5 _ (by decide +kernel) fun t hf y => ?_
  blk_simp
  rw [after3_5]
  frame_out
  refine pay_block _ _ _ _ _ _ _ _ _ _ _ _ _ (fun r hr o => ?_) (fun k => ?_) (fun k => ?_) (fun k => ?_) (fun k => ?_) ?_
  · blk_simp [win3 t] at hr
    blk_ext [iblk3, win3 t]
    show t.val * 2048 + (y 0).val = r.val
    omega
  · refine (ld_row0 _ k).trans ?_
    blk_ext [iblk3, win3 t]
  · refine (ld_row1 _ k).trans ?_
    blk_ext [iblk3, win3 t]
  all_goals blk_ext [iblk3, win3 t]

end Refine
-- ==== Proof.Level3.lean ====
module

public import proofs.«01_k».proof.Proof.Step
public import proofs.«01_k».proof.Proof.Region3
public import Idealize.ShloMosaic.Lib.StableHlo.RunRead

/-
  Level 3 of the kernel, read off its operations: one refinement step.
-/

@[expose] public section

set_option maxRecDepth 16384

noncomputable section

namespace Refine.L3

open Idealize.ShloMosaic hiding ix0 ix1 ix2 ix3 ix4
open Idealize.ShloMosaic.TcCoe Idealize.ShloMosaic.ValueIdx Idealize.ShloMosaic.StableHlo
open Cert.KernelIdeal Cert.KernelIdeal.Gen

/-- The step's side conditions hold at this level's sizes. -/
theorem ev : KEv 513 1025 1050625 65536 where
  b0 := bcast_S_S1025
  col := bcast_S1025_S1025x1_0
  row := bcast_S1025_S1x1025_1
  b0c := bcast_S_S1025x1
  b0r := bcast_S_S1x1025
  wide := bcast_S1025x1_S1025x513_0_1
  tall := bcast_S1x1025_S1025x1025_0_1
  grow := gather_S513x513_S1025x1_S1025x513_1_0_n_n_0_1_1513_wf
  gcol := gather_S1025x513_S1025x1_S1025x1025_0_1_n_n_1_1_10251_wf
  flat := shapeCasts_S1025x1025_S1050625
  b0N := bcast_S_S1050625
  top := sliceFits_S1050625_S65536
  b0P := bcast_S_S65536
  colP := bcast_S65536_S65536x1_0
  cat := concatenates_S65536x1_S65536x1_S65536x2_d1
  pad := pads_S65536x2_S65536x2_000_000
  one := h_S_
  put := scatter_S1050625_S65536x1_S65536_n_0_0_1_wf
  grid := shapeCasts_S1050625_S1025x1025

/-- The positions' side conditions. -/
theorem lev : LEv 1024 1025 := ⟨bcast_S_S1024, shapeCasts_S_S1, bcast_S1_S1024_0, bcast_S_S1, concatenates_S1024_S1_S1025_d0⟩

attribute [local congr] cat_congr

section Reads
variable {F : FTy → Type} [FloatOps F] (V : Valuation τ sig (Elt F))

/-- This level's sample positions. -/
def pos : FVec F (s1 1025) .f32 := lin lev 0x44800000#32 (constant s0 .f32 0x00000000#32) (constant s0 .f32 0x44000000#32)

/-- The upsampled grid, flat. -/
theorem up_read : after hostOps3_8 (after hostOps3_7 (after hostOps3_6 (after hostOps3_5 (after hostOps3_4 V)))) main_v256
    = shapeCast (s1 1050625) (kUp ev (V main_v195) (V main_v196) (V main_v197)) ev.flat := by
  after_reads_simp
  rfl

/-- The chosen points. -/
theorem idx_read : after hostOps3_8 (after hostOps3_7 (after hostOps3_6 (after hostOps3_5 (after hostOps3_4 V)))) main_indices_80 = kIdx ev (kUp ev (V main_v195) (V main_v196) (V main_v197)) := by
  after_reads_simp
  rfl

/-- The number of columns, as a word. -/
theorem width_read : after hostOps3_8 V main_c_81 = constantI s0 32 1025#32 := by
  after_reads_simp

/-- The row positions. -/
theorem ys_read : after hostOps3_1 (after hostOps3 V) main_v196 = pos := by
  after_reads_simp
  rfl

/-- The column positions. -/
theorem xs_read : after hostOps3_3 (after hostOps3_2 V) main_v197 = pos := by
  after_reads_simp
  rfl

/-- The chosen points' column coordinates. -/
theorem px_read (hn : V main_c_81 = constantI s0 32 1025#32) : after hostOps3_10 (after hostOps3_9 V) main_v264
    = mulf (sitofp .f32 (modn (s1 65536) ev.b0P 1025 (V main_indices_80))) (broadcastInDim (s1 65536) ![] ev.b0P (constant s0 .f32 0x40000000#32)) := by
  after_reads_simp
  rw [hn]
  rfl

/-- The chosen points' row numbers. -/
theorem py_read : after hostOps3_11 (after hostOps3_10 V) main_v265 = divn (s1 65536) ev.b0P 1025 (V main_indices_80) := by
  after_reads_simp
  rfl

/-- The chosen points. -/
theorem pts_read (k : IVec (s1 65536) 32)
    (hx : V main_v264 = mulf (sitofp .f32 (modn (s1 65536) ev.b0P 1025 k)) (broadcastInDim (s1 65536) ![] ev.b0P (constant s0 .f32 0x40000000#32)))
    (hy : V main_v265 = divn (s1 65536) ev.b0P 1025 k) :
    after hostOps3_14 (after hostOps3_13 (after hostOps3_12 V)) main_v272 = kPts ev 0x40000000#32 k := by
  after_reads_simp
  rw [hx, hy]
  rfl

/-- The weights' rows. -/
theorem w_read : after hostOps3_14 V main_v273 = shapeCast (s2 1 64) (V main_arg1) wev.b1
    ∧ after hostOps3_14 V main_v274 = shapeCast (s2 1 64) (V main_arg2) wev.w2
    ∧ after hostOps3_14 V main_v275 = shapeCast (s2 1 1) (V main_arg3) wev.b2 := by
  refine ⟨?_, ?_, ?_⟩ <;>
  · after_reads_simp
    rfl

/-- The refined grid. -/
theorem put_read (u : FVec F (s2 1025 1025) .f32) (hu : V main_v256 = shapeCast (s1 1050625) u ev.flat) :
    after hostOps4 V main_v284 = kPut ev u (V main_indices_80) (V main_v276) := by
  after_reads_simp
  rw [hu]
  rfl

end Reads

variable (m : (ℓ : Loc nD τ sig) → Buf (Elt Ideal) ℓ) (ρ : Dev nD → PrngReg) (c : Dev nD)

/-- The whole level: one refinement step from the grid it starts with. -/
theorem level : W53 m ρ c main_v284 = kStep ev wev 0x40000000#32 (pos (F := Ideal))
    (m ((c : Thread nD τ).loc main_arg0)) (m ((c : Thread nD τ).loc main_arg1)) (m ((c : Thread nD τ).loc main_arg2))
    (m ((c : Thread nD τ).loc main_arg3)) (W37 m ρ c main_v195) :=
  kStep_of ev wev 0x40000000#32 ((W40_of m ρ c main_v195 (by decide)).trans ((W39_of m ρ c main_v195 (by decide)).trans ((W38_of m ρ c main_v195 (by decide)))))
    (((W40_of m ρ c main_v196 (by decide)).trans ((W39_of m ρ c main_v196 (by decide)))).trans (ys_read (W36 m ρ c)))
    (xs_read (W38 m ρ c)) (up_read (W40 m ρ c)) (idx_read (W40 m ρ c))
    (pts_read (W48 m ρ c) _ (((W48_of m ρ c main_v264 (by decide))).trans (px_read (W45 m ρ c) (width_read (W44 m ρ c))))
      ((py_read (W46 m ρ c)).trans (congrArg (divn (s1 65536) ev.b0P 1025) ((W46_of m ρ c main_indices_80 (by decide))))))
    (kMlp_of wev ((W52_arr m ρ c 5).trans (reg3 (V51 m ρ) c)) (w_read (W50 m ρ c))
      (W51_args m ρ c main_arg0 (by decide)) (W50_args m ρ c main_arg1 (by decide))
      (W50_args m ρ c main_arg2 (by decide)) (W50_args m ρ c main_arg3 (by decide)))
    ((W52_of_ne m ρ c main_v256 (by decide)).trans ((W51_of m ρ c main_v256 (by decide)).trans ((W50_of m ρ c main_v256 (by decide)).trans ((W49_of m ρ c main_v256 (by decide)).trans ((W48_of m ρ c main_v256 (by decide)).trans ((W47_of m ρ c main_v256 (by decide)).trans ((W46_of m ρ c main_v256 (by decide)))))))))
    ((W52_of_ne m ρ c main_indices_80 (by decide)).trans ((W51_of m ρ c main_indices_80 (by decide)).trans ((W50_of m ρ c main_indices_80 (by decide)).trans ((W49_of m ρ c main_indices_80 (by decide)).trans ((W48_of m ρ c main_indices_80 (by decide)).trans ((W47_of m ρ c main_indices_80 (by decide)).trans ((W46_of m ρ c main_indices_80 (by decide)))))))))
    (put_read (W52 m ρ c))

end Refine.L3
-- ==== Proof.Region4.lean ====
module

public import proofs.«01_k».proof.Proof.Regions

/-
  Launch 4: its result array holds the network's value at every point it was given.
-/

@[expose] public section

set_option maxRecDepth 16384

noncomputable section

namespace Refine

open Idealize.ShloMosaic hiding ix0 ix1 ix2 ix3 ix4
open Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The blocks each step of the launch looks at: the step's own points and results, the weights whole. -/
theorem win4 : ∀ t : Fin cfg4.N, win4_0.index t = ![t.val, 0] ∧ win4_1.index t = ![0, 0] ∧ win4_2.index t = ![0, 0]
    ∧ win4_3.index t = ![0, 0] ∧ win4_4.index t = ![0, 0] ∧ win4_5.index t = ![t.val] := by decide +kernel

set_option maxHeartbeats 2000000 in
/-- After the last step the result array is the network's values at the launch's points. -/
theorem reg4 (c : Dev nD) : (dat4 V c).arrAt 5 cfg4.N
    = mlpAt (n := 131072) (V c main_v361) (V c main_arg0) (V c main_v362) (V c main_v363) (V c main_v364) := by
  refine (dat4 V c).arrAt_eq_of_covers 5 _ (by decide +kernel) fun t hf y => ?_
  blk_simp
  rw [after4_5]
  frame_out
  refine pay_block _ _ _ _ _ _ _ _ _ _ _ _ _ (fun r hr o => ?_) (fun k => ?_) (fun k => ?_) (fun k => ?_) (fun k => ?_) ?_
  · blk_simp [win4 t] at hr
    blk_ext [iblk4, win4 t]
    show t.val * 2048 + (y 0).val = r.val
    omega
  · refine (ld_row0 _ k).trans ?_
    blk_ext [iblk4, win4 t]
  · refine (ld_row1 _ k).trans ?_
    blk_ext [iblk4, win4 t]
  all_goals blk_ext [iblk4, win4 t]

end Refine
-- ==== Proof.Level4.lean ====
module

public import proofs.«01_k».proof.Proof.Step
public import proofs.«01_k».proof.Proof.Region4
public import Idealize.ShloMosaic.Lib.StableHlo.RunRead

/-
  Level 4 of the kernel, read off its operations: one refinement step.
-/

@[expose] public section

set_option maxRecDepth 16384

noncomputable section

namespace Refine.L4

open Idealize.ShloMosaic hiding ix0 ix1 ix2 ix3 ix4
open Idealize.ShloMosaic.TcCoe Idealize.ShloMosaic.ValueIdx Idealize.ShloMosaic.StableHlo
open Cert.KernelIdeal Cert.KernelIdeal.Gen

/-- The step's side conditions hold at this level's sizes. -/
theorem ev : KEv 1025 2049 4198401 131072 where
  b0 := bcast_S_S2049
  col := bcast_S2049_S2049x1_0
  row := bcast_S2049_S1x2049_1
  b0c := bcast_S_S2049x1
  b0r := bcast_S_S1x2049
  wide := bcast_S2049x1_S2049x1025_0_1
  tall := bcast_S1x2049_S2049x2049_0_1
  grow := gather_S1025x1025_S2049x1_S2049x1025_1_0_n_n_0_1_11025_wf
  gcol := gather_S2049x1025_S2049x1_S2049x2049_0_1_n_n_1_1_20491_wf
  flat := shapeCasts_S2049x2049_S4198401
  b0N := bcast_S_S4198401
  top := sliceFits_S4198401_S131072
  b0P := bcast_S_S131072
  colP := bcast_S131072_S131072x1_0
  cat := concatenates_S131072x1_S131072x1_S131072x2_d1
  pad := pads_S131072x2_S131072x2_000_000
  one := h_S_
  put := scatter_S4198401_S131072x1_S131072_n_0_0_1_wf
  grid := shapeCasts_S4198401_S2049x2049

/-- The positions' side conditions. -/
theorem lev : LEv 2048 2049 := ⟨bcast_S_S2048, shapeCasts_S_S1, bcast_S1_S2048_0, bcast_S_S1, concatenates_S2048_S1_S2049_d0⟩

attribute [local congr] cat_congr

section Reads
variable {F : FTy → Type} [FloatOps F] (V : Valuation τ sig (Elt F))

/-- This level's sample positions. -/
def pos : FVec F (s1 2049) .f32 := lin lev 0x45000000#32 (constant s0 .f32 0x00000000#32) (constant s0 .f32 0x44800000#32)

/-- The upsampled grid, flat. -/
theorem up_read : after hostOps4_8 (after hostOps4_7 (after hostOps4_6 (after hostOps4_5 (after hostOps4_4 V)))) main_v345
    = shapeCast (s1 4198401) (kUp ev (V main_v284) (V main_v285) (V main_v286)) ev.flat := by
  after_reads_simp
  rfl

/-- The chosen points. -/
theorem idx_read : after hostOps4_8 (after hostOps4_7 (after hostOps4_6 (after hostOps4_5 (after hostOps4_4 V)))) main_indices_110 = kIdx ev (kUp ev (V main_v284) (V main_v285) (V main_v286)) := by
  after_reads_simp
  rfl

/-- The number of columns, as a word. -/
theorem width_read : after hostOps4_8 V main_c_111 = constantI s0 32 2049#32 := by
  after_reads_simp

/-- The row positions. -/
theorem ys_read : after hostOps4_1 (after hostOps4 V) main_v285 = pos := by
  after_reads_simp
  rfl

/-- The column positions. -/
theorem xs_read : after hostOps4_3 (after hostOps4_2 V) main_v286 = pos := by
  after_reads_simp
  rfl

/-- The chosen points' column coordinates. -/
theorem px_read (hn : V main_c_111 = constantI s0 32 2049#32) : after hostOps4_10 (after hostOps4_9 V) main_v353
    = mulf (sitofp .f32 (modn (s1 131072) ev.b0P 2049 (V main_indices_110))) (broadcastInDim (s1 131072) ![] ev.b0P (constant s0 .f32 0x3F800000#32)) := by
  after_reads_simp
  rw [hn]
  rfl

/-- The chosen points' row numbers. -/
theorem py_read : after hostOps4_11 (after hostOps4_10 V) main_v354 = divn (s1 131072) ev.b0P 2049 (V main_indices_110) := by
  after_reads_simp
  rfl

/-- The chosen points. -/
theorem pts_read (k : IVec (s1 131072) 32)
    (hx : V main_v353 = mulf (sitofp .f32 (modn (s1 131072) ev.b0P 2049 k)) (broadcastInDim (s1 131072) ![] ev.b0P (constant s0 .f32 0x3F800000#32)))
    (hy : V main_v354 = divn (s1 131072) ev.b0P 2049 k) :
    after hostOps4_14 (after hostOps4_13 (after hostOps4_12 V)) main_v361 = kPts ev 0x3F800000#32 k := by
  after_reads_simp
  rw [hx, hy]
  rfl

/-- The weights' rows. -/
theorem w_read : after hostOps4_14 V main_v362 = shapeCast (s2 1 64) (V main_arg1) wev.b1
    ∧ after hostOps4_14 V main_v363 = shapeCast (s2 1 64) (V main_arg2) wev.w2
    ∧ after hostOps4_14 V main_v364 = shapeCast (s2 1 1) (V main_arg3) wev.b2 := by
  refine ⟨?_, ?_, ?_⟩ <;>
  · after_reads_simp
    rfl

/-- The refined grid. -/
theorem put_read (u : FVec F (s2 2049 2049) .f32) (hu : V main_v345 = shapeCast (s1 4198401) u ev.flat) :
    after hostOps5 V main_v373 = kPut ev u (V main_indices_110) (V main_v365) := by
  after_reads_simp
  rw [hu]
  rfl

end Reads

variable (m : (ℓ : Loc nD τ sig) → Buf (Elt Ideal) ℓ) (ρ : Dev nD → PrngReg) (c : Dev nD)

/-- The whole level: one refinement step from the grid it starts with. -/
theorem level : W69 m ρ c main_v373 = kStep ev wev 0x3F800000#32 (pos (F := Ideal))
    (m ((c : Thread nD τ).loc main_arg0)) (m ((c : Thread nD τ).loc main_arg1)) (m ((c : Thread nD τ).loc main_arg2))
    (m ((c : Thread nD τ).loc main_arg3)) (W53 m ρ c main_v284) :=
  kStep_of ev wev 0x3F800000#32 ((W56_of m ρ c main_v284 (by decide)).trans ((W55_of m ρ c main_v284 (by decide)).trans ((W54_of m ρ c main_v284 (by decide)))))
    (((W56_of m ρ c main_v285 (by decide)).trans ((W55_of m ρ c main_v285 (by decide)))).trans (ys_read (W52 m ρ c)))
    (xs_read (W54 m ρ c)) (up_read (W56 m ρ c)) (idx_read (W56 m ρ c))
    (pts_read (W64 m ρ c) _ (((W64_of m ρ c main_v353 (by decide))).trans (px_read (W61 m ρ c) (width_read (W60 m ρ c))))
      ((py_read (W62 m ρ c)).trans (congrArg (divn (s1 131072) ev.b0P 2049) ((W62_of m ρ c main_indices_110 (by decide))))))
    (kMlp_of wev ((W68_arr m ρ c 5).trans (reg4 (V67 m ρ) c)) (w_read (W66 m ρ c))
      (W67_args m ρ c main_arg0 (by decide)) (W66_args m ρ c main_arg1 (by decide))
      (W66_args m ρ c main_arg2 (by decide)) (W66_args m ρ c main_arg3 (by decide)))
    ((W68_of_ne m ρ c main_v345 (by decide)).trans ((W67_of m ρ c main_v345 (by decide)).trans ((W66_of m ρ c main_v345 (by decide)).trans ((W65_of m ρ c main_v345 (by decide)).trans ((W64_of m ρ c main_v345 (by decide)).trans ((W63_of m ρ c main_v345 (by decide)).trans ((W62_of m ρ c main_v345 (by decide)))))))))
    ((W68_of_ne m ρ c main_indices_110 (by decide)).trans ((W67_of m ρ c main_indices_110 (by decide)).trans ((W66_of m ρ c main_indices_110 (by decide)).trans ((W65_of m ρ c main_indices_110 (by decide)).trans ((W64_of m ρ c main_indices_110 (by decide)).trans ((W63_of m ρ c main_indices_110 (by decide)).trans ((W62_of m ρ c main_indices_110 (by decide)))))))))
    (put_read (W68 m ρ c))

end Refine.L4
-- ==== Proof.RefLevel1.lean ====
module

public import proofs.«01_k».proof.Proof.Step
public import proofs.«01_k».proof.Proof.Gen.ReferenceIdeal.Run

/-
  Level 1 of the reference, read off its operations: one refinement step.
-/

@[expose] public section

set_option maxRecDepth 16384

noncomputable section

namespace Refine.R1

open Idealize.ShloMosaic hiding ix0 ix1 ix2 ix3 ix4
open Idealize.ShloMosaic.ValueIdx
open Cert.ReferenceIdeal Cert.ReferenceIdeal.Gen Cert.ReferenceIdeal.Value

/-- The step's side conditions hold at this level's sizes. -/
theorem ev : REv 129 257 66049 16384 where
  b0 := bcast_S_S257
  col := bcast_S257_S257x1_0
  col4 := bcast_S257_S1x1x257x1_2
  row4 := bcast_S257_S1x1x1x257_3
  b0c := bcast_S_S1x1x257x1
  b0r := bcast_S_S1x1x1x257
  wide := bcast_S1x1x257x1_S1x1x257x129_0_1_2_3
  tall := bcast_S1x1x1x257_S1x1x257x257_0_1_2_3
  grow := gather_S1x1x129x129_S257x1_S1x1x257x129_013_2_n_n_2_1_111129_wf
  gcol := gather_S1x1x257x129_S257x1_S1x1x257x257_012_3_n_n_3_1_112571_wf
  flat := shapeCasts_S1x1x257x257_S1x66049
  b0g := bcast_S_S1x1x257x257
  top := sliceFits_S1x66049_S1x16384
  b0P := bcast_S_S1x16384
  colP := bcast_S1x16384_S1x16384x1_0_1
  cat := concatenates_S1x16384x1_S1x16384x1_S1x16384x2_d2
  b0P2 := bcast_S_S1x16384x2
  flat3 := shapeCasts_S1x1x257x257_S1x1x66049
  i0 := bcast_S1_S1x1x1_0
  i1 := bcast_S1_S1x1x1_1
  i2 := bcast_S1x16384_S1x1x16384_0_2
  b0i := bcast_S_S1x1x1
  b0k := bcast_S_S1x1x16384
  spread := bcast_S1x1x1_S1x1x16384_0_1_2
  last := bcast_S1x1x16384_S1x1x16384x1_0_1_2
  cat3 := concatenates_S1x1x16384x1_S1x1x16384x1_S1x1x16384x1_S1x1x16384x3_d3
  put := scatter_S1x1x66049_S1x1x16384x3_S1x1x16384_n_012_012_3_wf
  grid := shapeCasts_S1x1x66049_S1x1x257x257

/-- The network's side conditions hold at this level's number of points. -/
theorem mev : MEv 16384 where
  b2 := bcast_S_S1x16384x2
  b1 := bcast_S_S1x16384x1
  sp2 := bcast_S1x1x2_S1x16384x2_0_1_2
  sp64 := bcast_S1x1x64_S1x16384x64_0_1_2
  sp1 := bcast_S1x1x1_S1x16384x1_0_1_2
  r64 := bcast_S64_S1x1x64_2
  r1 := bcast_S1_S1x1x1_2
  d1 := dot_S1x16384x2_S2x64_S1x16384x64_2_0_01_1_n_n_wf
  d2 := dot_S1x16384x64_S64x1_S1x16384x1_2_0_01_1_n_n_wf
  tr := transposes_S1x16384x1_S1x1x16384_0_2_1

/-- The positions' side conditions. -/
theorem lev : LEv 256 257 := ⟨bcast_S_S256, shapeCasts_S_S1, bcast_S1_S256_0, bcast_S_S1, concatenates_S256_S1_S257_d0⟩

variable (V : Valuation τ sig (Elt Ideal))

/-- This level's sample positions. -/
def pos : FVec Ideal (s1 257) .f32 := lin lev 0x43800000#32 (constant s0 .f32 0x00000000#32) (constant s0 .f32 0x43000000#32)

/-- The upsampled grid. -/
theorem up_read : res_main_v96 V = rUp ev (res_main_v36 V) pos pos := rfl

/-- The chosen points. -/
theorem idx_read : res_main_indices V = rIdx ev (res_main_v96 V) := rfl

/-- The refined grid. -/
theorem put_read : res_main_v163 V
    = rPut ev (res_main_v96 V) (res_main_indices V)
        (transpose (s3 1 1 16384) [0, 2, 1] (rMlp mev (rPts ev 0x41000000#32 (res_main_indices V))
          (V (Proc.devRef .tc main_arg0)) (V (Proc.devRef .tc main_arg1)) (V (Proc.devRef .tc main_arg2)) (V (Proc.devRef .tc main_arg3))) mev.tr) := rfl

/-- The whole level: one refinement step from the grid it starts with. -/
theorem level : res_main_v163 V = rStep ev mev 0x41000000#32 pos
    (V (Proc.devRef .tc main_arg0)) (V (Proc.devRef .tc main_arg1)) (V (Proc.devRef .tc main_arg2)) (V (Proc.devRef .tc main_arg3))
    (res_main_v36 V) := by
  rw [put_read, idx_read, up_read]
  rfl

end Refine.R1
-- ==== Proof.RefLevel2.lean ====
module

public import proofs.«01_k».proof.Proof.Step
public import proofs.«01_k».proof.Proof.Gen.ReferenceIdeal.Run

/-
  Level 2 of the reference, read off its operations: one refinement step.
-/

@[expose] public section

set_option maxRecDepth 16384

noncomputable section

namespace Refine.R2

open Idealize.ShloMosaic hiding ix0 ix1 ix2 ix3 ix4
open Idealize.ShloMosaic.ValueIdx
open Cert.ReferenceIdeal Cert.ReferenceIdeal.Gen Cert.ReferenceIdeal.Value

/-- The step's side conditions hold at this level's sizes. -/
theorem ev : REv 257 513 263169 32768 where
  b0 := bcast_S_S513
  col := bcast_S513_S513x1_0
  col4 := bcast_S513_S1x1x513x1_2
  row4 := bcast_S513_S1x1x1x513_3
  b0c := bcast_S_S1x1x513x1
  b0r := bcast_S_S1x1x1x513
  wide := bcast_S1x1x513x1_S1x1x513x257_0_1_2_3
  tall := bcast_S1x1x1x513_S1x1x513x513_0_1_2_3
  grow := gather_S1x1x257x257_S513x1_S1x1x513x257_013_2_n_n_2_1_111257_wf
  gcol := gather_S1x1x513x257_S513x1_S1x1x513x513_012_3_n_n_3_1_115131_wf
  flat := shapeCasts_S1x1x513x513_S1x263169
  b0g := bcast_S_S1x1x513x513
  top := sliceFits_S1x263169_S1x32768
  b0P := bcast_S_S1x32768
  colP := bcast_S1x32768_S1x32768x1_0_1
  cat := concatenates_S1x32768x1_S1x32768x1_S1x32768x2_d2
  b0P2 := bcast_S_S1x32768x2
  flat3 := shapeCasts_S1x1x513x513_S1x1x263169
  i0 := bcast_S1_S1x1x1_0
  i1 := bcast_S1_S1x1x1_1
  i2 := bcast_S1x32768_S1x1x32768_0_2
  b0i := bcast_S_S1x1x1
  b0k := bcast_S_S1x1x32768
  spread := bcast_S1x1x1_S1x1x32768_0_1_2
  last := bcast_S1x1x32768_S1x1x32768x1_0_1_2
  cat3 := concatenates_S1x1x32768x1_S1x1x32768x1_S1x1x32768x1_S1x1x32768x3_d3
  put := scatter_S1x1x263169_S1x1x32768x3_S1x1x32768_n_012_012_3_wf
  grid := shapeCasts_S1x1x263169_S1x1x513x513

/-- The network's side conditions hold at this level's number of points. -/
theorem mev : MEv 32768 where
  b2 := bcast_S_S1x32768x2
  b1 := bcast_S_S1x32768x1
  sp2 := bcast_S1x1x2_S1x32768x2_0_1_2
  sp64 := bcast_S1x1x64_S1x32768x64_0_1_2
  sp1 := bcast_S1x1x1_S1x32768x1_0_1_2
  r64 := bcast_S64_S1x1x64_2
  r1 := bcast_S1_S1x1x1_2
  d1 := dot_S1x32768x2_S2x64_S1x32768x64_2_0_01_1_n_n_wf
  d2 := dot_S1x32768x64_S64x1_S1x32768x1_2_0_01_1_n_n_wf
  tr := transposes_S1x32768x1_S1x1x32768_0_2_1

/-- The positions' side conditions. -/
theorem lev : LEv 512 513 := ⟨bcast_S_S512, shapeCasts_S_S1, bcast_S1_S512_0, bcast_S_S1, concatenates_S512_S1_S513_d0⟩

variable (V : Valuation τ sig (Elt Ideal))

/-- This level's sample positions. -/
def pos : FVec Ideal (s1 513) .f32 := lin lev 0x44000000#32 (constant s0 .f32 0x00000000#32) (constant s0 .f32 0x43800000#32)

/-- The upsampled grid. -/
theorem up_read : res_main_v223 V = rUp ev (res_main_v163 V) pos pos := rfl

/-- The chosen points. -/
theorem idx_read : res_main_indices_62 V = rIdx ev (res_main_v223 V) := rfl

/-- The refined grid. -/
theorem put_read : res_main_v290 V
    = rPut ev (res_main_v223 V) (res_main_indices_62 V)
        (transpose (s3 1 1 32768) [0, 2, 1] (rMlp mev (rPts ev 0x40800000#32 (res_main_indices_62 V))
          (V (Proc.devRef .tc main_arg0)) (V (Proc.devRef .tc main_arg1)) (V (Proc.devRef .tc main_arg2)) (V (Proc.devRef .tc main_arg3))) mev.tr) := rfl

/-- The whole level: one refinement step from the grid it starts with. -/
theorem level : res_main_v290 V = rStep ev mev 0x40800000#32 pos
    (V (Proc.devRef .tc main_arg0)) (V (Proc.devRef .tc main_arg1)) (V (Proc.devRef .tc main_arg2)) (V (Proc.devRef .tc main_arg3))
    (res_main_v163 V) := by
  rw [put_read, idx_read, up_read]
  rfl

end Refine.R2
-- ==== Proof.RefLevel3.lean ====
module

public import proofs.«01_k».proof.Proof.Step
public import proofs.«01_k».proof.Proof.Gen.ReferenceIdeal.Run

/-
  Level 3 of the reference, read off its operations: one refinement step.
-/

@[expose] public section

set_option maxRecDepth 16384

noncomputable section

namespace Refine.R3

open Idealize.ShloMosaic hiding ix0 ix1 ix2 ix3 ix4
open Idealize.ShloMosaic.ValueIdx
open Cert.ReferenceIdeal Cert.ReferenceIdeal.Gen Cert.ReferenceIdeal.Value

/-- The step's side conditions hold at this level's sizes. -/
theorem ev : REv 513 1025 1050625 65536 where
  b0 := bcast_S_S1025
  col := bcast_S1025_S1025x1_0
  col4 := bcast_S1025_S1x1x1025x1_2
  row4 := bcast_S1025_S1x1x1x1025_3
  b0c := bcast_S_S1x1x1025x1
  b0r := bcast_S_S1x1x1x1025
  wide := bcast_S1x1x1025x1_S1x1x1025x513_0_1_2_3
  tall := bcast_S1x1x1x1025_S1x1x1025x1025_0_1_2_3
  grow := gather_S1x1x513x513_S1025x1_S1x1x1025x513_013_2_n_n_2_1_111513_wf
  gcol := gather_S1x1x1025x513_S1025x1_S1x1x1025x1025_012_3_n_n_3_1_1110251_wf
  flat := shapeCasts_S1x1x1025x1025_S1x1050625
  b0g := bcast_S_S1x1x1025x1025
  top := sliceFits_S1x1050625_S1x65536
  b0P := bcast_S_S1x65536
  colP := bcast_S1x65536_S1x65536x1_0_1
  cat := concatenates_S1x65536x1_S1x65536x1_S1x65536x2_d2
  b0P2 := bcast_S_S1x65536x2
  flat3 := shapeCasts_S1x1x1025x1025_S1x1x1050625
  i0 := bcast_S1_S1x1x1_0
  i1 := bcast_S1_S1x1x1_1
  i2 := bcast_S1x65536_S1x1x65536_0_2
  b0i := bcast_S_S1x1x1
  b0k := bcast_S_S1x1x65536
  spread := bcast_S1x1x1_S1x1x65536_0_1_2
  last := bcast_S1x1x65536_S1x1x65536x1_0_1_2
  cat3 := concatenates_S1x1x65536x1_S1x1x65536x1_S1x1x65536x1_S1x1x65536x3_d3
  put := scatter_S1x1x1050625_S1x1x65536x3_S1x1x65536_n_012_012_3_wf
  grid := shapeCasts_S1x1x1050625_S1x1x1025x1025

/-- The network's side conditions hold at this level's number of points. -/
theorem mev : MEv 65536 where
  b2 := bcast_S_S1x65536x2
  b1 := bcast_S_S1x65536x1
  sp2 := bcast_S1x1x2_S1x65536x2_0_1_2
  sp64 := bcast_S1x1x64_S1x65536x64_0_1_2
  sp1 := bcast_S1x1x1_S1x65536x1_0_1_2
  r64 := bcast_S64_S1x1x64_2
  r1 := bcast_S1_S1x1x1_2
  d1 := dot_S1x65536x2_S2x64_S1x65536x64_2_0_01_1_n_n_wf
  d2 := dot_S1x65536x64_S64x1_S1x65536x1_2_0_01_1_n_n_wf
  tr := transposes_S1x65536x1_S1x1x65536_0_2_1

/-- The positions' side conditions. -/
theorem lev : LEv 1024 1025 := ⟨bcast_S_S1024, shapeCasts_S_S1, bcast_S1_S1024_0, bcast_S_S1, concatenates_S1024_S1_S1025_d0⟩

variable (V : Valuation τ sig (Elt Ideal))

/-- This level's sample positions. -/
def pos : FVec Ideal (s1 1025) .f32 := lin lev 0x44800000#32 (constant s0 .f32 0x00000000#32) (constant s0 .f32 0x44000000#32)

/-- The upsampled grid. -/
theorem up_read : res_main_v350 V = rUp ev (res_main_v290 V) pos pos := rfl

/-- The chosen points. -/
theorem idx_read : res_main_indices_98 V = rIdx ev (res_main_v350 V) := rfl

/-- The refined grid. -/
theorem put_read : res_main_v417 V
    = rPut ev (res_main_v350 V) (res_main_indices_98 V)
        (transpose (s3 1 1 65536) [0, 2, 1] (rMlp mev (rPts ev 0x40000000#32 (res_main_indices_98 V))
          (V (Proc.devRef .tc main_arg0)) (V (Proc.devRef .tc main_arg1)) (V (Proc.devRef .tc main_arg2)) (V (Proc.devRef .tc main_arg3))) mev.tr) := rfl

/-- The whole level: one refinement step from the grid it starts with. -/
theorem level : res_main_v417 V = rStep ev mev 0x40000000#32 pos
    (V (Proc.devRef .tc main_arg0)) (V (Proc.devRef .tc main_arg1)) (V (Proc.devRef .tc main_arg2)) (V (Proc.devRef .tc main_arg3))
    (res_main_v290 V) := by
  rw [put_read, idx_read, up_read]
  rfl

end Refine.R3
-- ==== Proof.RefLevel4.lean ====
module

public import proofs.«01_k».proof.Proof.Step
public import proofs.«01_k».proof.Proof.Gen.ReferenceIdeal.Run

/-
  Level 4 of the reference, read off its operations: one refinement step.
-/

@[expose] public section

set_option maxRecDepth 16384

noncomputable section

namespace Refine.R4

open Idealize.ShloMosaic hiding ix0 ix1 ix2 ix3 ix4
open Idealize.ShloMosaic.ValueIdx
open Cert.ReferenceIdeal Cert.ReferenceIdeal.Gen Cert.ReferenceIdeal.Value

/-- The step's side conditions hold at this level's sizes. -/
theorem ev : REv 1025 2049 4198401 131072 where
  b0 := bcast_S_S2049
  col := bcast_S2049_S2049x1_0
  col4 := bcast_S2049_S1x1x2049x1_2
  row4 := bcast_S2049_S1x1x1x2049_3
  b0c := bcast_S_S1x1x2049x1
  b0r := bcast_S_S1x1x1x2049
  wide := bcast_S1x1x2049x1_S1x1x2049x1025_0_1_2_3
  tall := bcast_S1x1x1x2049_S1x1x2049x2049_0_1_2_3
  grow := gather_S1x1x1025x1025_S2049x1_S1x1x2049x1025_013_2_n_n_2_1_1111025_wf
  gcol := gather_S1x1x2049x1025_S2049x1_S1x1x2049x2049_012_3_n_n_3_1_1120491_wf
  flat := shapeCasts_S1x1x2049x2049_S1x4198401
  b0g := bcast_S_S1x1x2049x2049
  top := sliceFits_S1x4198401_S1x131072
  b0P := bcast_S_S1x131072
  colP := bcast_S1x131072_S1x131072x1_0_1
  cat := concatenates_S1x131072x1_S1x131072x1_S1x131072x2_d2
  b0P2 := bcast_S_S1x131072x2
  flat3 := shapeCasts_S1x1x2049x2049_S1x1x4198401
  i0 := bcast_S1_S1x1x1_0
  i1 := bcast_S1_S1x1x1_1
  i2 := bcast_S1x131072_S1x1x131072_0_2
  b0i := bcast_S_S1x1x1
  b0k := bcast_S_S1x1x131072
  spread := bcast_S1x1x1_S1x1x131072_0_1_2
  last := bcast_S1x1x131072_S1x1x131072x1_0_1_2
  cat3 := concatenates_S1x1x131072x1_S1x1x131072x1_S1x1x131072x1_S1x1x131072x3_d3
  put := scatter_S1x1x4198401_S1x1x131072x3_S1x1x131072_n_012_012_3_wf
  grid := shapeCasts_S1x1x4198401_S1x1x2049x2049

/-- The network's side conditions hold at this level's number of points. -/
theorem mev : MEv 131072 where
  b2 := bcast_S_S1x131072x2
  b1 := bcast_S_S1x131072x1
  sp2 := bcast_S1x1x2_S1x131072x2_0_1_2
  sp64 := bcast_S1x1x64_S1x131072x64_0_1_2
  sp1 := bcast_S1x1x1_S1x131072x1_0_1_2
  r64 := bcast_S64_S1x1x64_2
  r1 := bcast_S1_S1x1x1_2
  d1 := dot_S1x131072x2_S2x64_S1x131072x64_2_0_01_1_n_n_wf
  d2 := dot_S1x131072x64_S64x1_S1x131072x1_2_0_01_1_n_n_wf
  tr := transposes_S1x131072x1_S1x1x131072_0_2_1

/-- The positions' side conditions. -/
theorem lev : LEv 2048 2049 := ⟨bcast_S_S2048, shapeCasts_S_S1, bcast_S1_S2048_0, bcast_S_S1, concatenates_S2048_S1_S2049_d0⟩

variable (V : Valuation τ sig (Elt Ideal))

/-- This level's sample positions. -/
def pos : FVec Ideal (s1 2049) .f32 := lin lev 0x45000000#32 (constant s0 .f32 0x00000000#32) (constant s0 .f32 0x44800000#32)

/-- The upsampled grid. -/
theorem up_read : res_main_v477 V = rUp ev (res_main_v417 V) pos pos := rfl

/-- The chosen points. -/
theorem idx_read : res_main_indices_134 V = rIdx ev (res_main_v477 V) := rfl

/-- The refined grid. -/
theorem put_read : shapeCast _ (res_main_v543 V) shapeCasts_S1x1x4198401_S1x1x2049x2049
    = rPut ev (res_main_v477 V) (res_main_indices_134 V)
        (transpose (s3 1 1 131072) [0, 2, 1] (rMlp mev (rPts ev 0x3F800000#32 (res_main_indices_134 V))
          (V (Proc.devRef .tc main_arg0)) (V (Proc.devRef .tc main_arg1)) (V (Proc.devRef .tc main_arg2)) (V (Proc.devRef .tc main_arg3))) mev.tr) := rfl

/-- The whole level: one refinement step from the grid it starts with. -/
theorem level : shapeCast _ (res_main_v543 V) shapeCasts_S1x1x4198401_S1x1x2049x2049 = rStep ev mev 0x3F800000#32 pos
    (V (Proc.devRef .tc main_arg0)) (V (Proc.devRef .tc main_arg1)) (V (Proc.devRef .tc main_arg2)) (V (Proc.devRef .tc main_arg3))
    (res_main_v417 V) := by
  rw [put_read, idx_read, up_read]
  rfl

end Refine.R4
-- ==== Proof.Equal.lean ====
module

public import proofs.«01_k».proof.Proof.Start
public import proofs.«01_k».proof.Proof.RefStart
public import proofs.«01_k».proof.Proof.Level1
public import proofs.«01_k».proof.Proof.Level2
public import proofs.«01_k».proof.Proof.Level3
public import proofs.«01_k».proof.Proof.Level4
public import proofs.«01_k».proof.Proof.RefLevel1
public import proofs.«01_k».proof.Proof.RefLevel2
public import proofs.«01_k».proof.Proof.RefLevel3
public import proofs.«01_k».proof.Proof.RefLevel4

/-
  The two results agree: the coarse grids do, and each refinement step keeps the agreement.
-/

@[expose] public section

noncomputable section

namespace Refine

open Idealize.ShloMosaic hiding ix0 ix1 ix2 ix3 ix4
open Idealize.ShloMosaic.ValueIdx

/-- A square with two leading unit axes, at an entry. -/
theorem lift_apply {α : Type} {r : Nat} (e : (s2 r r).ShapeCasts (s4 1 1 r r)) (x : (s2 r r).Idx → α) (i j : Fin r) :
    shapeCast (s4 1 1 r r) x e (ix4 0 0 i j) = x (ix2 i j) :=
  shapeCast_apply _ _ _ _ (by
    rw [Shape.rowMajor_val_two, Shape.rowMajor_val_four]
    show i.val * r + j.val = ((0 * 1 + 0) * r + i.val) * r + j.val
    simp)

/-- Two squares with two leading unit axes are equal when their entries are. -/
theorem ext4 {α : Type} {r : Nat} (x y : (s4 1 1 r r).Idx → α) (h : ∀ i j, x (ix4 0 0 i j) = y (ix4 0 0 i j)) : x = y :=
  funext fun k => by
    have hk : k = ix4 (0 : Fin 1) (0 : Fin 1) (k 2) (k 3) := funext fun a => by
      rcases (by decide : ∀ a : Fin 4, a = 0 ∨ a = 1 ∨ a = 2 ∨ a = 3) a with rfl | rfl | rfl | rfl
      · exact Subsingleton.elim (α := Fin 1) _ _
      · exact Subsingleton.elim (α := Fin 1) _ _
      · rfl
      · rfl
    rw [hk]
    exact h (k 2) (k 3)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : Valuation Cert.ReferenceIdeal.τ Cert.ReferenceIdeal.sig (Elt Ideal))

/-- The reference's result from contents whose arguments are the kernel's is the kernel's result. -/
theorem results_eq
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3)) :
    shapeCast _ (Cert.ReferenceIdeal.Value.res_main_v543 V) Cert.ReferenceIdeal.Gen.shapeCasts_S1x1x4198401_S1x1x2049x2049
      = Cert.KernelIdeal.Gen.W69 m ρ c (Proc.devRef .tc Cert.KernelIdeal.main_v374) := by
  have e0 : ∀ i j, Cert.ReferenceIdeal.Value.res_main_v36 V (ix4 0 0 i j)
      = Cert.KernelIdeal.Gen.W5 m ρ c (Proc.devRef .tc Cert.KernelIdeal.main_v17) (ix2 i j) := fun i j => by
    rw [R0.start V, L0.start m ρ c, h0, h1, h2, h3]
    exact coarse_agree _ _ _ _ _ _ _ _ _ i j
  have e1 : ∀ i j, Cert.ReferenceIdeal.Value.res_main_v163 V (ix4 0 0 i j)
      = Cert.KernelIdeal.Gen.W21 m ρ c (Proc.devRef .tc Cert.KernelIdeal.main_v106) (ix2 i j) := fun i j => by
    rw [R1.level V, L1.level m ρ c, h0, h1, h2, h3]
    exact step_agree (by decide) (by decide) _ _ _ _ _ _ _ _ _ _ _ _ e0 i j
  have e2 : ∀ i j, Cert.ReferenceIdeal.Value.res_main_v290 V (ix4 0 0 i j)
      = Cert.KernelIdeal.Gen.W37 m ρ c (Proc.devRef .tc Cert.KernelIdeal.main_v195) (ix2 i j) := fun i j => by
    rw [R2.level V, L2.level m ρ c, h0, h1, h2, h3]
    exact step_agree (by decide) (by decide) _ _ _ _ _ _ _ _ _ _ _ _ e1 i j
  have e3 : ∀ i j, Cert.ReferenceIdeal.Value.res_main_v417 V (ix4 0 0 i j)
      = Cert.KernelIdeal.Gen.W53 m ρ c (Proc.devRef .tc Cert.KernelIdeal.main_v284) (ix2 i j) := fun i j => by
    rw [R3.level V, L3.level m ρ c, h0, h1, h2, h3]
    exact step_agree (by decide) (by decide) _ _ _ _ _ _ _ _ _ _ _ _ e2 i j
  refine (R4.level V).trans ?_
  refine Eq.trans ?_ (L0.out_read (Cert.KernelIdeal.Gen.W68 m ρ c)).symm
  refine ext4 _ _ fun i j => ?_
  rw [lift_apply, h0, h1, h2, h3]
  refine Eq.trans ?_ (congrFun (L4.level m ρ c) (ix2 i j)).symm
  exact step_agree (by decide) (by decide) _ _ _ _ _ _ _ _ _ _ _ _ e3 i j

end Refine
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equal
public import Idealize.ShloMosaic.Adequacy
public import Idealize.ShloMosaic.Init

/-
  The certificate: both programs run, leave their arguments and counters as they were, and end with the same result.
-/

@[expose] public section

noncomputable section

namespace Cert.Proof

open Idealize.ShloMosaic Idealize.SL.Sem

/-- The reference runs, keeps its arguments, and, having no counter at all, leaves every counter at zero. -/
theorem reference_frame : Cert.quiescent_ReferenceIdeal (hReferenceIdeal := Cert.ReferenceIdeal.Gen.facts) := fun m g _ =>
  (θ_run _ _ _).mono (fun r h => ⟨fun c => (h c).2, funext fun s => by
    obtain ⟨_, s⟩ := s
    rcases s with s | s
    all_goals first | exact s.2.elim0 | exact s.elim0 | skip⟩)
    (Cert.ReferenceIdeal.Value.run m g)

/-- From memories with the same arguments both programs end with the same result. -/
theorem same_result : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Gen.W69 m g c (Proc.devRef .tc Cert.KernelIdeal.main_v374), Refine.kernel_run m g,
    (θ_run _ _ _).mono (fun _ h c => ⟨(h c).1.trans (Refine.results_eq m g c (StableHlo.launchContents m' c)
      (hm c).1 (hm c).2.1 (hm c).2.2.1 (hm c).2.2.2), (h c).2⟩) (Cert.ReferenceIdeal.Value.run m' g')⟩

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, same_result⟩

end Cert.Proof

end
